-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)) (v4 : (c : Dev Cert.KernelIdeal.nD) → Buf (Elt Ideal) ((c.tc : Thread Cert.KernelIdeal.nD Cert.KernelIdeal.τ).loc Cert.KernelIdeal.main_v65_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_v65_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_v338) = v1 c
          ∧ r.2.mem ((c.tc : Thread Cert.ReferenceIdeal.nD Cert.ReferenceIdeal.τ).loc Cert.ReferenceIdeal.main_v339) = v2 c
          ∧ r.2.mem ((c.tc : Thread Cert.ReferenceIdeal.nD Cert.ReferenceIdeal.τ).loc Cert.ReferenceIdeal.main_v340) = v3 c
          ∧ r.2.mem ((c.tc : Thread Cert.ReferenceIdeal.nD Cert.ReferenceIdeal.τ).loc Cert.ReferenceIdeal.main_v341) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6x6144x8192 : Shape := ⟨3, ![6, 6144, 8192]⟩
abbrev S6x6144x1024 : Shape := ⟨3, ![6, 6144, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S6x96x64x8192 : Shape := ⟨4, ![6, 96, 64, 8192]⟩
abbrev S6x96x8192x64 : Shape := ⟨4, ![6, 96, 8192, 64]⟩
abbrev S6x192x32x8192 : Shape := ⟨4, ![6, 192, 32, 8192]⟩
abbrev S6x192x8192 : Shape := ⟨3, ![6, 192, 8192]⟩
abbrev S6x96x64x1024 : Shape := ⟨4, ![6, 96, 64, 1024]⟩
abbrev S6x96x1024x64 : Shape := ⟨4, ![6, 96, 1024, 64]⟩
abbrev S6x192x32x1024 : Shape := ⟨4, ![6, 192, 32, 1024]⟩
abbrev S6x192x1024 : Shape := ⟨3, ![6, 192, 1024]⟩

class Facts : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bitsLt_bf16_f32 : FTy.bits .bf16 < FTy.bits .f32
  shapeCasts_S6x6144x8192_S6x96x64x8192 : S6x6144x8192.ShapeCasts S6x96x64x8192
  transposes_S6x96x8192x64_S6x96x64x8192_0_1_3_2 : S6x96x8192x64.Transposes [0, 1, 3, 2] S6x96x64x8192
  shapeCasts_S6x96x64x8192_S6x6144x8192 : S6x96x64x8192.ShapeCasts S6x6144x8192
  shapeCasts_S6x6144x8192_S6x192x32x8192 : S6x6144x8192.ShapeCasts S6x192x32x8192
  reducesTo_S6x192x32x8192_S6x192x8192_d2 : S6x192x32x8192.ReducesTo [2] S6x192x8192
  h_S_ : 0 < S_.numel
  shapeCasts_S6x6144x1024_S6x96x64x1024 : S6x6144x1024.ShapeCasts S6x96x64x1024
  transposes_S6x96x1024x64_S6x96x64x1024_0_1_3_2 : S6x96x1024x64.Transposes [0, 1, 3, 2] S6x96x64x1024
  shapeCasts_S6x96x64x1024_S6x6144x1024 : S6x96x64x1024.ShapeCasts S6x6144x1024
  shapeCasts_S6x6144x1024_S6x192x32x1024 : S6x6144x1024.ShapeCasts S6x192x32x1024
  reducesTo_S6x192x32x1024_S6x192x1024_d2 : S6x192x32x1024.ReducesTo [2] S6x192x1024
  bcast_S_S6x192x8192 : S_.BroadcastsInDim S6x192x8192 (![] : Fin 0 → Fin S6x192x8192.rank)
  bcast_S_S6x192x1024 : S_.BroadcastsInDim S6x192x1024 (![] : Fin 0 → Fin S6x192x1024.rank)
  dot_S6x96x64x8192_S64x64_S6x96x8192x64_2_1_013_0_n_n_wf : DotDims.WF S6x96x64x8192 S64x64 S6x96x8192x64 [2] [1] [0, 1, 3] [0] [] []
  dot_S6x96x64x1024_S64x64_S6x96x1024x64_2_1_013_0_n_n_wf : DotDims.WF S6x96x64x1024 S64x64 S6x96x1024x64 [2] [1] [0, 1, 3] [0] [] []

variable [Facts]

def dot_S6x96x64x8192_S64x64_S6x96x8192x64_2_1_013_0_n_n : DotDims S6x96x64x8192 S64x64 S6x96x8192x64 where
  lhsContracting := [2]
  rhsContracting := [1]
  lhsNonContracting := [0, 1, 3]
  rhsNonContracting := [0]
  lhsBatch := []
  rhsBatch := []
  wf := dot_S6x96x64x8192_S64x64_S6x96x8192x64_2_1_013_0_n_n_wf
def dot_S6x96x64x1024_S64x64_S6x96x1024x64_2_1_013_0_n_n : DotDims S6x96x64x1024 S64x64 S6x96x1024x64 where
  lhsContracting := [2]
  rhsContracting := [1]
  lhsNonContracting := [0, 1, 3]
  rhsNonContracting := [0]
  lhsBatch := []
  rhsBatch := []
  wf := dot_S6x96x64x1024_S64x64_S6x96x1024x64_2_1_013_0_n_n_wf
def fn_where {F : FTy → Type} [FloatOps F] (arg0 : IVec S64x64 1) (arg1 : FVec F S_ .f32) (arg2 : FVec F S_ .f32) : FVec F S64x64 .f32 :=
  let v0 : FVec F S64x64 .f32 := broadcastInDim S64x64 ![] bcast_S_S64x64 arg1
  let v1 : FVec F S64x64 .f32 := broadcastInDim S64x64 ![] bcast_S_S64x64 arg2
  let v2 : FVec F S64x64 .f32 := select arg0 v0 v1
  v2

def fn_part3 {F : FTy → Type} [FloatOps F] (main_v25 : FVec F S6x192x8192 .f32) (main_v51 : FVec F S6x192x1024 .f32) (main_v53 : IVec S6x192x8192 1) (main_v55 : IVec S6x192x8192 1) (main_v56 : FVec F S6x192x8192 .f32) : IVec S6x192x8192 1 × IVec S6x192x1024 1 :=
  let main_v57 : IVec S6x192x8192 1 := cmpf .ole main_v25 main_v56
  let main_v58 : IVec S6x192x8192 1 := andi main_v55 main_v57
  let main_v59 : IVec S6x192x8192 1 := ori main_v53 main_v58
  let main_cst_13 : FVec F S_ .f32 := constant S_ .f32 0x00000000#32
  let main_v60 : FVec F S6x192x1024 .f32 := broadcastInDim S6x192x1024 ![] bcast_S_S6x192x1024 main_cst_13
  let main_v61 : IVec S6x192x1024 1 := cmpf .oeq main_v51 main_v60
  let main_cst_14 : FVec F S_ .f32 := constant S_ .f32 0x3E2AAAAB#32
  let main_v62 : FVec F S6x192x1024 .f32 := broadcastInDim S6x192x1024 ![] bcast_S_S6x192x1024 main_cst_14
  let main_v63 : FVec F S6x192x1024 .f32 := mulf main_v51 main_v62
  let main_cst_15 : FVec F S_ .f32 := constant S_ .f32 0x00800000#32
  let main_v64 : FVec F S6x192x1024 .f32 := broadcastInDim S6x192x1024 ![] bcast_S_S6x192x1024 main_cst_15
  let main_v65 : IVec S6x192x1024 1 := cmpf .oge main_v63 main_v64
  let main_cst_16 : FVec F S_ .f32 := constant S_ .f32 0x7F7FFFFF#32
  let main_v66 : FVec F S6x192x1024 .f32 := broadcastInDim S6x192x1024 ![] bcast_S_S6x192x1024 main_cst_16
  let main_v67 : IVec S6x192x1024 1 := cmpf .ole main_v51 main_v66
  let main_v68 : IVec S6x192x1024 1 := andi main_v65 main_v67
  let main_v69 : IVec S6x192x1024 1 := ori main_v61 main_v68
  (main_v59, main_v69)

def fn_part2 {F : FTy → Type} [FloatOps F] (main_arg1 : FVec F S6x6144x1024 .bf16) (main_arg2 : FVec F S64 .f32) (main_v25 : FVec F S6x192x8192 .f32) (main_v37 : FVec F S64x64 .f32) : IVec S6x192x8192 1 × IVec S6x192x1024 1 :=
  let main_v38 : FVec F S64x64 .f32 := id main_v37
  let main_v39 : FVec F S1x64 .f32 := broadcastInDim S1x64 ![1] bcast_S64_S1x64_1 main_arg2
  let main_v40 : FVec F S64x64 .f32 := broadcastInDim S64x64 ![0, 1] bcast_S1x64_S64x64_0_1 main_v39
  let main_v41 : FVec F S64x64 .f32 := mulf main_v38 main_v40
  let main_cst_8 : FVec F S_ .f32 := constant S_ .f32 0x3E000000#32
  let main_v42 : FVec F S64x64 .f32 := broadcastInDim S64x64 ![] bcast_S_S64x64 main_cst_8
  let main_v43 : FVec F S64x64 .f32 := mulf main_v41 main_v42
  let main_v44 : FVec F S6x6144x1024 .f32 := (extf .f32 · bitsLt_bf16_f32) main_arg1
  let main_v45 : FVec F S6x96x64x1024 .f32 := shapeCast S6x96x64x1024 main_v44 shapeCasts_S6x6144x1024_S6x96x64x1024
  let main_v46 : FVec F S6x96x1024x64 .f32 := (fun l r => Host.dotGeneral dot_S6x96x64x1024_S64x64_S6x96x1024x64_2_1_013_0_n_n (some .fp32) l r) main_v45 main_v43
  let main_v47 : FVec F S6x96x64x1024 .f32 := (transpose S6x96x64x1024 [0, 1, 3, 2] · transposes_S6x96x1024x64_S6x96x64x1024_0_1_3_2) main_v46
  let main_v48 : FVec F S6x6144x1024 .f32 := shapeCast S6x6144x1024 main_v47 shapeCasts_S6x96x64x1024_S6x6144x1024
  let main_v49 : FVec F S6x192x32x1024 .f32 := shapeCast S6x192x32x1024 main_v48 shapeCasts_S6x6144x1024_S6x192x32x1024
  let main_v50 : FVec F S6x192x32x1024 .f32 := Host.absf main_v49
  let main_cst_9 : FVec F S_ .f32 := constant S_ .f32 0xFF800000#32
  let main_v51 : FVec F S6x192x1024 .f32 := (fun x v => Host.reduce FloatOps.maximumf x v reducesTo_S6x192x32x1024_S6x192x1024_d2 h_S_) main_v50 main_cst_9
  let main_cst_10 : FVec F S_ .f32 := constant S_ .f32 0x00000000#32
  let main_v52 : FVec F S6x192x8192 .f32 := broadcastInDim S6x192x8192 ![] bcast_S_S6x192x8192 main_cst_10
  let main_v53 : IVec S6x192x8192 1 := cmpf .oeq main_v25 main_v52
  let main_cst_11 : FVec F S_ .f32 := constant S_ .f32 0x01800000#32
  let main_v54 : FVec F S6x192x8192 .f32 := broadcastInDim S6x192x8192 ![] bcast_S_S6x192x8192 main_cst_11
  let main_v55 : IVec S6x192x8192 1 := cmpf .oge main_v25 main_v54
  let main_cst_12 : FVec F S_ .f32 := constant S_ .f32 0x7F7FFFFF#32
  let main_v56 : FVec F S6x192x8192 .f32 := broadcastInDim S6x192x8192 ![] bcast_S_S6x192x8192 main_cst_12
  fn_part3 (F := F) main_v25 main_v51 main_v53 main_v55 main_v56

def fn_part1 {F : FTy → Type} [FloatOps F] (main_arg1 : FVec F S6x6144x1024 .bf16) (main_arg2 : FVec F S64 .f32) (main_v17 : FVec F S64x64 .f32) (main_v18 : FVec F S6x6144x8192 .f32) : IVec S6x192x8192 1 × IVec S6x192x1024 1 :=
  let main_v19 : FVec F S6x96x64x8192 .f32 := shapeCast S6x96x64x8192 main_v18 shapeCasts_S6x6144x8192_S6x96x64x8192
  let main_v20 : FVec F S6x96x8192x64 .f32 := (fun l r => Host.dotGeneral dot_S6x96x64x8192_S64x64_S6x96x8192x64_2_1_013_0_n_n (some .fp32) l r) main_v19 main_v17
  let main_v21 : FVec F S6x96x64x8192 .f32 := (transpose S6x96x64x8192 [0, 1, 3, 2] · transposes_S6x96x8192x64_S6x96x64x8192_0_1_3_2) main_v20
  let main_v22 : FVec F S6x6144x8192 .f32 := shapeCast S6x6144x8192 main_v21 shapeCasts_S6x96x64x8192_S6x6144x8192
  let main_v23 : FVec F S6x192x32x8192 .f32 := shapeCast S6x192x32x8192 main_v22 shapeCasts_S6x6144x8192_S6x192x32x8192
  let main_v24 : FVec F S6x192x32x8192 .f32 := Host.absf main_v23
  let main_cst_3 : FVec F S_ .f32 := constant S_ .f32 0xFF800000#32
  let main_v25 : FVec F S6x192x8192 .f32 := (fun x v => Host.reduce FloatOps.maximumf x v reducesTo_S6x192x32x8192_S6x192x8192_d2 h_S_) main_v24 main_cst_3
  let main_v26 : IVec S64 32 := iotaInDim S64 32 0
  let main_v27 : IVec S64x1 32 := broadcastInDim S64x1 ![0] bcast_S64_S64x1_0 main_v26
  let main_v28 : IVec S1x64 32 := broadcastInDim S1x64 ![1] bcast_S64_S1x64_1 main_v26
  let main_v29 : IVec S64x64 32 := broadcastInDim S64x64 ![0, 1] bcast_S64x1_S64x64_0_1 main_v27
  let main_v30 : IVec S64x64 32 := broadcastInDim S64x64 ![0, 1] bcast_S1x64_S64x64_0_1 main_v28
  let main_v31 : IVec S64x64 32 := andi main_v29 main_v30
  let main_v32 : IVec S64x64 32 := ctpop main_v31
  let main_c_4 : IVec S_ 32 := constantI S_ 32 1#32
  let main_v33 : IVec S64x64 32 := broadcastInDim S64x64 ![] bcast_S_S64x64 main_c_4
  let main_v34 : IVec S64x64 32 := andi main_v32 main_v33
  let main_c_5 : IVec S_ 32 := constantI S_ 32 0#32
  let main_v35 : IVec S64x64 32 := broadcastInDim S64x64 ![] bcast_S_S64x64 main_c_5
  let main_v36 : IVec S64x64 1 := cmpi .eq main_v34 main_v35
  let main_cst_6 : FVec F S_ .f32 := constant S_ .f32 0x3F800000#32
  let main_cst_7 : FVec F S_ .f32 := constant S_ .f32 0xBF800000#32
  let main_v37 : FVec F S64x64 .f32 := fn_where (F := F) main_v36 main_cst_6 main_cst_7
  fn_part2 (F := F) main_arg1 main_arg2 main_v25 main_v37

def fn {F : FTy → Type} [FloatOps F] (main_arg0 : FVec F S6x6144x8192 .bf16) (main_arg1 : FVec F S6x6144x1024 .bf16) (main_arg2 : FVec F S64 .f32) (main_arg3 : IVec S6x6144x1024 8) : IVec S6x192x8192 1 × IVec S6x192x1024 1 :=
  let main_v0 : IVec S64 32 := iotaInDim S64 32 0
  let main_v1 : IVec S64x1 32 := broadcastInDim S64x1 ![0] bcast_S64_S64x1_0 main_v0
  let main_v2 : IVec S1x64 32 := broadcastInDim S1x64 ![1] bcast_S64_S1x64_1 main_v0
  let main_v3 : IVec S64x64 32 := broadcastInDim S64x64 ![0, 1] bcast_S64x1_S64x64_0_1 main_v1
  let main_v4 : IVec S64x64 32 := broadcastInDim S64x64 ![0, 1] bcast_S1x64_S64x64_0_1 main_v2
  let main_v5 : IVec S64x64 32 := andi main_v3 main_v4
  let main_v6 : IVec S64x64 32 := ctpop main_v5
  let main_c : IVec S_ 32 := constantI S_ 32 1#32
  let main_v7 : IVec S64x64 32 := broadcastInDim S64x64 ![] bcast_S_S64x64 main_c
  let main_v8 : IVec S64x64 32 := andi main_v6 main_v7
  let main_c_0 : IVec S_ 32 := constantI S_ 32 0#32
  let main_v9 : IVec S64x64 32 := broadcastInDim S64x64 ![] bcast_S_S64x64 main_c_0
  let main_v10 : IVec S64x64 1 := cmpi .eq main_v8 main_v9
  let main_cst : FVec F S_ .f32 := constant S_ .f32 0x3F800000#32
  let main_cst_1 : FVec F S_ .f32 := constant S_ .f32 0xBF800000#32
  let main_v11 : FVec F S64x64 .f32 := fn_where (F := F) main_v10 main_cst main_cst_1
  let main_v12 : FVec F S64x64 .f32 := id main_v11
  let main_v13 : FVec F S1x64 .f32 := broadcastInDim S1x64 ![1] bcast_S64_S1x64_1 main_arg2
  let main_v14 : FVec F S64x64 .f32 := broadcastInDim S64x64 ![0, 1] bcast_S1x64_S64x64_0_1 main_v13
  let main_v15 : FVec F S64x64 .f32 := mulf main_v12 main_v14
  let main_cst_2 : FVec F S_ .f32 := constant S_ .f32 0x3E000000#32
  let main_v16 : FVec F S64x64 .f32 := broadcastInDim S64x64 ![] bcast_S_S64x64 main_cst_2
  let main_v17 : FVec F S64x64 .f32 := mulf main_v15 main_v16
  let main_v18 : FVec F S6x6144x8192 .f32 := (extf .f32 · bitsLt_bf16_f32) main_arg0
  fn_part1 (F := F) main_arg1 main_arg2 main_v17 main_v18
-- ==== Kernel.lean ====
abbrev S6x6144x8192 : Shape := ⟨3, ![6, 6144, 8192]⟩
abbrev S6x6144x1024 : Shape := ⟨3, ![6, 6144, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S128 : Shape := ⟨1, ![128]⟩
abbrev S256 : Shape := ⟨1, ![256]⟩
abbrev S256x1 : Shape := ⟨2, ![256, 1]⟩
abbrev S36864x8192 : Shape := ⟨2, ![36864, 8192]⟩
abbrev S36864x1024 : Shape := ⟨2, ![36864, 1024]⟩
abbrev S1024x8192 : Shape := ⟨2, ![1024, 8192]⟩
abbrev S18432x8192 : Shape := ⟨2, ![18432, 8192]⟩
abbrev S1152x8192 : Shape := ⟨2, ![1152, 8192]⟩
abbrev S18432x1024 : Shape := ⟨2, ![18432, 1024]⟩
abbrev S1152x1024 : Shape := ⟨2, ![1152, 1024]⟩
abbrev S1024x1024 : Shape := ⟨2, ![1024, 1024]⟩
abbrev S512x1024 : Shape := ⟨2, ![512, 1024]⟩
abbrev S32x1024 : Shape := ⟨2, ![32, 1024]⟩
abbrev S16x256 : Shape := ⟨2, ![16, 256]⟩
abbrev S1x256 : Shape := ⟨2, ![1, 256]⟩
abbrev S32x256 : Shape := ⟨2, ![32, 256]⟩
abbrev S8x256 : Shape := ⟨2, ![8, 256]⟩
abbrev S256x1024 : Shape := ⟨2, ![256, 1024]⟩
abbrev S1024x256 : Shape := ⟨2, ![1024, 256]⟩

abbrev nBuf : Space → Nat
  | .hbm => 91
  | .vmem => 21
  | .smem => 0
  | _ => 0

abbrev bufTy : (tb : Table) → Fin (tcTables nBuf tb) → BufTy
  | .hbm, ⟨0, _⟩ => ⟨S6x6144x8192, .bf16⟩
  | .hbm, ⟨1, _⟩ => ⟨S6x6144x1024, .bf16⟩
  | .hbm, ⟨2, _⟩ => ⟨S64, .f32⟩
  | .hbm, ⟨3, _⟩ => ⟨S6x6144x1024, .i8⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i1⟩
  | .hbm, ⟨17, _⟩ => ⟨S_, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S1x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S4x1x4x1, .f32⟩
  | .hbm, ⟨37, _⟩ => ⟨S1x64x1x64, .f32⟩
  | .hbm, ⟨38, _⟩ => ⟨S4x64x4x64, .f32⟩
  | .hbm, ⟨39, _⟩ => ⟨S4x64x4x64, .f32⟩
  | .hbm, ⟨40, _⟩ => ⟨S4x64x4x64, .f32⟩
  | .hbm, ⟨41, _⟩ => ⟨S256x256, .f32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i1⟩
  | .hbm, ⟨60, _⟩ => ⟨S_, .i32⟩
  | .hbm, ⟨61, _⟩ => ⟨S256, .i32⟩
  | .hbm, ⟨62, _⟩ => ⟨S256, .i32⟩
  | .hbm, ⟨63, _⟩ => ⟨S256, .i32⟩
  | .hbm, ⟨64, _⟩ => ⟨S256x1, .i32⟩
  | .hbm, ⟨65, _⟩ => ⟨S256x256, .f32⟩
  | .hbm, ⟨66, _⟩ => ⟨S256x256, .bf16⟩
  | .hbm, ⟨67, _⟩ => ⟨S256x256, .i32⟩
  | .hbm, ⟨68, _⟩ => ⟨S256x256, .i32⟩
  | .hbm, ⟨69, _⟩ => ⟨S_, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S256x256, .bf16⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S_, .i32⟩
  | .hbm, ⟨78, _⟩ => ⟨S256, .i32⟩
  | .hbm, ⟨79, _⟩ => ⟨S256, .i32⟩
  | .hbm, ⟨80, _⟩ => ⟨S256, .i32⟩
  | .hbm, ⟨81, _⟩ => ⟨S256x1, .i32⟩
  | .hbm, ⟨82, _⟩ => ⟨S256x256, .bf16⟩
  | .hbm, ⟨83, _⟩ => ⟨S36864x8192, .bf16⟩
  | .hbm, ⟨84, _⟩ => ⟨S36864x1024, .bf16⟩
  | .hbm, ⟨85, _⟩ => ⟨S36864x1024, .i8⟩
  | .hbm, ⟨86, _⟩ => ⟨S1024x8192, .f32⟩
  | .hbm, ⟨87, _⟩ => ⟨S18432x8192, .i8⟩
  | .hbm, ⟨88, _⟩ => ⟨S1152x8192, .i8⟩
  | .hbm, ⟨89, _⟩ => ⟨S18432x1024, .i8⟩
  | .hbm, ⟨90, _⟩ => ⟨S1152x1024, .i8⟩
  | .local _ .vmem, ⟨0, _⟩ => ⟨S256x256, .bf16⟩
  | .local _ .vmem, ⟨1, _⟩ => ⟨S256x256, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .i8⟩
  | .local _ .vmem, ⟨7, _⟩ => ⟨S1024x1024, .i8⟩
  | .local _ .vmem, ⟨8, _⟩ => ⟨S1024x8192, .f32⟩
  | .local _ .vmem, ⟨9, _⟩ => ⟨S512x1024, .i8⟩
  | .local _ .vmem, ⟨10, _⟩ => ⟨S512x1024, .i8⟩
  | .local _ .vmem, ⟨11, _⟩ => ⟨S32x1024, .i8⟩
  | .local _ .vmem, ⟨12, _⟩ => ⟨S32x1024, .i8⟩
  | .local _ .vmem, ⟨13, _⟩ => ⟨S512x1024, .i8⟩
  | .local _ .vmem, ⟨14, _⟩ => ⟨S512x1024, .i8⟩
  | .local _ .vmem, ⟨15, _⟩ => ⟨S32x1024, .i8⟩
  | .local _ .vmem, ⟨16, _⟩ => ⟨S32x1024, .i8⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S32x1024, .i32⟩
  | _, _ => ⟨S6x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65_0 : Ref sig .tc := ⟨.hbm, 86, rfl⟩
abbrev main_v65_1 : Ref sig .tc := ⟨.hbm, 87, rfl⟩
abbrev main_v65_2 : Ref sig .tc := ⟨.hbm, 88, rfl⟩
abbrev main_v65_3 : Ref sig .tc := ⟨.hbm, 89, rfl⟩
abbrev main_v65_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![36, 8], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_26 : BitVec 32 := 0#32
  let c16_i32_27 : BitVec 32 := 16#32
  let v33 : BitVec 32 := Scalar.addi c0_i32_26 c16_i32_27
  let c1_i32_28 : BitVec 32 := 1#32
  ⟨c0_i32_26, v33, c1_i32_28⟩
def k0_mult1 (k0_t1 : Fin k0_t1_loop.trips) : BitVec 32 :=
  let c0_i32_48 : BitVec 32 := 0#32
  let c0_i32_26 : BitVec 32 := 0#32
  let c1_i32_28 : BitVec 32 := 1#32
  let arg16 : BitVec 32 := Scf.iv c0_i32_26 c1_i32_28 k0_t1
  let c1_i32_47 : BitVec 32 := 1#32
  let v57 : BitVec 32 := Scalar.muli arg16 c1_i32_47
  let v58 : BitVec 32 := Scalar.addi c0_i32_48 v57
  let c4_i32 : BitVec 32 := 4#32
  let v59 : BitVec 32 := Scalar.divsi v58 c4_i32
  let c256_i32 : BitVec 32 := 256#32
  let v60 : BitVec 32 := Scalar.muli v59 c256_i32
  v60
def k0_mult2 (k0_t1 : Fin k0_t1_loop.trips) : BitVec 32 :=
  let c0_i32_48 : BitVec 32 := 0#32
  let c0_i32_26 : BitVec 32 := 0#32
  let c1_i32_28 : BitVec 32 := 1#32
  let arg16 : BitVec 32 := Scf.iv c0_i32_26 c1_i32_28 k0_t1
  let c1_i32_47 : BitVec 32 := 1#32
  let v57 : BitVec 32 := Scalar.muli arg16 c1_i32_47
  let v58 : BitVec 32 := Scalar.addi c0_i32_48 v57
  let c4_i32_49 : BitVec 32 := 4#32
  let v62 : BitVec 32 := Scalar.remsi v58 c4_i32_49
  let c256_i32_50 : BitVec 32 := 256#32
  let v63 : BitVec 32 := Scalar.muli v62 c256_i32_50
  v63
def k0_off1 (k0_t1 : Fin k0_t1_loop.trips) : Fin 2 → Nat :=
  let c0_i32_48 : BitVec 32 := 0#32
  let c0_i32_26 : BitVec 32 := 0#32
  let c1_i32_28 : BitVec 32 := 1#32
  let arg16 : BitVec 32 := Scf.iv c0_i32_26 c1_i32_28 k0_t1
  let c1_i32_47 : BitVec 32 := 1#32
  let v57 : BitVec 32 := Scalar.muli arg16 c1_i32_47
  let v58 : BitVec 32 := Scalar.addi c0_i32_48 v57
  let c4_i32 : BitVec 32 := 4#32
  let v59 : BitVec 32 := Scalar.divsi v58 c4_i32
  let c256_i32 : BitVec 32 := 256#32
  let v60 : BitVec 32 := Scalar.muli v59 c256_i32
  let v61 : BitVec 32 := v60
  let v67 : Index := Scalar.indexCast v61
  let c4_i32_49 : BitVec 32 := 4#32
  let v62 : BitVec 32 := Scalar.remsi v58 c4_i32_49
  let c256_i32_50 : BitVec 32 := 256#32
  let v63 : BitVec 32 := Scalar.muli v62 c256_i32_50
  let v64 : BitVec 32 := v63
  let v68 : Index := Scalar.indexCast v64
  ![v67.toNat, v68.toNat]
def k0_off2 (k0_t1 : Fin k0_t1_loop.trips) (c0_i32_179 : BitVec 32) : Fin 2 → Nat :=
  let c0_i32_48 : BitVec 32 := 0#32
  let c0_i32_26 : BitVec 32 := 0#32
  let c1_i32_28 : BitVec 32 := 1#32
  let arg16 : BitVec 32 := Scf.iv c0_i32_26 c1_i32_28 k0_t1
  let c1_i32_47 : BitVec 32 := 1#32
  let v57 : BitVec 32 := Scalar.muli arg16 c1_i32_47
  let v58 : BitVec 32 := Scalar.addi c0_i32_48 v57
  let c4_i32 : BitVec 32 := 4#32
  let v59 : BitVec 32 := Scalar.divsi v58 c4_i32
  let c256_i32 : BitVec 32 := 256#32
  let v60 : BitVec 32 := Scalar.muli v59 c256_i32
  let v61 : BitVec 32 := v60
  let c0_i32_173 : BitVec 32 := 0#32
  let v440 : BitVec 1 := Scalar.cmpi .sgt v61 c0_i32_173
  let v441 : BitVec 32 := Scalar.extui v440
  let c0_i32_174 : BitVec 32 := 0#32
  let v442 : BitVec 1 := Scalar.cmpi .slt v61 c0_i32_174
  let v443 : BitVec 32 := Scalar.extui v442
  let v444 : BitVec 32 := Scalar.subi v441 v443
  let c2_i32_172 : BitVec 32 := 2#32
  let c0_i32_175 : BitVec 32 := 0#32
  let v445 : BitVec 1 := Scalar.cmpi .sgt c2_i32_172 c0_i32_175
  let v446 : BitVec 32 := Scalar.extui v445
  let c0_i32_176 : BitVec 32 := 0#32
  let v447 : BitVec 1 := Scalar.cmpi .slt c2_i32_172 c0_i32_176
  let v448 : BitVec 32 := Scalar.extui v447
  let v449 : BitVec 32 := Scalar.subi v446 v448
  let v450 : BitVec 1 := Scalar.cmpi .ne v444 v449
  let v451 : BitVec 32 := Scalar.remsi v61 c2_i32_172
  let c0_i32_177 : BitVec 32 := 0#32
  let v452 : BitVec 1 := Scalar.cmpi .ne v451 c0_i32_177
  let v453 : BitVec 1 := Scalar.andi v450 v452
  let v439 : BitVec 32 := Scalar.divsi v61 c2_i32_172
  let c1_i32_178 : BitVec 32 := 1#32
  let v454 : BitVec 32 := Scalar.subi v439 c1_i32_178
  let v455 : BitVec 32 := Scalar.select v453 v454 v439
  let v456 : BitVec 32 := Scalar.addi v455 c0_i32_179
  let v457 : Index := Scalar.indexCast v456
  let c4_i32_49 : BitVec 32 := 4#32
  let v62 : BitVec 32 := Scalar.remsi v58 c4_i32_49
  let c256_i32_50 : BitVec 32 := 256#32
  let v63 : BitVec 32 := Scalar.muli v62 c256_i32_50
  let v64 : BitVec 32 := v63
  let v458 : Index := Scalar.indexCast v64
  ![v457.toNat, v458.toNat]
def k0_off3 (k0_t1 : Fin k0_t1_loop.trips) (c0_i32_181 : BitVec 32) : Fin 2 → Nat :=
  let c0_i32_48 : BitVec 32 := 0#32
  let c0_i32_26 : BitVec 32 := 0#32
  let c1_i32_28 : BitVec 32 := 1#32
  let arg16 : BitVec 32 := Scf.iv c0_i32_26 c1_i32_28 k0_t1
  let c1_i32_47 : BitVec 32 := 1#32
  let v57 : BitVec 32 := Scalar.muli arg16 c1_i32_47
  let v58 : BitVec 32 := Scalar.addi c0_i32_48 v57
  let c4_i32 : BitVec 32 := 4#32
  let v59 : BitVec 32 := Scalar.divsi v58 c4_i32
  let c256_i32 : BitVec 32 := 256#32
  let v60 : BitVec 32 := Scalar.muli v59 c256_i32
  let v61 : BitVec 32 := v60
  let v465 : BitVec 32 := Scalar.addi v61 c0_i32_181
  let v466 : Index := Scalar.indexCast v465
  let c4_i32_49 : BitVec 32 := 4#32
  let v62 : BitVec 32 := Scalar.remsi v58 c4_i32_49
  let c256_i32_50 : BitVec 32 := 256#32
  let v63 : BitVec 32 := Scalar.muli v62 c256_i32_50
  let v64 : BitVec 32 := v63
  let v467 : Index := Scalar.indexCast v64
  ![v466.toNat, v467.toNat]
def k0_off4 (k0_t1 : Fin k0_t1_loop.trips) (c0_i32_183 : BitVec 32) : Fin 2 → Nat :=
  let c0_i32_48 : BitVec 32 := 0#32
  let c0_i32_26 : BitVec 32 := 0#32
  let c1_i32_28 : BitVec 32 := 1#32
  let arg16 : BitVec 32 := Scf.iv c0_i32_26 c1_i32_28 k0_t1
  let c1_i32_47 : BitVec 32 := 1#32
  let v57 : BitVec 32 := Scalar.muli arg16 c1_i32_47
  let v58 : BitVec 32 := Scalar.addi c0_i32_48 v57
  let c4_i32 : BitVec 32 := 4#32
  let v59 : BitVec 32 := Scalar.divsi v58 c4_i32
  let c256_i32 : BitVec 32 := 256#32
  let v60 : BitVec 32 := Scalar.muli v59 c256_i32
  let v61 : BitVec 32 := v60
  let c128_i32 : BitVec 32 := 128#32
  let v476 : BitVec 32 := Scalar.addi v61 c128_i32
  let v477 : BitVec 32 := Scalar.addi v476 c0_i32_183
  let v478 : Index := Scalar.indexCast v477
  let c4_i32_49 : BitVec 32 := 4#32
  let v62 : BitVec 32 := Scalar.remsi v58 c4_i32_49
  let c256_i32_50 : BitVec 32 := 256#32
  let v63 : BitVec 32 := Scalar.muli v62 c256_i32_50
  let v64 : BitVec 32 := v63
  let v479 : Index := Scalar.indexCast v64
  ![v478.toNat, v479.toNat]
def k0_off5 (k0_t1 : Fin k0_t1_loop.trips) : Fin 2 → Nat :=
  let c0_i32_48 : BitVec 32 := 0#32
  let c0_i32_26 : BitVec 32 := 0#32
  let c1_i32_28 : BitVec 32 := 1#32
  let arg16 : BitVec 32 := Scf.iv c0_i32_26 c1_i32_28 k0_t1
  let c1_i32_47 : BitVec 32 := 1#32
  let v57 : BitVec 32 := Scalar.muli arg16 c1_i32_47
  let v58 : BitVec 32 := Scalar.addi c0_i32_48 v57
  let c4_i32 : BitVec 32 := 4#32
  let v59 : BitVec 32 := Scalar.divsi v58 c4_i32
  let c256_i32 : BitVec 32 := 256#32
  let v60 : BitVec 32 := Scalar.muli v59 c256_i32
  let v61 : BitVec 32 := v60
  let c0_i32_608 : BitVec 32 := 0#32
  let v1688 : BitVec 1 := Scalar.cmpi .sgt v61 c0_i32_608
  let v1689 : BitVec 32 := Scalar.extui v1688
  let c0_i32_609 : BitVec 32 := 0#32
  let v1690 : BitVec 1 := Scalar.cmpi .slt v61 c0_i32_609
  let v1691 : BitVec 32 := Scalar.extui v1690
  let v1692 : BitVec 32 := Scalar.subi v1689 v1691
  let c32_i32_607 : BitVec 32 := 32#32
  let c0_i32_610 : BitVec 32 := 0#32
  let v1693 : BitVec 1 := Scalar.cmpi .sgt c32_i32_607 c0_i32_610
  let v1694 : BitVec 32 := Scalar.extui v1693
  let c0_i32_611 : BitVec 32 := 0#32
  let v1695 : BitVec 1 := Scalar.cmpi .slt c32_i32_607 c0_i32_611
  let v1696 : BitVec 32 := Scalar.extui v1695
  let v1697 : BitVec 32 := Scalar.subi v1694 v1696
  let v1698 : BitVec 1 := Scalar.cmpi .ne v1692 v1697
  let v1699 : BitVec 32 := Scalar.remsi v61 c32_i32_607
  let c0_i32_612 : BitVec 32 := 0#32
  let v1700 : BitVec 1 := Scalar.cmpi .ne v1699 c0_i32_612
  let v1701 : BitVec 1 := Scalar.andi v1698 v1700
  let v1687 : BitVec 32 := Scalar.divsi v61 c32_i32_607
  let c1_i32_613 : BitVec 32 := 1#32
  let v1702 : BitVec 32 := Scalar.subi v1687 c1_i32_613
  let v1703 : BitVec 32 := Scalar.select v1701 v1702 v1687
  let v1704 : Index := Scalar.indexCast v1703
  let c4_i32_49 : BitVec 32 := 4#32
  let v62 : BitVec 32 := Scalar.remsi v58 c4_i32_49
  let c256_i32_50 : BitVec 32 := 256#32
  let v63 : BitVec 32 := Scalar.muli v62 c256_i32_50
  let v64 : BitVec 32 := v63
  let v1705 : Index := Scalar.indexCast v64
  ![v1704.toNat, v1705.toNat]
@[reducible] def k0_t2_loop : Scf.Loop 32 :=
  let c0_i32_6 : BitVec 32 := 0#32
  let c16_i32 : BitVec 32 := 16#32
  let v12 : BitVec 32 := Scalar.addi c0_i32_6 c16_i32
  let c1_i32 : BitVec 32 := 1#32
  ⟨c0_i32_6, v12, c1_i32⟩
def k0_mult3 (k0_t2 : Fin k0_t2_loop.trips) : BitVec 32 :=
  let c0_i32_27 : BitVec 32 := 0#32
  let c0_i32_6 : BitVec 32 := 0#32
  let c1_i32 : BitVec 32 := 1#32
  let arg16 : BitVec 32 := Scf.iv c0_i32_6 c1_i32 k0_t2
  let c1_i32_26 : BitVec 32 := 1#32
  let v33 : BitVec 32 := Scalar.muli arg16 c1_i32_26
  let v34 : BitVec 32 := Scalar.addi c0_i32_27 v33
  let c4_i32 : BitVec 32 := 4#32
  let v35 : BitVec 32 := Scalar.divsi v34 c4_i32
  let c256_i32 : BitVec 32 := 256#32
  let v36 : BitVec 32 := Scalar.muli v35 c256_i32
  v36
def k0_mult4 (k0_t2 : Fin k0_t2_loop.trips) : BitVec 32 :=
  let c0_i32_27 : BitVec 32 := 0#32
  let c0_i32_6 : BitVec 32 := 0#32
  let c1_i32 : BitVec 32 := 1#32
  let arg16 : BitVec 32 := Scf.iv c0_i32_6 c1_i32 k0_t2
  let c1_i32_26 : BitVec 32 := 1#32
  let v33 : BitVec 32 := Scalar.muli arg16 c1_i32_26
  let v34 : BitVec 32 := Scalar.addi c0_i32_27 v33
  let c4_i32_28 : BitVec 32 := 4#32
  let v38 : BitVec 32 := Scalar.remsi v34 c4_i32_28
  let c256_i32_29 : BitVec 32 := 256#32
  let v39 : BitVec 32 := Scalar.muli v38 c256_i32_29
  v39
def k0_off6 (k0_t2 : Fin k0_t2_loop.trips) : Fin 2 → Nat :=
  let c0_i32_27 : BitVec 32 := 0#32
  let c0_i32_6 : BitVec 32 := 0#32
  let c1_i32 : BitVec 32 := 1#32
  let arg16 : BitVec 32 := Scf.iv c0_i32_6 c1_i32 k0_t2
  let c1_i32_26 : BitVec 32 := 1#32
  let v33 : BitVec 32 := Scalar.muli arg16 c1_i32_26
  let v34 : BitVec 32 := Scalar.addi c0_i32_27 v33
  let c4_i32 : BitVec 32 := 4#32
  let v35 : BitVec 32 := Scalar.divsi v34 c4_i32
  let c256_i32 : BitVec 32 := 256#32
  let v36 : BitVec 32 := Scalar.muli v35 c256_i32
  let v37 : BitVec 32 := v36
  let v43 : Index := Scalar.indexCast v37
  let c4_i32_28 : BitVec 32 := 4#32
  let v38 : BitVec 32 := Scalar.remsi v34 c4_i32_28
  let c256_i32_29 : BitVec 32 := 256#32
  let v39 : BitVec 32 := Scalar.muli v38 c256_i32_29
  let v40 : BitVec 32 := v39
  let v44 : Index := Scalar.indexCast v40
  ![v43.toNat, v44.toNat]
def k0_off7 (k0_t2 : Fin k0_t2_loop.trips) (c0_i32_135 : BitVec 32) : Fin 2 → Nat :=
  let c0_i32_27 : BitVec 32 := 0#32
  let c0_i32_6 : BitVec 32 := 0#32
  let c1_i32 : BitVec 32 := 1#32
  let arg16 : BitVec 32 := Scf.iv c0_i32_6 c1_i32 k0_t2
  let c1_i32_26 : BitVec 32 := 1#32
  let v33 : BitVec 32 := Scalar.muli arg16 c1_i32_26
  let v34 : BitVec 32 := Scalar.addi c0_i32_27 v33
  let c4_i32 : BitVec 32 := 4#32
  let v35 : BitVec 32 := Scalar.divsi v34 c4_i32
  let c256_i32 : BitVec 32 := 256#32
  let v36 : BitVec 32 := Scalar.muli v35 c256_i32
  let v37 : BitVec 32 := v36
  let c0_i32_129 : BitVec 32 := 0#32
  let v342 : BitVec 1 := Scalar.cmpi .sgt v37 c0_i32_129
  let v343 : BitVec 32 := Scalar.extui v342
  let c0_i32_130 : BitVec 32 := 0#32
  let v344 : BitVec 1 := Scalar.cmpi .slt v37 c0_i32_130
  let v345 : BitVec 32 := Scalar.extui v344
  let v346 : BitVec 32 := Scalar.subi v343 v345
  let c2_i32_128 : BitVec 32 := 2#32
  let c0_i32_131 : BitVec 32 := 0#32
  let v347 : BitVec 1 := Scalar.cmpi .sgt c2_i32_128 c0_i32_131
  let v348 : BitVec 32 := Scalar.extui v347
  let c0_i32_132 : BitVec 32 := 0#32
  let v349 : BitVec 1 := Scalar.cmpi .slt c2_i32_128 c0_i32_132
  let v350 : BitVec 32 := Scalar.extui v349
  let v351 : BitVec 32 := Scalar.subi v348 v350
  let v352 : BitVec 1 := Scalar.cmpi .ne v346 v351
  let v353 : BitVec 32 := Scalar.remsi v37 c2_i32_128
  let c0_i32_133 : BitVec 32 := 0#32
  let v354 : BitVec 1 := Scalar.cmpi .ne v353 c0_i32_133
  let v355 : BitVec 1 := Scalar.andi v352 v354
  let v341 : BitVec 32 := Scalar.divsi v37 c2_i32_128
  let c1_i32_134 : BitVec 32 := 1#32
  let v356 : BitVec 32 := Scalar.subi v341 c1_i32_134
  let v357 : BitVec 32 := Scalar.select v355 v356 v341
  let v358 : BitVec 32 := Scalar.addi v357 c0_i32_135
  let v359 : Index := Scalar.indexCast v358
  let c4_i32_28 : BitVec 32 := 4#32
  let v38 : BitVec 32 := Scalar.remsi v34 c4_i32_28
  let c256_i32_29 : BitVec 32 := 256#32
  let v39 : BitVec 32 := Scalar.muli v38 c256_i32_29
  let v40 : BitVec 32 := v39
  let v360 : Index := Scalar.indexCast v40
  ![v359.toNat, v360.toNat]
def k0_off8 (k0_t2 : Fin k0_t2_loop.trips) (c0_i32_137 : BitVec 32) : Fin 2 → Nat :=
  let c0_i32_27 : BitVec 32 := 0#32
  let c0_i32_6 : BitVec 32 := 0#32
  let c1_i32 : BitVec 32 := 1#32
  let arg16 : BitVec 32 := Scf.iv c0_i32_6 c1_i32 k0_t2
  let c1_i32_26 : BitVec 32 := 1#32
  let v33 : BitVec 32 := Scalar.muli arg16 c1_i32_26
  let v34 : BitVec 32 := Scalar.addi c0_i32_27 v33
  let c4_i32 : BitVec 32 := 4#32
  let v35 : BitVec 32 := Scalar.divsi v34 c4_i32
  let c256_i32 : BitVec 32 := 256#32
  let v36 : BitVec 32 := Scalar.muli v35 c256_i32
  let v37 : BitVec 32 := v36
  let v367 : BitVec 32 := Scalar.addi v37 c0_i32_137
  let v368 : Index := Scalar.indexCast v367
  let c4_i32_28 : BitVec 32 := 4#32
  let v38 : BitVec 32 := Scalar.remsi v34 c4_i32_28
  let c256_i32_29 : BitVec 32 := 256#32
  let v39 : BitVec 32 := Scalar.muli v38 c256_i32_29
  let v40 : BitVec 32 := v39
  let v369 : Index := Scalar.indexCast v40
  ![v368.toNat, v369.toNat]
def k0_off9 (k0_t2 : Fin k0_t2_loop.trips) (c0_i32_139 : BitVec 32) : Fin 2 → Nat :=
  let c0_i32_27 : BitVec 32 := 0#32
  let c0_i32_6 : BitVec 32 := 0#32
  let c1_i32 : BitVec 32 := 1#32
  let arg16 : BitVec 32 := Scf.iv c0_i32_6 c1_i32 k0_t2
  let c1_i32_26 : BitVec 32 := 1#32
  let v33 : BitVec 32 := Scalar.muli arg16 c1_i32_26
  let v34 : BitVec 32 := Scalar.addi c0_i32_27 v33
  let c4_i32 : BitVec 32 := 4#32
  let v35 : BitVec 32 := Scalar.divsi v34 c4_i32
  let c256_i32 : BitVec 32 := 256#32
  let v36 : BitVec 32 := Scalar.muli v35 c256_i32
  let v37 : BitVec 32 := v36
  let c128_i32 : BitVec 32 := 128#32
  let v378 : BitVec 32 := Scalar.addi v37 c128_i32
  let v379 : BitVec 32 := Scalar.addi v378 c0_i32_139
  let v380 : Index := Scalar.indexCast v379
  let c4_i32_28 : BitVec 32 := 4#32
  let v38 : BitVec 32 := Scalar.remsi v34 c4_i32_28
  let c256_i32_29 : BitVec 32 := 256#32
  let v39 : BitVec 32 := Scalar.muli v38 c256_i32_29
  let v40 : BitVec 32 := v39
  let v381 : Index := Scalar.indexCast v40
  ![v380.toNat, v381.toNat]
def k0_off10 (k0_t2 : Fin k0_t2_loop.trips) : Fin 2 → Nat :=
  let c0_i32_27 : BitVec 32 := 0#32
  let c0_i32_6 : BitVec 32 := 0#32
  let c1_i32 : BitVec 32 := 1#32
  let arg16 : BitVec 32 := Scf.iv c0_i32_6 c1_i32 k0_t2
  let c1_i32_26 : BitVec 32 := 1#32
  let v33 : BitVec 32 := Scalar.muli arg16 c1_i32_26
  let v34 : BitVec 32 := Scalar.addi c0_i32_27 v33
  let c4_i32 : BitVec 32 := 4#32
  let v35 : BitVec 32 := Scalar.divsi v34 c4_i32
  let c256_i32 : BitVec 32 := 256#32
  let v36 : BitVec 32 := Scalar.muli v35 c256_i32
  let v37 : BitVec 32 := v36
  let c0_i32_498 : BitVec 32 := 0#32
  let v1398 : BitVec 1 := Scalar.cmpi .sgt v37 c0_i32_498
  let v1399 : BitVec 32 := Scalar.extui v1398
  let c0_i32_499 : BitVec 32 := 0#32
  let v1400 : BitVec 1 := Scalar.cmpi .slt v37 c0_i32_499
  let v1401 : BitVec 32 := Scalar.extui v1400
  let v1402 : BitVec 32 := Scalar.subi v1399 v1401
  let c32_i32_497 : BitVec 32 := 32#32
  let c0_i32_500 : BitVec 32 := 0#32
  let v1403 : BitVec 1 := Scalar.cmpi .sgt c32_i32_497 c0_i32_500
  let v1404 : BitVec 32 := Scalar.extui v1403
  let c0_i32_501 : BitVec 32 := 0#32
  let v1405 : BitVec 1 := Scalar.cmpi .slt c32_i32_497 c0_i32_501
  let v1406 : BitVec 32 := Scalar.extui v1405
  let v1407 : BitVec 32 := Scalar.subi v1404 v1406
  let v1408 : BitVec 1 := Scalar.cmpi .ne v1402 v1407
  let v1409 : BitVec 32 := Scalar.remsi v37 c32_i32_497
  let c0_i32_502 : BitVec 32 := 0#32
  let v1410 : BitVec 1 := Scalar.cmpi .ne v1409 c0_i32_502
  let v1411 : BitVec 1 := Scalar.andi v1408 v1410
  let v1397 : BitVec 32 := Scalar.divsi v37 c32_i32_497
  let c1_i32_503 : BitVec 32 := 1#32
  let v1412 : BitVec 32 := Scalar.subi v1397 c1_i32_503
  let v1413 : BitVec 32 := Scalar.select v1411 v1412 v1397
  let v1414 : Index := Scalar.indexCast v1413
  let c4_i32_28 : BitVec 32 := 4#32
  let v38 : BitVec 32 := Scalar.remsi v34 c4_i32_28
  let c256_i32_29 : BitVec 32 := 256#32
  let v39 : BitVec 32 := Scalar.muli v38 c256_i32_29
  let v40 : BitVec 32 := v39
  let v1415 : Index := Scalar.indexCast v40
  ![v1414.toNat, v1415.toNat]
def k0_mult5 (i : grid0.Coords) : BitVec 32 :=
  let arg1 : BitVec 32 := BitVec.ofNat 32 (i 1).val
  let c1024_i32 : BitVec 32 := 1024#32
  let v16 : BitVec 32 := Scalar.muli arg1 c1024_i32
  v16
def k0_off11 (i : grid0.Coords) : Fin 2 → Nat :=
  let c0_12 : Index := 0#32
  let arg1 : BitVec 32 := BitVec.ofNat 32 (i 1).val
  let c1024_i32 : BitVec 32 := 1024#32
  let v16 : BitVec 32 := Scalar.muli arg1 c1024_i32
  let v17 : BitVec 32 := v16
  let v18 : Index := Scalar.indexCast v17
  ![0, v18.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x1024 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S6x6144x8192 : Shape := ⟨3, ![6, 6144, 8192]⟩
abbrev S6x6144x1024 : Shape := ⟨3, ![6, 6144, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S6x96x64x8192 : Shape := ⟨4, ![6, 96, 64, 8192]⟩
abbrev S6x96x8192x64 : Shape := ⟨4, ![6, 96, 8192, 64]⟩
abbrev S6x192x32x8192 : Shape := ⟨4, ![6, 192, 32, 8192]⟩
abbrev S6x192x8192 : Shape := ⟨3, ![6, 192, 8192]⟩
abbrev S6x192x1x8192 : Shape := ⟨4, ![6, 192, 1, 8192]⟩
abbrev S6x3072x2x8192 : Shape := ⟨4, ![6, 3072, 2, 8192]⟩
abbrev S6x3072x1x8192 : Shape := ⟨4, ![6, 3072, 1, 8192]⟩
abbrev S6x3072x8192 : Shape := ⟨3, ![6, 3072, 8192]⟩
abbrev S6x96x64x1024 : Shape := ⟨4, ![6, 96, 64, 1024]⟩
abbrev S6x96x1024x64 : Shape := ⟨4, ![6, 96, 1024, 64]⟩
abbrev S6x192x32x1024 : Shape := ⟨4, ![6, 192, 32, 1024]⟩
abbrev S6x192x1024 : Shape := ⟨3, ![6, 192, 1024]⟩
abbrev S6x192x1x1024 : Shape := ⟨4, ![6, 192, 1, 1024]⟩
abbrev S6x3072x2x1024 : Shape := ⟨4, ![6, 3072, 2, 1024]⟩
abbrev S6x3072x1x1024 : Shape := ⟨4, ![6, 3072, 1, 1024]⟩
abbrev S6x3072x1024 : Shape := ⟨3, ![6, 3072, 1024]⟩
abbrev S6x192x16x8192 : Shape := ⟨4, ![6, 192, 16, 8192]⟩
abbrev S6x192x16x1024 : Shape := ⟨4, ![6, 192, 16, 1024]⟩
abbrev S1024x8192 : Shape := ⟨2, ![1024, 8192]⟩
abbrev S18432x8192 : Shape := ⟨2, ![18432, 8192]⟩
abbrev S1152x8192 : Shape := ⟨2, ![1152, 8192]⟩
abbrev S18432x1024 : Shape := ⟨2, ![18432, 1024]⟩
abbrev S1152x1024 : Shape := ⟨2, ![1152, 1024]⟩

abbrev nBuf : Space → Nat
  | .hbm => 522
  | .vmem => 0
  | .smem => 0
  | _ => 0

abbrev hbmTy0_0 (i : Nat) : BufTy := match i % 128 with
  | 0 => ⟨S6x6144x8192, .bf16⟩
  | 1 => ⟨S6x6144x1024, .bf16⟩
  | 2 => ⟨S64, .f32⟩
  | 3 => ⟨S6x6144x1024, .i8⟩
  | 4 => ⟨S64, .i32⟩
  | 5 => ⟨S64x1, .i32⟩
  | 6 => ⟨S1x64, .i32⟩
  | 7 => ⟨S64x64, .i32⟩
  | 8 => ⟨S64x64, .i32⟩
  | 9 => ⟨S64x64, .i32⟩
  | 10 => ⟨S64x64, .i32⟩
  | 11 => ⟨S_, .i32⟩
  | 12 => ⟨S64x64, .i32⟩
  | 13 => ⟨S64x64, .i32⟩
  | 14 => ⟨S_, .i32⟩
  | 15 => ⟨S64x64, .i32⟩
  | 16 => ⟨S64x64, .i1⟩
  | 17 => ⟨S_, .f32⟩
  | 18 => ⟨S_, .f32⟩
  | 19 => ⟨S64x64, .f32⟩
  | 20 => ⟨S64x64, .f32⟩
  | 21 => ⟨S64x64, .f32⟩
  | 22 => ⟨S64x64, .f32⟩
  | 23 => ⟨S1x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S6x6144x8192, .f32⟩
  | 30 => ⟨S6x96x64x8192, .f32⟩
  | 31 => ⟨S6x96x8192x64, .f32⟩
  | 32 => ⟨S6x96x64x8192, .f32⟩
  | 33 => ⟨S6x6144x8192, .f32⟩
  | 34 => ⟨S6x192x32x8192, .f32⟩
  | 35 => ⟨S6x192x32x8192, .f32⟩
  | 36 => ⟨S_, .f32⟩
  | 37 => ⟨S6x192x8192, .f32⟩
  | 38 => ⟨S6x192x1x8192, .f32⟩
  | 39 => ⟨S_, .f32⟩
  | 40 => ⟨S6x192x1x8192, .f32⟩
  | 41 => ⟨S6x192x1x8192, .i1⟩
  | 42 => ⟨S6x192x1x8192, .f32⟩
  | 43 => ⟨S_, .f32⟩
  | 44 => ⟨S6x192x1x8192, .f32⟩
  | 45 => ⟨S6x192x1x8192, .f32⟩
  | 46 => ⟨S6x192x1x8192, .f32⟩
  | 47 => ⟨S6x192x1x8192, .f32⟩
  | 48 => ⟨S6x192x1x8192, .i32⟩
  | 49 => ⟨S_, .i32⟩
  | 50 => ⟨S6x192x1x8192, .i32⟩
  | 51 => ⟨S6x192x1x8192, .i32⟩
  | 52 => ⟨S_, .i32⟩
  | 53 => ⟨S_, .i32⟩
  | 54 => ⟨S6x192x1x8192, .i32⟩
  | 55 => ⟨S6x192x1x8192, .i32⟩
  | 56 => ⟨S6x192x1x8192, .i32⟩
  | 57 => ⟨S6x192x1x8192, .f32⟩
  | 58 => ⟨S_, .f32⟩
  | 59 => ⟨S6x192x1x8192, .f32⟩
  | 60 => ⟨S6x192x1x8192, .f32⟩
  | 61 => ⟨S6x192x32x8192, .f32⟩
  | 62 => ⟨S6x192x32x8192, .f32⟩
  | 63 => ⟨S6x192x32x8192, .f32⟩
  | 64 => ⟨S_, .f32⟩
  | 65 => ⟨S6x192x32x8192, .f32⟩
  | 66 => ⟨S6x192x32x8192, .f32⟩
  | 67 => ⟨S_, .f32⟩
  | 68 => ⟨S6x192x32x8192, .f32⟩
  | 69 => ⟨S6x192x32x8192, .i1⟩
  | 70 => ⟨S_, .f32⟩
  | 71 => ⟨S6x192x32x8192, .f32⟩
  | 72 => ⟨S6x192x32x8192, .i1⟩
  | 73 => ⟨S_, .f32⟩
  | 74 => ⟨S_, .f32⟩
  | 75 => ⟨S6x192x32x8192, .f32⟩
  | 76 => ⟨S6x192x32x8192, .f32⟩
  | 77 => ⟨S6x192x32x8192, .f32⟩
  | 78 => ⟨S_, .f32⟩
  | 79 => ⟨S6x192x32x8192, .f32⟩
  | 80 => ⟨S6x192x32x8192, .f32⟩
  | 81 => ⟨S6x192x32x8192, .f32⟩
  | 82 => ⟨S6x192x32x8192, .f32⟩
  | 83 => ⟨S6x192x32x8192, .f32⟩
  | 84 => ⟨S6x192x32x8192, .f32⟩
  | 85 => ⟨S6x192x32x8192, .f32⟩
  | 86 => ⟨S_, .f32⟩
  | 87 => ⟨S6x192x32x8192, .f32⟩
  | 88 => ⟨S6x192x32x8192, .i1⟩
  | 89 => ⟨S_, .f32⟩
  | 90 => ⟨S6x192x32x8192, .f32⟩
  | 91 => ⟨S6x192x32x8192, .f32⟩
  | 92 => ⟨S_, .f32⟩
  | 93 => ⟨S6x192x32x8192, .f32⟩
  | 94 => ⟨S6x192x32x8192, .i1⟩
  | 95 => ⟨S_, .f32⟩
  | 96 => ⟨S6x192x32x8192, .f32⟩
  | 97 => ⟨S6x192x32x8192, .f32⟩
  | 98 => ⟨S_, .f32⟩
  | 99 => ⟨S6x192x32x8192, .f32⟩
  | 100 => ⟨S6x192x32x8192, .f32⟩
  | 101 => ⟨S_, .f32⟩
  | 102 => ⟨S6x192x32x8192, .f32⟩
  | 103 => ⟨S6x192x32x8192, .f32⟩
  | 104 => ⟨S6x192x32x8192, .f32⟩
  | 105 => ⟨S6x192x32x8192, .f32⟩
  | 106 => ⟨S_, .f32⟩
  | 107 => ⟨S6x192x32x8192, .f32⟩
  | 108 => ⟨S6x192x32x8192, .i1⟩
  | 109 => ⟨S_, .f32⟩
  | 110 => ⟨S6x192x32x8192, .f32⟩
  | 111 => ⟨S6x192x32x8192, .i1⟩
  | 112 => ⟨S6x192x32x8192, .i1⟩
  | 113 => ⟨S_, .f32⟩
  | 114 => ⟨S_, .f32⟩
  | 115 => ⟨S6x192x32x8192, .f32⟩
  | 116 => ⟨S6x192x32x8192, .f32⟩
  | 117 => ⟨S6x192x32x8192, .f32⟩
  | 118 => ⟨S6x192x32x8192, .f32⟩
  | 119 => ⟨S6x192x32x8192, .f32⟩
  | 120 => ⟨S6x192x32x8192, .i32⟩
  | 121 => ⟨S6x3072x2x8192, .i32⟩
  | 122 => ⟨S6x3072x1x8192, .i32⟩
  | 123 => ⟨S6x3072x8192, .i32⟩
  | 124 => ⟨S6x3072x1x8192, .i32⟩
  | 125 => ⟨S6x3072x8192, .i32⟩
  | 126 => ⟨S_, .i32⟩
  | 127 => ⟨S6x3072x8192, .i32⟩
  | _ => ⟨S6x6144x8192, .bf16⟩

abbrev hbmTy0_1 (i : Nat) : BufTy := match i % 128 with
  | 0 => ⟨S6x3072x8192, .i32⟩
  | 1 => ⟨S6x3072x8192, .i32⟩
  | 2 => ⟨S6x3072x8192, .i8⟩
  | 3 => ⟨S6x192x8192, .i32⟩
  | 4 => ⟨S_, .i32⟩
  | 5 => ⟨S6x192x8192, .i32⟩
  | 6 => ⟨S6x192x8192, .i32⟩
  | 7 => ⟨S6x192x8192, .i8⟩
  | 8 => ⟨S6x6144x1024, .f32⟩
  | 9 => ⟨S6x96x64x1024, .f32⟩
  | 10 => ⟨S6x96x1024x64, .f32⟩
  | 11 => ⟨S6x96x64x1024, .f32⟩
  | 12 => ⟨S6x6144x1024, .f32⟩
  | 13 => ⟨S6x192x32x1024, .f32⟩
  | 14 => ⟨S6x192x32x1024, .i8⟩
  | 15 => ⟨S6x192x32x1024, .f32⟩
  | 16 => ⟨S_, .f32⟩
  | 17 => ⟨S6x192x1024, .f32⟩
  | 18 => ⟨S6x192x1x1024, .f32⟩
  | 19 => ⟨S_, .f32⟩
  | 20 => ⟨S6x192x1x1024, .f32⟩
  | 21 => ⟨S6x192x1x1024, .i1⟩
  | 22 => ⟨S_, .f32⟩
  | 23 => ⟨S6x192x1x1024, .f32⟩
  | 24 => ⟨S6x192x1x1024, .f32⟩
  | 25 => ⟨S6x192x1x1024, .f32⟩
  | 26 => ⟨S_, .f32⟩
  | 27 => ⟨S6x192x1x1024, .f32⟩
  | 28 => ⟨S6x192x1x1024, .f32⟩
  | 29 => ⟨S6x192x1x1024, .f32⟩
  | 30 => ⟨S6x192x1x1024, .f32⟩
  | 31 => ⟨S6x192x1x1024, .i32⟩
  | 32 => ⟨S_, .i32⟩
  | 33 => ⟨S6x192x1x1024, .i32⟩
  | 34 => ⟨S6x192x1x1024, .i32⟩
  | 35 => ⟨S_, .i32⟩
  | 36 => ⟨S_, .i32⟩
  | 37 => ⟨S6x192x1x1024, .i32⟩
  | 38 => ⟨S6x192x1x1024, .i32⟩
  | 39 => ⟨S6x192x1x1024, .i32⟩
  | 40 => ⟨S6x192x1x1024, .f32⟩
  | 41 => ⟨S_, .f32⟩
  | 42 => ⟨S6x192x1x1024, .f32⟩
  | 43 => ⟨S6x192x1x1024, .f32⟩
  | 44 => ⟨S6x192x32x1024, .f32⟩
  | 45 => ⟨S6x192x32x1024, .f32⟩
  | 46 => ⟨S6x192x32x1024, .f32⟩
  | 47 => ⟨S_, .f32⟩
  | 48 => ⟨S6x192x32x1024, .f32⟩
  | 49 => ⟨S6x192x32x1024, .i1⟩
  | 50 => ⟨S_, .f32⟩
  | 51 => ⟨S6x192x32x1024, .f32⟩
  | 52 => ⟨S6x192x32x1024, .i1⟩
  | 53 => ⟨S_, .f32⟩
  | 54 => ⟨S_, .f32⟩
  | 55 => ⟨S6x192x32x1024, .f32⟩
  | 56 => ⟨S6x192x32x1024, .f32⟩
  | 57 => ⟨S6x192x32x1024, .f32⟩
  | 58 => ⟨S_, .f32⟩
  | 59 => ⟨S6x192x32x1024, .f32⟩
  | 60 => ⟨S6x192x32x1024, .f32⟩
  | 61 => ⟨S6x192x32x1024, .f32⟩
  | 62 => ⟨S6x192x32x1024, .f32⟩
  | 63 => ⟨S6x192x32x1024, .f32⟩
  | 64 => ⟨S6x192x32x1024, .f32⟩
  | 65 => ⟨S6x192x32x1024, .f32⟩
  | 66 => ⟨S6x192x32x1024, .f32⟩
  | 67 => ⟨S6x192x32x1024, .i32⟩
  | 68 => ⟨S6x192x32x1024, .f32⟩
  | 69 => ⟨S_, .f32⟩
  | 70 => ⟨S6x192x32x1024, .f32⟩
  | 71 => ⟨S6x192x32x1024, .f32⟩
  | 72 => ⟨S_, .f32⟩
  | 73 => ⟨S6x192x32x1024, .f32⟩
  | 74 => ⟨S6x192x32x1024, .f32⟩
  | 75 => ⟨S6x192x32x1024, .i1⟩
  | 76 => ⟨S6x192x32x1024, .f32⟩
  | 77 => ⟨S6x192x32x1024, .f32⟩
  | 78 => ⟨S6x192x32x1024, .f32⟩
  | 79 => ⟨S6x192x32x1024, .f32⟩
  | 80 => ⟨S_, .f32⟩
  | 81 => ⟨S6x192x32x1024, .f32⟩
  | 82 => ⟨S6x192x32x1024, .f32⟩
  | 83 => ⟨S_, .f32⟩
  | 84 => ⟨S6x192x32x1024, .f32⟩
  | 85 => ⟨S6x192x32x1024, .i1⟩
  | 86 => ⟨S_, .f32⟩
  | 87 => ⟨S6x192x32x1024, .f32⟩
  | 88 => ⟨S6x192x32x1024, .f32⟩
  | 89 => ⟨S_, .f32⟩
  | 90 => ⟨S6x192x32x1024, .f32⟩
  | 91 => ⟨S6x192x32x1024, .i1⟩
  | 92 => ⟨S_, .f32⟩
  | 93 => ⟨S6x192x32x1024, .f32⟩
  | 94 => ⟨S6x192x32x1024, .f32⟩
  | 95 => ⟨S_, .f32⟩
  | 96 => ⟨S6x192x32x1024, .f32⟩
  | 97 => ⟨S6x192x32x1024, .f32⟩
  | 98 => ⟨S_, .f32⟩
  | 99 => ⟨S6x192x32x1024, .f32⟩
  | 100 => ⟨S6x192x32x1024, .f32⟩
  | 101 => ⟨S6x192x32x1024, .f32⟩
  | 102 => ⟨S6x192x32x1024, .f32⟩
  | 103 => ⟨S_, .f32⟩
  | 104 => ⟨S6x192x32x1024, .f32⟩
  | 105 => ⟨S6x192x32x1024, .i1⟩
  | 106 => ⟨S_, .f32⟩
  | 107 => ⟨S6x192x32x1024, .f32⟩
  | 108 => ⟨S6x192x32x1024, .i1⟩
  | 109 => ⟨S6x192x32x1024, .i1⟩
  | 110 => ⟨S_, .f32⟩
  | 111 => ⟨S_, .f32⟩
  | 112 => ⟨S6x192x32x1024, .f32⟩
  | 113 => ⟨S6x192x32x1024, .f32⟩
  | 114 => ⟨S6x192x32x1024, .f32⟩
  | 115 => ⟨S6x192x32x1024, .f32⟩
  | 116 => ⟨S6x192x32x1024, .f32⟩
  | 117 => ⟨S6x192x32x1024, .i32⟩
  | 118 => ⟨S6x3072x2x1024, .i32⟩
  | 119 => ⟨S6x3072x1x1024, .i32⟩
  | 120 => ⟨S6x3072x1024, .i32⟩
  | 121 => ⟨S6x3072x1x1024, .i32⟩
  | 122 => ⟨S6x3072x1024, .i32⟩
  | 123 => ⟨S_, .i32⟩
  | 124 => ⟨S6x3072x1024, .i32⟩
  | 125 => ⟨S6x3072x1024, .i32⟩
  | 126 => ⟨S6x3072x1024, .i32⟩
  | 127 => ⟨S6x3072x1024, .i8⟩
  | _ => ⟨S6x6144x8192, .bf16⟩

abbrev hbmTy0_2 (i : Nat) : BufTy := match i % 128 with
  | 0 => ⟨S6x192x1024, .i32⟩
  | 1 => ⟨S_, .i32⟩
  | 2 => ⟨S6x192x1024, .i32⟩
  | 3 => ⟨S6x192x1024, .i32⟩
  | 4 => ⟨S6x192x1024, .i8⟩
  | 5 => ⟨S6x3072x8192, .i32⟩
  | 6 => ⟨S6x192x8192, .i32⟩
  | 7 => ⟨S_, .i32⟩
  | 8 => ⟨S6x192x8192, .i32⟩
  | 9 => ⟨S6x192x8192, .i32⟩
  | 10 => ⟨S6x192x8192, .f32⟩
  | 11 => ⟨S_, .f32⟩
  | 12 => ⟨S6x192x8192, .f32⟩
  | 13 => ⟨S6x192x8192, .f32⟩
  | 14 => ⟨S6x192x8192, .bf16⟩
  | 15 => ⟨S6x192x1x8192, .bf16⟩
  | 16 => ⟨S_, .i32⟩
  | 17 => ⟨S6x3072x8192, .i32⟩
  | 18 => ⟨S6x3072x8192, .i32⟩
  | 19 => ⟨S_, .i32⟩
  | 20 => ⟨S6x3072x8192, .i32⟩
  | 21 => ⟨S6x3072x8192, .i32⟩
  | 22 => ⟨S_, .i32⟩
  | 23 => ⟨S6x3072x8192, .i32⟩
  | 24 => ⟨S6x3072x8192, .i1⟩
  | 25 => ⟨S_, .i32⟩
  | 26 => ⟨S6x3072x8192, .i32⟩
  | 27 => ⟨S6x3072x8192, .i32⟩
  | 28 => ⟨S_, .i32⟩
  | 29 => ⟨S6x3072x8192, .i32⟩
  | 30 => ⟨S6x3072x8192, .i1⟩
  | 31 => ⟨S_, .i32⟩
  | 32 => ⟨S6x3072x8192, .i32⟩
  | 33 => ⟨S6x3072x8192, .i32⟩
  | 34 => ⟨S_, .i32⟩
  | 35 => ⟨S6x3072x8192, .i32⟩
  | 36 => ⟨S6x3072x8192, .i1⟩
  | 37 => ⟨S_, .i32⟩
  | 38 => ⟨S6x3072x8192, .i32⟩
  | 39 => ⟨S6x3072x8192, .i32⟩
  | 40 => ⟨S_, .i32⟩
  | 41 => ⟨S6x3072x8192, .i32⟩
  | 42 => ⟨S6x3072x8192, .i1⟩
  | 43 => ⟨S_, .f32⟩
  | 44 => ⟨S_, .f32⟩
  | 45 => ⟨S6x3072x8192, .f32⟩
  | 46 => ⟨S6x3072x8192, .f32⟩
  | 47 => ⟨S6x3072x8192, .f32⟩
  | 48 => ⟨S_, .f32⟩
  | 49 => ⟨S_, .f32⟩
  | 50 => ⟨S6x3072x8192, .f32⟩
  | 51 => ⟨S6x3072x8192, .f32⟩
  | 52 => ⟨S6x3072x8192, .f32⟩
  | 53 => ⟨S6x3072x8192, .f32⟩
  | 54 => ⟨S_, .f32⟩
  | 55 => ⟨S_, .f32⟩
  | 56 => ⟨S6x3072x8192, .f32⟩
  | 57 => ⟨S6x3072x8192, .f32⟩
  | 58 => ⟨S6x3072x8192, .f32⟩
  | 59 => ⟨S_, .f32⟩
  | 60 => ⟨S_, .f32⟩
  | 61 => ⟨S6x3072x8192, .f32⟩
  | 62 => ⟨S6x3072x8192, .f32⟩
  | 63 => ⟨S6x3072x8192, .f32⟩
  | 64 => ⟨S6x3072x8192, .f32⟩
  | 65 => ⟨S6x3072x8192, .f32⟩
  | 66 => ⟨S6x3072x8192, .f32⟩
  | 67 => ⟨S6x3072x8192, .f32⟩
  | 68 => ⟨S6x3072x8192, .f32⟩
  | 69 => ⟨S6x3072x8192, .bf16⟩
  | 70 => ⟨S6x192x16x8192, .bf16⟩
  | 71 => ⟨S6x192x16x8192, .bf16⟩
  | 72 => ⟨S6x192x16x8192, .bf16⟩
  | 73 => ⟨S6x3072x8192, .bf16⟩
  | 74 => ⟨S_, .i32⟩
  | 75 => ⟨S6x3072x8192, .i32⟩
  | 76 => ⟨S6x3072x8192, .i32⟩
  | 77 => ⟨S_, .i32⟩
  | 78 => ⟨S6x3072x8192, .i32⟩
  | 79 => ⟨S6x3072x8192, .i32⟩
  | 80 => ⟨S_, .i32⟩
  | 81 => ⟨S6x3072x8192, .i32⟩
  | 82 => ⟨S6x3072x8192, .i1⟩
  | 83 => ⟨S_, .i32⟩
  | 84 => ⟨S6x3072x8192, .i32⟩
  | 85 => ⟨S6x3072x8192, .i32⟩
  | 86 => ⟨S_, .i32⟩
  | 87 => ⟨S6x3072x8192, .i32⟩
  | 88 => ⟨S6x3072x8192, .i1⟩
  | 89 => ⟨S_, .i32⟩
  | 90 => ⟨S6x3072x8192, .i32⟩
  | 91 => ⟨S6x3072x8192, .i32⟩
  | 92 => ⟨S_, .i32⟩
  | 93 => ⟨S6x3072x8192, .i32⟩
  | 94 => ⟨S6x3072x8192, .i1⟩
  | 95 => ⟨S_, .i32⟩
  | 96 => ⟨S6x3072x8192, .i32⟩
  | 97 => ⟨S6x3072x8192, .i32⟩
  | 98 => ⟨S_, .i32⟩
  | 99 => ⟨S6x3072x8192, .i32⟩
  | 100 => ⟨S6x3072x8192, .i1⟩
  | 101 => ⟨S_, .f32⟩
  | 102 => ⟨S_, .f32⟩
  | 103 => ⟨S6x3072x8192, .f32⟩
  | 104 => ⟨S6x3072x8192, .f32⟩
  | 105 => ⟨S6x3072x8192, .f32⟩
  | 106 => ⟨S_, .f32⟩
  | 107 => ⟨S_, .f32⟩
  | 108 => ⟨S6x3072x8192, .f32⟩
  | 109 => ⟨S6x3072x8192, .f32⟩
  | 110 => ⟨S6x3072x8192, .f32⟩
  | 111 => ⟨S6x3072x8192, .f32⟩
  | 112 => ⟨S_, .f32⟩
  | 113 => ⟨S_, .f32⟩
  | 114 => ⟨S6x3072x8192, .f32⟩
  | 115 => ⟨S6x3072x8192, .f32⟩
  | 116 => ⟨S6x3072x8192, .f32⟩
  | 117 => ⟨S_, .f32⟩
  | 118 => ⟨S_, .f32⟩
  | 119 => ⟨S6x3072x8192, .f32⟩
  | 120 => ⟨S6x3072x8192, .f32⟩
  | 121 => ⟨S6x3072x8192, .f32⟩
  | 122 => ⟨S6x3072x8192, .f32⟩
  | 123 => ⟨S6x3072x8192, .f32⟩
  | 124 => ⟨S6x3072x8192, .f32⟩
  | 125 => ⟨S6x3072x8192, .f32⟩
  | 126 => ⟨S6x3072x8192, .f32⟩
  | 127 => ⟨S6x3072x8192, .bf16⟩
  | _ => ⟨S6x6144x8192, .bf16⟩

abbrev hbmTy0_3 (i : Nat) : BufTy := match i % 128 with
  | 0 => ⟨S6x192x16x8192, .bf16⟩
  | 1 => ⟨S6x192x16x8192, .bf16⟩
  | 2 => ⟨S6x192x16x8192, .bf16⟩
  | 3 => ⟨S6x3072x8192, .bf16⟩
  | 4 => ⟨S6x3072x1024, .i32⟩
  | 5 => ⟨S6x192x1024, .i32⟩
  | 6 => ⟨S_, .i32⟩
  | 7 => ⟨S6x192x1024, .i32⟩
  | 8 => ⟨S6x192x1024, .i32⟩
  | 9 => ⟨S6x192x1024, .f32⟩
  | 10 => ⟨S_, .f32⟩
  | 11 => ⟨S6x192x1024, .f32⟩
  | 12 => ⟨S6x192x1024, .f32⟩
  | 13 => ⟨S6x192x1024, .bf16⟩
  | 14 => ⟨S6x192x1x1024, .bf16⟩
  | 15 => ⟨S_, .i32⟩
  | 16 => ⟨S6x3072x1024, .i32⟩
  | 17 => ⟨S6x3072x1024, .i32⟩
  | 18 => ⟨S_, .i32⟩
  | 19 => ⟨S6x3072x1024, .i32⟩
  | 20 => ⟨S6x3072x1024, .i32⟩
  | 21 => ⟨S_, .i32⟩
  | 22 => ⟨S6x3072x1024, .i32⟩
  | 23 => ⟨S6x3072x1024, .i1⟩
  | 24 => ⟨S_, .i32⟩
  | 25 => ⟨S6x3072x1024, .i32⟩
  | 26 => ⟨S6x3072x1024, .i32⟩
  | 27 => ⟨S_, .i32⟩
  | 28 => ⟨S6x3072x1024, .i32⟩
  | 29 => ⟨S6x3072x1024, .i1⟩
  | 30 => ⟨S_, .i32⟩
  | 31 => ⟨S6x3072x1024, .i32⟩
  | 32 => ⟨S6x3072x1024, .i32⟩
  | 33 => ⟨S_, .i32⟩
  | 34 => ⟨S6x3072x1024, .i32⟩
  | 35 => ⟨S6x3072x1024, .i1⟩
  | 36 => ⟨S_, .i32⟩
  | 37 => ⟨S6x3072x1024, .i32⟩
  | 38 => ⟨S6x3072x1024, .i32⟩
  | 39 => ⟨S_, .i32⟩
  | 40 => ⟨S6x3072x1024, .i32⟩
  | 41 => ⟨S6x3072x1024, .i1⟩
  | 42 => ⟨S_, .f32⟩
  | 43 => ⟨S_, .f32⟩
  | 44 => ⟨S6x3072x1024, .f32⟩
  | 45 => ⟨S6x3072x1024, .f32⟩
  | 46 => ⟨S6x3072x1024, .f32⟩
  | 47 => ⟨S_, .f32⟩
  | 48 => ⟨S_, .f32⟩
  | 49 => ⟨S6x3072x1024, .f32⟩
  | 50 => ⟨S6x3072x1024, .f32⟩
  | 51 => ⟨S6x3072x1024, .f32⟩
  | 52 => ⟨S6x3072x1024, .f32⟩
  | 53 => ⟨S_, .f32⟩
  | 54 => ⟨S_, .f32⟩
  | 55 => ⟨S6x3072x1024, .f32⟩
  | 56 => ⟨S6x3072x1024, .f32⟩
  | 57 => ⟨S6x3072x1024, .f32⟩
  | 58 => ⟨S_, .f32⟩
  | 59 => ⟨S_, .f32⟩
  | 60 => ⟨S6x3072x1024, .f32⟩
  | 61 => ⟨S6x3072x1024, .f32⟩
  | 62 => ⟨S6x3072x1024, .f32⟩
  | 63 => ⟨S6x3072x1024, .f32⟩
  | 64 => ⟨S6x3072x1024, .f32⟩
  | 65 => ⟨S6x3072x1024, .f32⟩
  | 66 => ⟨S6x3072x1024, .f32⟩
  | 67 => ⟨S6x3072x1024, .f32⟩
  | 68 => ⟨S6x3072x1024, .bf16⟩
  | 69 => ⟨S6x192x16x1024, .bf16⟩
  | 70 => ⟨S6x192x16x1024, .bf16⟩
  | 71 => ⟨S6x192x16x1024, .bf16⟩
  | 72 => ⟨S6x3072x1024, .bf16⟩
  | 73 => ⟨S_, .i32⟩
  | 74 => ⟨S6x3072x1024, .i32⟩
  | 75 => ⟨S6x3072x1024, .i32⟩
  | 76 => ⟨S_, .i32⟩
  | 77 => ⟨S6x3072x1024, .i32⟩
  | 78 => ⟨S6x3072x1024, .i32⟩
  | 79 => ⟨S_, .i32⟩
  | 80 => ⟨S6x3072x1024, .i32⟩
  | 81 => ⟨S6x3072x1024, .i1⟩
  | 82 => ⟨S_, .i32⟩
  | 83 => ⟨S6x3072x1024, .i32⟩
  | 84 => ⟨S6x3072x1024, .i32⟩
  | 85 => ⟨S_, .i32⟩
  | 86 => ⟨S6x3072x1024, .i32⟩
  | 87 => ⟨S6x3072x1024, .i1⟩
  | 88 => ⟨S_, .i32⟩
  | 89 => ⟨S6x3072x1024, .i32⟩
  | 90 => ⟨S6x3072x1024, .i32⟩
  | 91 => ⟨S_, .i32⟩
  | 92 => ⟨S6x3072x1024, .i32⟩
  | 93 => ⟨S6x3072x1024, .i1⟩
  | 94 => ⟨S_, .i32⟩
  | 95 => ⟨S6x3072x1024, .i32⟩
  | 96 => ⟨S6x3072x1024, .i32⟩
  | 97 => ⟨S_, .i32⟩
  | 98 => ⟨S6x3072x1024, .i32⟩
  | 99 => ⟨S6x3072x1024, .i1⟩
  | 100 => ⟨S_, .f32⟩
  | 101 => ⟨S_, .f32⟩
  | 102 => ⟨S6x3072x1024, .f32⟩
  | 103 => ⟨S6x3072x1024, .f32⟩
  | 104 => ⟨S6x3072x1024, .f32⟩
  | 105 => ⟨S_, .f32⟩
  | 106 => ⟨S_, .f32⟩
  | 107 => ⟨S6x3072x1024, .f32⟩
  | 108 => ⟨S6x3072x1024, .f32⟩
  | 109 => ⟨S6x3072x1024, .f32⟩
  | 110 => ⟨S6x3072x1024, .f32⟩
  | 111 => ⟨S_, .f32⟩
  | 112 => ⟨S_, .f32⟩
  | 113 => ⟨S6x3072x1024, .f32⟩
  | 114 => ⟨S6x3072x1024, .f32⟩
  | 115 => ⟨S6x3072x1024, .f32⟩
  | 116 => ⟨S_, .f32⟩
  | 117 => ⟨S_, .f32⟩
  | 118 => ⟨S6x3072x1024, .f32⟩
  | 119 => ⟨S6x3072x1024, .f32⟩
  | 120 => ⟨S6x3072x1024, .f32⟩
  | 121 => ⟨S6x3072x1024, .f32⟩
  | 122 => ⟨S6x3072x1024, .f32⟩
  | 123 => ⟨S6x3072x1024, .f32⟩
  | 124 => ⟨S6x3072x1024, .f32⟩
  | 125 => ⟨S6x3072x1024, .f32⟩
  | 126 => ⟨S6x3072x1024, .bf16⟩
  | 127 => ⟨S6x192x16x1024, .bf16⟩
  | _ => ⟨S6x6144x8192, .bf16⟩

abbrev hbmTy0_4 (i : Nat) : BufTy := match i % 128 with
  | 0 => ⟨S6x192x16x1024, .bf16⟩
  | 1 => ⟨S6x192x16x1024, .bf16⟩
  | 2 => ⟨S6x3072x1024, .bf16⟩
  | 3 => ⟨S1024x8192, .f32⟩
  | 4 => ⟨S1024x8192, .f32⟩
  | 5 => ⟨S1024x8192, .f32⟩
  | 6 => ⟨S18432x8192, .i8⟩
  | 7 => ⟨S1152x8192, .i8⟩
  | 8 => ⟨S18432x1024, .i8⟩
  | 9 => ⟨S1152x1024, .i8⟩
  | _ => ⟨S6x6144x8192, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S6x6144x8192, .bf16⟩

abbrev bufTy : (tb : Table) → Fin (tcTables nBuf tb) → BufTy
  | .hbm, ⟨i, _⟩ => hbmTy i
  | _, _ => ⟨S6x6144x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_call1_v0 : Ref sig .tc := ⟨.hbm, 53, rfl⟩
abbrev main_call1_v1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_cst_13 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_cst_14 : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_v63 : Ref sig .tc := ⟨.hbm, 94, rfl⟩
abbrev main_cst_18 : Ref sig .tc := ⟨.hbm, 95, rfl⟩
abbrev main_v64 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_cst_20 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_21 : Ref sig .tc := ⟨.hbm, 106, rfl⟩
abbrev main_v72 : Ref sig .tc := ⟨.hbm, 107, rfl⟩
abbrev main_v73 : Ref sig .tc := ⟨.hbm, 108, rfl⟩
abbrev main_cst_22 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_23 : Ref sig .tc := ⟨.hbm, 113, rfl⟩
abbrev main_cst_24 : Ref sig .tc := ⟨.hbm, 114, rfl⟩
abbrev main_call7_v0 : Ref sig .tc := ⟨.hbm, 115, rfl⟩
abbrev main_call7_v1 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_25 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_26 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_27 : Ref sig .tc := ⟨.hbm, 144, rfl⟩
abbrev main_v102 : Ref sig .tc := ⟨.hbm, 145, rfl⟩
abbrev main_v103 : Ref sig .tc := ⟨.hbm, 146, rfl⟩
abbrev main_cst_28 : Ref sig .tc := ⟨.hbm, 147, rfl⟩
abbrev main_v104 : Ref sig .tc := ⟨.hbm, 148, rfl⟩
abbrev main_v105 : Ref sig .tc := ⟨.hbm, 149, rfl⟩
abbrev main_cst_29 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_30 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_31 : Ref sig .tc := ⟨.hbm, 160, rfl⟩
abbrev main_v114 : Ref sig .tc := ⟨.hbm, 161, rfl⟩
abbrev main_v115 : Ref sig .tc := ⟨.hbm, 162, rfl⟩
abbrev main_c_32 : Ref sig .tc := ⟨.hbm, 163, rfl⟩
abbrev main_call8_v0 : Ref sig .tc := ⟨.hbm, 164, rfl⟩
abbrev main_call8_v1 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_33 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_34 : Ref sig .tc := ⟨.hbm, 175, rfl⟩
abbrev main_v124 : Ref sig .tc := ⟨.hbm, 176, rfl⟩
abbrev main_v125 : Ref sig .tc := ⟨.hbm, 177, rfl⟩
abbrev main_cst_35 : Ref sig .tc := ⟨.hbm, 178, rfl⟩
abbrev main_v126 : Ref sig .tc := ⟨.hbm, 179, rfl⟩
abbrev main_v127 : Ref sig .tc := ⟨.hbm, 180, rfl⟩
abbrev main_cst_36 : Ref sig .tc := ⟨.hbm, 181, rfl⟩
abbrev main_cst_37 : Ref sig .tc := ⟨.hbm, 182, rfl⟩
abbrev main_call9_v0 : Ref sig .tc := ⟨.hbm, 183, rfl⟩
abbrev main_call9_v1 : Ref sig .tc := ⟨.hbm, 184, rfl⟩
abbrev main_v128 : Ref sig .tc := ⟨.hbm, 185, rfl⟩
abbrev main_cst_38 : Ref sig .tc := ⟨.hbm, 186, rfl⟩
abbrev main_call10_v0 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_39 : Ref sig .tc := ⟨.hbm, 197, rfl⟩
abbrev main_v138 : Ref sig .tc := ⟨.hbm, 198, rfl⟩
abbrev main_v139 : Ref sig .tc := ⟨.hbm, 199, rfl⟩
abbrev main_cst_40 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_41 : Ref sig .tc := ⟨.hbm, 208, rfl⟩
abbrev main_v147 : Ref sig .tc := ⟨.hbm, 209, rfl⟩
abbrev main_v148 : Ref sig .tc := ⟨.hbm, 210, rfl⟩
abbrev main_cst_42 : Ref sig .tc := ⟨.hbm, 211, rfl⟩
abbrev main_v149 : Ref sig .tc := ⟨.hbm, 212, rfl⟩
abbrev main_v150 : Ref sig .tc := ⟨.hbm, 213, rfl⟩
abbrev main_cst_43 : Ref sig .tc := ⟨.hbm, 214, rfl⟩
abbrev main_v151 : Ref sig .tc := ⟨.hbm, 215, rfl⟩
abbrev main_v152 : Ref sig .tc := ⟨.hbm, 216, rfl⟩
abbrev main_cst_44 : Ref sig .tc := ⟨.hbm, 217, rfl⟩
abbrev main_v153 : Ref sig .tc := ⟨.hbm, 218, rfl⟩
abbrev main_v154 : Ref sig .tc := ⟨.hbm, 219, rfl⟩
abbrev main_cst_45 : Ref sig .tc := ⟨.hbm, 220, rfl⟩
abbrev main_v155 : Ref sig .tc := ⟨.hbm, 221, rfl⟩
abbrev main_v156 : Ref sig .tc := ⟨.hbm, 222, rfl⟩
abbrev main_cst_46 : Ref sig .tc := ⟨.hbm, 223, rfl⟩
abbrev main_v157 : Ref sig .tc := ⟨.hbm, 224, rfl⟩
abbrev main_v158 : Ref sig .tc := ⟨.hbm, 225, rfl⟩
abbrev main_cst_47 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_48 : Ref sig .tc := ⟨.hbm, 231, rfl⟩
abbrev main_v163 : Ref sig .tc := ⟨.hbm, 232, rfl⟩
abbrev main_v164 : Ref sig .tc := ⟨.hbm, 233, rfl⟩
abbrev main_cst_49 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_50 : Ref sig .tc := ⟨.hbm, 238, rfl⟩
abbrev main_cst_51 : Ref sig .tc := ⟨.hbm, 239, rfl⟩
abbrev main_call13_v0 : Ref sig .tc := ⟨.hbm, 240, rfl⟩
abbrev main_call13_v1 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_c_52 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_c_53 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_c_54 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_cst_55 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_c_56 : Ref sig .tc := ⟨.hbm, 272, rfl⟩
abbrev main_v194 : Ref sig .tc := ⟨.hbm, 273, rfl⟩
abbrev main_v195 : Ref sig .tc := ⟨.hbm, 274, rfl⟩
abbrev main_c_57 : Ref sig .tc := ⟨.hbm, 275, rfl⟩
abbrev main_v196 : Ref sig .tc := ⟨.hbm, 276, rfl⟩
abbrev main_v197 : Ref sig .tc := ⟨.hbm, 277, rfl⟩
abbrev main_c_58 : Ref sig .tc := ⟨.hbm, 278, rfl⟩
abbrev main_v198 : Ref sig .tc := ⟨.hbm, 279, rfl⟩
abbrev main_v199 : Ref sig .tc := ⟨.hbm, 280, rfl⟩
abbrev main_c_59 : Ref sig .tc := ⟨.hbm, 281, rfl⟩
abbrev main_v200 : Ref sig .tc := ⟨.hbm, 282, rfl⟩
abbrev main_v201 : Ref sig .tc := ⟨.hbm, 283, rfl⟩
abbrev main_c_60 : Ref sig .tc := ⟨.hbm, 284, rfl⟩
abbrev main_v202 : Ref sig .tc := ⟨.hbm, 285, rfl⟩
abbrev main_v203 : Ref sig .tc := ⟨.hbm, 286, rfl⟩
abbrev main_c_61 : Ref sig .tc := ⟨.hbm, 287, rfl⟩
abbrev main_v204 : Ref sig .tc := ⟨.hbm, 288, rfl⟩
abbrev main_v205 : Ref sig .tc := ⟨.hbm, 289, rfl⟩
abbrev main_c_62 : Ref sig .tc := ⟨.hbm, 290, rfl⟩
abbrev main_v206 : Ref sig .tc := ⟨.hbm, 291, rfl⟩
abbrev main_v207 : Ref sig .tc := ⟨.hbm, 292, rfl⟩
abbrev main_c_63 : Ref sig .tc := ⟨.hbm, 293, rfl⟩
abbrev main_v208 : Ref sig .tc := ⟨.hbm, 294, rfl⟩
abbrev main_v209 : Ref sig .tc := ⟨.hbm, 295, rfl⟩
abbrev main_c_64 : Ref sig .tc := ⟨.hbm, 296, rfl⟩
abbrev main_v210 : Ref sig .tc := ⟨.hbm, 297, rfl⟩
abbrev main_v211 : Ref sig .tc := ⟨.hbm, 298, rfl⟩
abbrev main_cst_65 : Ref sig .tc := ⟨.hbm, 299, rfl⟩
abbrev main_cst_66 : Ref sig .tc := ⟨.hbm, 300, rfl⟩
abbrev main_call14_v0 : Ref sig .tc := ⟨.hbm, 301, rfl⟩
abbrev main_call14_v1 : Ref sig .tc := ⟨.hbm, 302, rfl⟩
abbrev main_v212 : Ref sig .tc := ⟨.hbm, 303, rfl⟩
abbrev main_cst_67 : Ref sig .tc := ⟨.hbm, 304, rfl⟩
abbrev main_cst_68 : Ref sig .tc := ⟨.hbm, 305, rfl⟩
abbrev main_call15_v0 : Ref sig .tc := ⟨.hbm, 306, rfl⟩
abbrev main_call15_v1 : Ref sig .tc := ⟨.hbm, 307, rfl⟩
abbrev main_v213 : Ref sig .tc := ⟨.hbm, 308, rfl⟩
abbrev main_v214 : Ref sig .tc := ⟨.hbm, 309, rfl⟩
abbrev main_cst_69 : Ref sig .tc := ⟨.hbm, 310, rfl⟩
abbrev main_cst_70 : Ref sig .tc := ⟨.hbm, 311, rfl⟩
abbrev main_call17_v0 : Ref sig .tc := ⟨.hbm, 312, rfl⟩
abbrev main_call17_v1 : Ref sig .tc := ⟨.hbm, 313, rfl⟩
abbrev main_v215 : Ref sig .tc := ⟨.hbm, 314, rfl⟩
abbrev main_cst_71 : Ref sig .tc := ⟨.hbm, 315, rfl⟩
abbrev main_cst_72 : Ref sig .tc := ⟨.hbm, 316, rfl⟩
abbrev main_call18_v0 : Ref sig .tc := ⟨.hbm, 317, rfl⟩
abbrev main_call18_v1 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_c_73 : Ref sig .tc := ⟨.hbm, 330, rfl⟩
abbrev main_v227 : Ref sig .tc := ⟨.hbm, 331, rfl⟩
abbrev main_v228 : Ref sig .tc := ⟨.hbm, 332, rfl⟩
abbrev main_c_74 : Ref sig .tc := ⟨.hbm, 333, rfl⟩
abbrev main_v229 : Ref sig .tc := ⟨.hbm, 334, rfl⟩
abbrev main_v230 : Ref sig .tc := ⟨.hbm, 335, rfl⟩
abbrev main_c_75 : Ref sig .tc := ⟨.hbm, 336, rfl⟩
abbrev main_v231 : Ref sig .tc := ⟨.hbm, 337, rfl⟩
abbrev main_v232 : Ref sig .tc := ⟨.hbm, 338, rfl⟩
abbrev main_c_76 : Ref sig .tc := ⟨.hbm, 339, rfl⟩
abbrev main_v233 : Ref sig .tc := ⟨.hbm, 340, rfl⟩
abbrev main_v234 : Ref sig .tc := ⟨.hbm, 341, rfl⟩
abbrev main_c_77 : Ref sig .tc := ⟨.hbm, 342, rfl⟩
abbrev main_v235 : Ref sig .tc := ⟨.hbm, 343, rfl⟩
abbrev main_v236 : Ref sig .tc := ⟨.hbm, 344, rfl⟩
abbrev main_c_78 : Ref sig .tc := ⟨.hbm, 345, rfl⟩
abbrev main_v237 : Ref sig .tc := ⟨.hbm, 346, rfl⟩
abbrev main_v238 : Ref sig .tc := ⟨.hbm, 347, rfl⟩
abbrev main_c_79 : Ref sig .tc := ⟨.hbm, 348, rfl⟩
abbrev main_v239 : Ref sig .tc := ⟨.hbm, 349, rfl⟩
abbrev main_v240 : Ref sig .tc := ⟨.hbm, 350, rfl⟩
abbrev main_c_80 : Ref sig .tc := ⟨.hbm, 351, rfl⟩
abbrev main_v241 : Ref sig .tc := ⟨.hbm, 352, rfl⟩
abbrev main_v242 : Ref sig .tc := ⟨.hbm, 353, rfl⟩
abbrev main_c_81 : Ref sig .tc := ⟨.hbm, 354, rfl⟩
abbrev main_v243 : Ref sig .tc := ⟨.hbm, 355, rfl⟩
abbrev main_v244 : Ref sig .tc := ⟨.hbm, 356, rfl⟩
abbrev main_cst_82 : Ref sig .tc := ⟨.hbm, 357, rfl⟩
abbrev main_cst_83 : Ref sig .tc := ⟨.hbm, 358, rfl⟩
abbrev main_call22_v0 : Ref sig .tc := ⟨.hbm, 359, rfl⟩
abbrev main_call22_v1 : Ref sig .tc := ⟨.hbm, 360, rfl⟩
abbrev main_v245 : Ref sig .tc := ⟨.hbm, 361, rfl⟩
abbrev main_cst_84 : Ref sig .tc := ⟨.hbm, 362, rfl⟩
abbrev main_cst_85 : Ref sig .tc := ⟨.hbm, 363, rfl⟩
abbrev main_call23_v0 : Ref sig .tc := ⟨.hbm, 364, rfl⟩
abbrev main_call23_v1 : Ref sig .tc := ⟨.hbm, 365, rfl⟩
abbrev main_v246 : Ref sig .tc := ⟨.hbm, 366, rfl⟩
abbrev main_v247 : Ref sig .tc := ⟨.hbm, 367, rfl⟩
abbrev main_cst_86 : Ref sig .tc := ⟨.hbm, 368, rfl⟩
abbrev main_cst_87 : Ref sig .tc := ⟨.hbm, 369, rfl⟩
abbrev main_call25_v0 : Ref sig .tc := ⟨.hbm, 370, rfl⟩
abbrev main_call25_v1 : Ref sig .tc := ⟨.hbm, 371, rfl⟩
abbrev main_v248 : Ref sig .tc := ⟨.hbm, 372, rfl⟩
abbrev main_cst_88 : Ref sig .tc := ⟨.hbm, 373, rfl⟩
abbrev main_cst_89 : Ref sig .tc := ⟨.hbm, 374, rfl⟩
abbrev main_call26_v0 : Ref sig .tc := ⟨.hbm, 375, rfl⟩
abbrev main_call26_v1 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_c_90 : Ref sig .tc := ⟨.hbm, 390, rfl⟩
abbrev main_v262 : Ref sig .tc := ⟨.hbm, 391, rfl⟩
abbrev main_v263 : Ref sig .tc := ⟨.hbm, 392, rfl⟩
abbrev main_v264 : Ref sig .tc := ⟨.hbm, 393, rfl⟩
abbrev main_cst_91 : Ref sig .tc := ⟨.hbm, 394, rfl⟩
abbrev main_v265 : Ref sig .tc := ⟨.hbm, 395, rfl⟩
abbrev main_v266 : Ref sig .tc := ⟨.hbm, 396, rfl⟩
abbrev main_v267 : Ref sig .tc := ⟨.hbm, 397, rfl⟩
abbrev main_v268 : Ref sig .tc := ⟨.hbm, 398, rfl⟩
abbrev main_c_92 : Ref sig .tc := ⟨.hbm, 399, rfl⟩
abbrev main_v269 : Ref sig .tc := ⟨.hbm, 400, rfl⟩
abbrev main_v270 : Ref sig .tc := ⟨.hbm, 401, rfl⟩
abbrev main_c_93 : Ref sig .tc := ⟨.hbm, 402, rfl⟩
abbrev main_v271 : Ref sig .tc := ⟨.hbm, 403, rfl⟩
abbrev main_v272 : Ref sig .tc := ⟨.hbm, 404, rfl⟩
abbrev main_c_94 : Ref sig .tc := ⟨.hbm, 405, rfl⟩
abbrev main_v273 : Ref sig .tc := ⟨.hbm, 406, rfl⟩
abbrev main_v274 : Ref sig .tc := ⟨.hbm, 407, rfl⟩
abbrev main_c_95 : Ref sig .tc := ⟨.hbm, 408, rfl⟩
abbrev main_v275 : Ref sig .tc := ⟨.hbm, 409, rfl⟩
abbrev main_v276 : Ref sig .tc := ⟨.hbm, 410, rfl⟩
abbrev main_c_96 : Ref sig .tc := ⟨.hbm, 411, rfl⟩
abbrev main_v277 : Ref sig .tc := ⟨.hbm, 412, rfl⟩
abbrev main_v278 : Ref sig .tc := ⟨.hbm, 413, rfl⟩
abbrev main_c_97 : Ref sig .tc := ⟨.hbm, 414, rfl⟩
abbrev main_v279 : Ref sig .tc := ⟨.hbm, 415, rfl⟩
abbrev main_v280 : Ref sig .tc := ⟨.hbm, 416, rfl⟩
abbrev main_c_98 : Ref sig .tc := ⟨.hbm, 417, rfl⟩
abbrev main_v281 : Ref sig .tc := ⟨.hbm, 418, rfl⟩
abbrev main_v282 : Ref sig .tc := ⟨.hbm, 419, rfl⟩
abbrev main_c_99 : Ref sig .tc := ⟨.hbm, 420, rfl⟩
abbrev main_v283 : Ref sig .tc := ⟨.hbm, 421, rfl⟩
abbrev main_v284 : Ref sig .tc := ⟨.hbm, 422, rfl⟩
abbrev main_c_100 : Ref sig .tc := ⟨.hbm, 423, rfl⟩
abbrev main_v285 : Ref sig .tc := ⟨.hbm, 424, rfl⟩
abbrev main_v286 : Ref sig .tc := ⟨.hbm, 425, rfl⟩
abbrev main_cst_101 : Ref sig .tc := ⟨.hbm, 426, rfl⟩
abbrev main_cst_102 : Ref sig .tc := ⟨.hbm, 427, rfl⟩
abbrev main_call30_v0 : Ref sig .tc := ⟨.hbm, 428, rfl⟩
abbrev main_call30_v1 : Ref sig .tc := ⟨.hbm, 429, rfl⟩
abbrev main_v287 : Ref sig .tc := ⟨.hbm, 430, rfl⟩
abbrev main_cst_103 : Ref sig .tc := ⟨.hbm, 431, rfl⟩
abbrev main_cst_104 : Ref sig .tc := ⟨.hbm, 432, rfl⟩
abbrev main_call31_v0 : Ref sig .tc := ⟨.hbm, 433, rfl⟩
abbrev main_call31_v1 : Ref sig .tc := ⟨.hbm, 434, rfl⟩
abbrev main_v288 : Ref sig .tc := ⟨.hbm, 435, rfl⟩
abbrev main_v289 : Ref sig .tc := ⟨.hbm, 436, rfl⟩
abbrev main_cst_105 : Ref sig .tc := ⟨.hbm, 437, rfl⟩
abbrev main_cst_106 : Ref sig .tc := ⟨.hbm, 438, rfl⟩
abbrev main_call33_v0 : Ref sig .tc := ⟨.hbm, 439, rfl⟩
abbrev main_call33_v1 : Ref sig .tc := ⟨.hbm, 440, rfl⟩
abbrev main_v290 : Ref sig .tc := ⟨.hbm, 441, rfl⟩
abbrev main_cst_107 : Ref sig .tc := ⟨.hbm, 442, rfl⟩
abbrev main_cst_108 : Ref sig .tc := ⟨.hbm, 443, rfl⟩
abbrev main_call34_v0 : Ref sig .tc := ⟨.hbm, 444, rfl⟩
abbrev main_call34_v1 : Ref sig .tc := ⟨.hbm, 445, rfl⟩
abbrev main_v291 : Ref sig .tc := ⟨.hbm, 446, rfl⟩
abbrev main_v292 : Ref sig .tc := ⟨.hbm, 447, rfl⟩
abbrev main_v293 : Ref sig .tc := ⟨.hbm, 448, rfl⟩
abbrev main_v294 : Ref sig .tc := ⟨.hbm, 449, rfl⟩
abbrev main_v295 : Ref sig .tc := ⟨.hbm, 450, rfl⟩
abbrev main_v296 : Ref sig .tc := ⟨.hbm, 451, rfl⟩
abbrev main_v297 : Ref sig .tc := ⟨.hbm, 452, rfl⟩
abbrev main_v298 : Ref sig .tc := ⟨.hbm, 453, rfl⟩
abbrev main_v299 : Ref sig .tc := ⟨.hbm, 454, rfl⟩
abbrev main_v300 : Ref sig .tc := ⟨.hbm, 455, rfl⟩
abbrev main_v301 : Ref sig .tc := ⟨.hbm, 456, rfl⟩
abbrev main_c_109 : Ref sig .tc := ⟨.hbm, 457, rfl⟩
abbrev main_v302 : Ref sig .tc := ⟨.hbm, 458, rfl⟩
abbrev main_v303 : Ref sig .tc := ⟨.hbm, 459, rfl⟩
abbrev main_c_110 : Ref sig .tc := ⟨.hbm, 460, rfl⟩
abbrev main_v304 : Ref sig .tc := ⟨.hbm, 461, rfl⟩
abbrev main_v305 : Ref sig .tc := ⟨.hbm, 462, rfl⟩
abbrev main_c_111 : Ref sig .tc := ⟨.hbm, 463, rfl⟩
abbrev main_v306 : Ref sig .tc := ⟨.hbm, 464, rfl⟩
abbrev main_v307 : Ref sig .tc := ⟨.hbm, 465, rfl⟩
abbrev main_c_112 : Ref sig .tc := ⟨.hbm, 466, rfl⟩
abbrev main_v308 : Ref sig .tc := ⟨.hbm, 467, rfl⟩
abbrev main_v309 : Ref sig .tc := ⟨.hbm, 468, rfl⟩
abbrev main_c_113 : Ref sig .tc := ⟨.hbm, 469, rfl⟩
abbrev main_v310 : Ref sig .tc := ⟨.hbm, 470, rfl⟩
abbrev main_v311 : Ref sig .tc := ⟨.hbm, 471, rfl⟩
abbrev main_c_114 : Ref sig .tc := ⟨.hbm, 472, rfl⟩
abbrev main_v312 : Ref sig .tc := ⟨.hbm, 473, rfl⟩
abbrev main_v313 : Ref sig .tc := ⟨.hbm, 474, rfl⟩
abbrev main_c_115 : Ref sig .tc := ⟨.hbm, 475, rfl⟩
abbrev main_v314 : Ref sig .tc := ⟨.hbm, 476, rfl⟩
abbrev main_v315 : Ref sig .tc := ⟨.hbm, 477, rfl⟩
abbrev main_c_116 : Ref sig .tc := ⟨.hbm, 478, rfl⟩
abbrev main_v316 : Ref sig .tc := ⟨.hbm, 479, rfl⟩
abbrev main_v317 : Ref sig .tc := ⟨.hbm, 480, rfl⟩
abbrev main_c_117 : Ref sig .tc := ⟨.hbm, 481, rfl⟩
abbrev main_v318 : Ref sig .tc := ⟨.hbm, 482, rfl⟩
abbrev main_v319 : Ref sig .tc := ⟨.hbm, 483, rfl⟩
abbrev main_cst_118 : Ref sig .tc := ⟨.hbm, 484, rfl⟩
abbrev main_cst_119 : Ref sig .tc := ⟨.hbm, 485, rfl⟩
abbrev main_call38_v0 : Ref sig .tc := ⟨.hbm, 486, rfl⟩
abbrev main_call38_v1 : Ref sig .tc := ⟨.hbm, 487, rfl⟩
abbrev main_v320 : Ref sig .tc := ⟨.hbm, 488, rfl⟩
abbrev main_cst_120 : Ref sig .tc := ⟨.hbm, 489, rfl⟩
abbrev main_cst_121 : Ref sig .tc := ⟨.hbm, 490, rfl⟩
abbrev main_call39_v0 : Ref sig .tc := ⟨.hbm, 491, rfl⟩
abbrev main_call39_v1 : Ref sig .tc := ⟨.hbm, 492, rfl⟩
abbrev main_v321 : Ref sig .tc := ⟨.hbm, 493, rfl⟩
abbrev main_v322 : Ref sig .tc := ⟨.hbm, 494, rfl⟩
abbrev main_cst_122 : Ref sig .tc := ⟨.hbm, 495, rfl⟩
abbrev main_cst_123 : Ref sig .tc := ⟨.hbm, 496, rfl⟩
abbrev main_call41_v0 : Ref sig .tc := ⟨.hbm, 497, rfl⟩
abbrev main_call41_v1 : Ref sig .tc := ⟨.hbm, 498, rfl⟩
abbrev main_v323 : Ref sig .tc := ⟨.hbm, 499, rfl⟩
abbrev main_cst_124 : Ref sig .tc := ⟨.hbm, 500, rfl⟩
abbrev main_cst_125 : Ref sig .tc := ⟨.hbm, 501, rfl⟩
abbrev main_call42_v0 : Ref sig .tc := ⟨.hbm, 502, rfl⟩
abbrev main_call42_v1 : Ref sig .tc := ⟨.hbm, 503, rfl⟩
abbrev main_v324 : Ref sig .tc := ⟨.hbm, 504, rfl⟩
abbrev main_v325 : Ref sig .tc := ⟨.hbm, 505, rfl⟩
abbrev main_v326 : Ref sig .tc := ⟨.hbm, 506, rfl⟩
abbrev main_v327 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_v331 : Ref sig .tc := ⟨.hbm, 511, rfl⟩
abbrev main_v332 : Ref sig .tc := ⟨.hbm, 512, rfl⟩
abbrev main_v333 : Ref sig .tc := ⟨.hbm, 513, rfl⟩
abbrev main_v334 : Ref sig .tc := ⟨.hbm, 514, rfl⟩
abbrev main_v335 : Ref sig .tc := ⟨.hbm, 515, rfl⟩
abbrev main_v336 : Ref sig .tc := ⟨.hbm, 516, rfl⟩
abbrev main_v337 : Ref sig .tc := ⟨.hbm, 517, rfl⟩
abbrev main_v338 : Ref sig .tc := ⟨.hbm, 518, rfl⟩
abbrev main_v339 : Ref sig .tc := ⟨.hbm, 519, rfl⟩
abbrev main_v340 : Ref sig .tc := ⟨.hbm, 520, rfl⟩
abbrev main_v341 : Ref sig .tc := ⟨.hbm, 521, rfl⟩

abbrev nD : Nat := 1
abbrev τ : Topo := Topo.v7x

variable {F : FTy → Type} [FloatOps F]
-- ==== Proof.Scalar.lean ====
module

public import Idealize.ShloMosaic.PureOps.Ideal
public import Idealize.ShloMosaic.PureOps.Ideal.Laws

/-! # Numbers of the four-bit format

What the quantiser computes of one value, over the real numbers: the grid of magnitudes
`0, 1/2, 1, 3/2, 2, 3, 4, 6`, its four-bit codes, rounding to nearest and stochastic rounding, the
shared exponents. -/

@[expose] public section

noncomputable section

namespace Cert.Mx

open Idealize.ShloMosaic

/-! ## Words and extended reals -/

/-- A selection by a decided comparison. -/
theorem select_ofBool {α : Type} (p : Prop) [Decidable p] (a b : α) :
    Scalar.select (BitVec.ofBool (decide p)) a b = if p then a else b := by
  by_cases h : p <;> simp [Scalar.select, h]

/-- The magnitude of a real, as the larger of it and its negative. -/
theorem abs_coe (x : ℝ) : max (x : EReal) (-(x : EReal)) = ((|x| : ℝ) : EReal) := by
  rw [← EReal.coe_neg, abs_eq_max_neg]; exact (EReal.coe_strictMono.monotone.map_max).symm

theorem max_coe (x y : ℝ) : max (x : EReal) (y : EReal) = ((max x y : ℝ) : EReal) :=
  (EReal.coe_strictMono.monotone.map_max).symm

theorem min_coe (x y : ℝ) : min (x : EReal) (y : EReal) = ((min x y : ℝ) : EReal) :=
  (EReal.coe_strictMono.monotone.map_min).symm

theorem olt_coe (x y : ℝ) : Ideal.cmp .olt (x : EReal) (y : EReal) = BitVec.ofBool (decide (x < y)) := by
  simp [Ideal.cmp]

theorem ogt_coe (x y : ℝ) : Ideal.cmp .ogt (x : EReal) (y : EReal) = BitVec.ofBool (decide (y < x)) := by
  simp [Ideal.cmp]

theorem round_coe (x : ℝ) : Ideal.liftRound Ideal.roundHalfEven (x : EReal) = ((Ideal.roundHalfEven x : ℝ) : EReal) := rfl

theorem floor_coe (x : ℝ) : Ideal.liftRound Int.floor (x : EReal) = ((⌊x⌋ : ℝ) : EReal) := rfl

/-- A nonnegative real converted to a word. -/
theorem fptosi_coe (x : ℝ) (n : ℕ) (hx : x = n) (hn : n < 2147483648) : Ideal.fptosi 32 (x : EReal) = BitVec.ofNat 32 n := by
  subst hx
  have h : Ideal.toIntClamped (-(2 ^ (32 - 1) : Nat)) ((2 ^ (32 - 1) : Nat) - 1) (((n : ℝ)) : EReal) = (n : ℤ) := by
    show max _ (min _ (if (0:ℝ) ≤ (n:ℝ) then ⌊(n:ℝ)⌋ else ⌈(n:ℝ)⌉)) = _
    rw [if_pos (Nat.cast_nonneg n), Int.floor_natCast]; push_cast; omega
  unfold Ideal.fptosi; rw [h, BitVec.ofInt_natCast]

/-- An integer real converted to a word. -/
theorem fptosi_int (z : ℤ) (h : -1000 < z ∧ z < 1000) : Ideal.fptosi 32 (((z : ℝ)) : EReal) = BitVec.ofInt 32 z := by
  have h : Ideal.toIntClamped (-(2 ^ (32 - 1) : Nat)) ((2 ^ (32 - 1) : Nat) - 1) (((z : ℝ)) : EReal) = z := by
    show max _ (min _ (if (0:ℝ) ≤ (z:ℝ) then ⌊(z:ℝ)⌋ else ⌈(z:ℝ)⌉)) = _
    rw [Int.floor_intCast, Int.ceil_intCast, ite_self]; push_cast; omega
  unfold Ideal.fptosi; rw [h]

/-! ## Constants -/

theorem c_half : Ideal.ofBits .f32 0x3F000000#32 = ((1 / 2 : ℝ) : EReal) := by simp [Ideal.ofBits, Ideal.ieee, -EReal.coe_mul]; norm_num
theorem c_one : Ideal.ofBits .f32 0x3F800000#32 = ((1 : ℝ) : EReal) := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_four : Ideal.ofBits .f32 0x40800000#32 = ((4 : ℝ) : EReal) := by simp [Ideal.ofBits, Ideal.ieee, -EReal.coe_mul]; norm_num
theorem c_six : Ideal.ofBits .f32 0x40C00000#32 = ((6 : ℝ) : EReal) := by simp [Ideal.ofBits, Ideal.ieee, -EReal.coe_mul]; norm_num
theorem c_nsix : Ideal.ofBits .f32 0xC0C00000#32 = ((-6 : ℝ) : EReal) := by simp [Ideal.ofBits, Ideal.ieee, -EReal.coe_mul]; norm_num
theorem c_eight : Ideal.ofBits .f32 0x41000000#32 = ((8 : ℝ) : EReal) := by simp [Ideal.ofBits, Ideal.ieee, -EReal.coe_mul]; norm_num
theorem c_16 : Ideal.ofBits .f32 0x41800000#32 = ((16 : ℝ) : EReal) := by simp [Ideal.ofBits, Ideal.ieee, -EReal.coe_mul]; norm_num
theorem c_64 : Ideal.ofBits .f32 0x42800000#32 = ((64 : ℝ) : EReal) := by simp [Ideal.ofBits, Ideal.ieee, -EReal.coe_mul]; norm_num
theorem c_128 : Ideal.ofBits .f32 0x43000000#32 = ((128 : ℝ) : EReal) := by simp [Ideal.ofBits, Ideal.ieee, -EReal.coe_mul]; norm_num
theorem c_zero : Ideal.ofBits .f32 0x00000000#32 = ((0 : ℝ) : EReal) := by simp [Ideal.ofBits, Ideal.ieee]
theorem c_256i : Ideal.ofBits .f32 0x3B800000#32 = ((1 / 256 : ℝ) : EReal) := by simp [Ideal.ofBits, Ideal.ieee, -EReal.coe_mul]; norm_num
theorem c_256 : Ideal.ofBits .f32 0x43800000#32 = ((256 : ℝ) : EReal) := by simp [Ideal.ofBits, Ideal.ieee, -EReal.coe_mul]; norm_num
theorem c_b64 : Ideal.ofBits .bf16 0x4280#16 = ((64 : ℝ) : EReal) := by simp [Ideal.ofBits, Ideal.ieee, -EReal.coe_mul]; norm_num
theorem c_b64i : Ideal.ofBits .bf16 0x3C80#16 = ((1 / 64 : ℝ) : EReal) := by simp [Ideal.ofBits, Ideal.ieee, -EReal.coe_mul]; norm_num
theorem c_ninf : Ideal.ofBits .f32 0xFF800000#32 = (⊥ : EReal) := by simp [Ideal.ofBits, Ideal.ieee]

/-- The float nearest one sixth. -/
def sixth : ℝ := 11184811 / 67108864
theorem c_sixth : Ideal.ofBits .f32 0x3E2AAAAB#32 = ((sixth : ℝ) : EReal) := by
  simp [Ideal.ofBits, Ideal.ieee, -EReal.coe_mul, sixth]; norm_num

/-- The word with exponent field `k` is a power of two. -/
theorem c_pow (k : ℕ) (h1 : 1 ≤ k) (h2 : k ≤ 254) :
    Ideal.ofBits .f32 (BitVec.ofNat 32 (k * 8388608)) = (((2 : ℝ) ^ ((k : ℤ) - 127) : ℝ) : EReal) := by
  have h : ∀ k : Fin 256, (BitVec.extractLsb' 23 8 (BitVec.ofNat 32 (k.val * 8388608))).toNat = k.val
      ∧ (BitVec.extractLsb' 0 23 (BitVec.ofNat 32 (k.val * 8388608))).toNat = 0
      ∧ (BitVec.extractLsb' 31 1 (BitVec.ofNat 32 (k.val * 8388608))) = 0#1 := by decide +kernel
  obtain ⟨a, b, c⟩ := h ⟨k, by omega⟩
  dsimp only at a b c
  simp only [Ideal.ofBits, Ideal.ieee]
  rw [a, b]
  have c' : (BitVec.extractLsb' (8 + 23) 1 (BitVec.ofNat 32 (k * 8388608)) == 1#1) = false := by rw [c]; rfl
  rw [c', if_neg (by omega), if_neg (by omega)]
  norm_num
  rw [← EReal.coe_mul, show (8388608 : ℝ) = 2 ^ (23 : ℤ) by norm_num, ← zpow_add₀ (by norm_num)]
  congr 2; ring

/-! ## The grid -/

/-- The magnitudes of the four-bit format. -/
def OnGrid (q : ℝ) : Prop := q = 0 ∨ q = 1 / 2 ∨ q = 1 ∨ q = 3 / 2 ∨ q = 2 ∨ q = 3 ∨ q = 4 ∨ q = 6

/-- The spacing of the grid above a magnitude. -/
def step (t : ℝ) : ℝ := if t < 2 then 1 / 2 else if t < 4 then 1 else 2

/-- The magnitude `y` rounds to, ties to even. -/
def qNear (y : ℝ) : ℝ := Ideal.roundHalfEven (min |y| 6 / step (min |y| 6)) * step (min |y| 6)

/-- The magnitude `y` rounds to with the random number `u` of 256. -/
def qStoch (y : ℝ) (u : ℝ) : ℝ :=
  min (((⌊|y| / step |y|⌋ : ℝ) + (if (u + 1 / 2) / 256 < |y| / step |y| - ⌊|y| / step |y|⌋ then 1 else 0)) * step |y|) 6

/-- The value with magnitude `q` and the sign of `y`. -/
def signed (y q : ℝ) : ℝ := if y < 0 then -q else q

/-- The place of a magnitude on the grid. -/
def place (q : ℝ) : ℕ := ⌊if q < 2 then 2 * q else if q < 4 then q + 2 else q * (1 / 2) + 4⌋₊

/-- The four-bit code: the place, and eight where the value is negative. -/
def nib (y q : ℝ) : ℕ := place q + if y < 0 ∧ 0 < q then 8 else 0

theorem rhe_mem (x : ℝ) (a b : ℤ) (ha : (a : ℝ) ≤ x) (hb : x ≤ b) :
    a ≤ Ideal.roundHalfEven x ∧ Ideal.roundHalfEven x ≤ b := by
  have h1 : a ≤ ⌊x⌋ := Int.le_floor.2 ha
  have h2 : ⌊x⌋ ≤ b := by have := Int.floor_le x; exact_mod_cast this.trans hb
  have h3 : ¬ (x - ⌊x⌋ < 1/2) → ⌊x⌋ + 1 ≤ b := fun h => by
    rcases h2.lt_or_eq with h4 | h4
    · omega
    · rw [h4] at h; exfalso; apply h; linarith
  unfold Ideal.roundHalfEven; dsimp only
  split_ifs with p q r
  · exact ⟨h1, h2⟩
  · exact ⟨by omega, h3 p⟩
  · exact ⟨h1, h2⟩
  · exact ⟨by omega, h3 p⟩

theorem grid_of_int (t : ℝ) (z : ℤ) (h0 : 0 ≤ z) (h : (t < 2 ∧ z ≤ 4) ∨ (2 ≤ t ∧ t < 4 ∧ 2 ≤ z ∧ z ≤ 4) ∨ (4 ≤ t ∧ 2 ≤ z ∧ z ≤ 3)) :
    OnGrid ((z : ℝ) * step t) := by
  unfold OnGrid step
  rcases h with ⟨h, h'⟩ | ⟨h, h', h2, h3⟩ | ⟨h, h2, h3⟩
  · rw [if_pos h]; interval_cases z <;> norm_num
  · rw [if_neg (by linarith), if_pos h']; interval_cases z <;> norm_num
  · rw [if_neg (by linarith), if_neg (by linarith)]; interval_cases z <;> norm_num

theorem qNear_grid (y : ℝ) : OnGrid (qNear y) := by
  have h0 : 0 ≤ min |y| 6 := le_min (abs_nonneg y) (by norm_num)
  have h6 : min |y| 6 ≤ 6 := min_le_right _ _
  unfold qNear
  generalize min |y| 6 = t at *
  by_cases a : t < 2
  · have e : step t = 1 / 2 := by simp [step, a]
    have := rhe_mem (t / step t) 0 4 (by rw [e]; push_cast; positivity) (by rw [e]; push_cast; linarith)
    exact grid_of_int t _ this.1 (.inl ⟨a, this.2⟩)
  by_cases b : t < 4
  · have e : step t = 1 := by simp [step, a, b]
    have := rhe_mem (t / step t) 2 4 (by rw [e]; push_cast; linarith) (by rw [e]; push_cast; linarith)
    exact grid_of_int t _ (by omega) (.inr (.inl ⟨by linarith, b, this⟩))
  · have e : step t = 2 := by simp [step, a, b]
    have := rhe_mem (t / step t) 2 3 (by rw [e]; push_cast; linarith) (by rw [e]; push_cast; linarith)
    exact grid_of_int t _ (by omega) (.inr (.inr ⟨by linarith, this⟩))

theorem qStoch_grid (y u : ℝ) (hy : |y| < 6) : OnGrid (qStoch y u) := by
  have h0 := abs_nonneg y
  unfold qStoch
  generalize |y| = t at *
  generalize hc : (if (u + 1 / 2) / 256 < t / step t - ⌊t / step t⌋ then (1 : ℝ) else 0) = c
  have hc' : ∃ d : ℤ, (d = 0 ∨ d = 1) ∧ c = d := by
    subst hc; split_ifs
    · exact ⟨1, .inr rfl, by norm_num⟩
    · exact ⟨0, .inl rfl, by norm_num⟩
  obtain ⟨d, hd, rfl⟩ := hc'
  have key : ∀ x : ℝ, OnGrid x → OnGrid (min x 6) := fun x h => by
    rw [min_eq_left]; · exact h
    rcases h with h | h | h | h | h | h | h | h <;> rw [h] <;> norm_num
  apply key
  rw [show ((⌊t / step t⌋ : ℝ) + (d : ℝ)) = ((⌊t / step t⌋ + d : ℤ) : ℝ) by push_cast; rfl]
  by_cases a : t < 2
  · have e : step t = 1 / 2 := by simp [step, a]
    have h1 : 0 ≤ ⌊t / step t⌋ := Int.le_floor.2 (by rw [e]; push_cast; positivity)
    have h2 : ⌊t / step t⌋ < 4 := Int.floor_lt.2 (by rw [e]; push_cast; linarith)
    exact grid_of_int t _ (by omega) (.inl ⟨a, by omega⟩)
  by_cases b : t < 4
  · have e : step t = 1 := by simp [step, a, b]
    have h1 : 2 ≤ ⌊t / step t⌋ := Int.le_floor.2 (by rw [e]; push_cast; linarith)
    have h2 : ⌊t / step t⌋ < 4 := Int.floor_lt.2 (by rw [e]; push_cast; linarith)
    exact grid_of_int t _ (by omega) (.inr (.inl ⟨by linarith, b, by omega, by omega⟩))
  · have e : step t = 2 := by simp [step, a, b]
    have h1 : 2 ≤ ⌊t / step t⌋ := Int.le_floor.2 (by rw [e]; push_cast; linarith)
    have h2 : ⌊t / step t⌋ < 3 := Int.floor_lt.2 (by rw [e]; push_cast; linarith)
    exact grid_of_int t _ (by omega) (.inr (.inr ⟨by linarith, by omega, by omega⟩))

/-- The places of the grid. -/
theorem place_grid (q : ℝ) (h : OnGrid q) : (q = 0 ∧ place q = 0) ∨ (q = 1 / 2 ∧ place q = 1) ∨ (q = 1 ∧ place q = 2)
    ∨ (q = 3 / 2 ∧ place q = 3) ∨ (q = 2 ∧ place q = 4) ∨ (q = 3 ∧ place q = 5) ∨ (q = 4 ∧ place q = 6) ∨ (q = 6 ∧ place q = 7) := by
  unfold place
  rcases h with h | h | h | h | h | h | h | h <;> subst h <;> norm_num

theorem nib_lt (y q : ℝ) (h : OnGrid q) : nib y q < 16 := by
  unfold nib
  rcases place_grid q h with h | h | h | h | h | h | h | h <;> rw [h.2] <;> split_ifs <;> omega

/-! ## What the kernel computes of one value -/

/-- The word of a magnitude's binade. -/
def kBin (t : EReal) : BitVec 32 :=
  Scalar.select (Ideal.cmp .olt (max t (-t)) (Ideal.ofBits .f32 0x40000000#32)) 1065353216#32
    (Scalar.select (Ideal.cmp .olt (max t (-t)) (Ideal.ofBits .f32 0x40800000#32)) 1073741824#32 1082130432#32)

/-- Two over the binade, read from a word. -/
def kRecip (p : EReal) : EReal := Ideal.ofBits .f32 (2139095040#32 - kBin p)

/-- Half the binade. -/
def kStep (p : EReal) : EReal := p * Ideal.ofBits .f32 0x3F000000#32

/-- The kernel's rounding to nearest of `v` in units of the group's scale. -/
def kNear (v inv : EReal) : EReal :=
  let y := min (Ideal.ofBits .f32 0x40C00000#32) (max (Ideal.ofBits .f32 0xC0C00000#32) (v * inv))
  Ideal.liftRound Ideal.roundHalfEven (y * kRecip (Ideal.ofBits .f32 (kBin y))) * kStep (Ideal.ofBits .f32 (kBin y))

/-- The kernel's stochastic rounding of `v` in units of the group's scale. -/
def kStoch (v inv u : EReal) : EReal :=
  let y := v * inv
  let t := max y (-y)
  let p := Ideal.ofBits .f32 (kBin t)
  let w := t * kRecip p
  let k := Ideal.liftRound Int.floor w
  let up := Ideal.cmp .olt ((u + Ideal.ofBits .f32 0x3F000000#32) * Ideal.ofBits .f32 0x3B800000#32) (w - k)
  let q := min ((k + Scalar.select up (Ideal.ofBits .f32 0x3F800000#32) (Ideal.ofBits .f32 0x00000000#32)) * kStep p) (Ideal.ofBits .f32 0x40C00000#32)
  Scalar.select (Ideal.cmp .olt y (Ideal.ofBits .f32 0x00000000#32)) (Ideal.ofBits .f32 0x00000000#32 - q) q

/-- The kernel's eight-bit float byte of a value scaled by `2^-6`. -/
def kByte (f : EReal) : BitVec 8 :=
  let v := f * Ideal.ofBits .f32 0x42800000#32
  let m := max v (-v)
  let field := Scalar.select (Ideal.cmp .olt m (Ideal.ofBits .f32 0x40000000#32)) (Ideal.ofBits .f32 0x41000000#32 * m)
    (Scalar.select (Ideal.cmp .olt m (Ideal.ofBits .f32 0x40800000#32))
      (Ideal.ofBits .f32 0x40800000#32 * m + Ideal.ofBits .f32 0x41000000#32)
      (Ideal.ofBits .f32 0x40000000#32 * m + Ideal.ofBits .f32 0x41800000#32))
  (Ideal.fptosi 32 (field + Scalar.select (Ideal.cmp .olt v (Ideal.ofBits .f32 0x00000000#32))
    (Ideal.ofBits .f32 0x43000000#32) (Ideal.ofBits .f32 0x00000000#32))).truncate 8

theorem kBin_coe (t : ℝ) : kBin (t : EReal) = if |t| < 2 then 1065353216#32 else if |t| < 4 then 1073741824#32 else 1082130432#32 := by
  unfold kBin; rw [abs_coe, c_two, c_four, olt_coe, olt_coe, select_ofBool, select_ofBool]

/-- The binade as a real. -/
theorem ofBits_kBin (t : ℝ) : Ideal.ofBits .f32 (kBin (t : EReal)) = ((2 * step |t| : ℝ) : EReal) := by
  rw [kBin_coe]; unfold step; split_ifs
  · rw [c_one]; norm_num
  · rw [c_two]; norm_num
  · rw [c_four]; norm_num

theorem kRecip_bin (t : ℝ) : kRecip ((2 * step |t| : ℝ) : EReal) = ((1 / step |t| : ℝ) : EReal) := by
  unfold kRecip; rw [kBin_coe]; unfold step
  by_cases a : |t| < 2
  · simp only [a, if_true]; norm_num; exact c_two
  by_cases b : |t| < 4
  · simp only [a, b, if_true, if_false]; norm_num; exact c_one
  · simp only [a, b, if_false]; norm_num
    refine (c_half).trans ?_; norm_num

theorem kStep_bin (t : ℝ) : kStep ((2 * step |t| : ℝ) : EReal) = ((step |t| : ℝ) : EReal) := by
  unfold kStep; rw [c_half, ← EReal.coe_mul]; congr 1; ring

theorem rhe_neg (x : ℝ) : Ideal.roundHalfEven (-x) = -Ideal.roundHalfEven x := by
  unfold Ideal.roundHalfEven; dsimp only
  by_cases hx : (⌊x⌋ : ℝ) = x
  · have h1 : ⌊-x⌋ = -⌊x⌋ := by rw [← hx, ← Int.cast_neg, Int.floor_intCast, Int.floor_intCast]
    rw [h1]; push_cast; rw [hx]; norm_num
  · have h1 : ⌊-x⌋ = -⌊x⌋ - 1 := by
      rw [Int.floor_eq_iff]; push_cast
      have := Int.floor_le x; have h2 := Int.lt_floor_add_one x
      have h3 : (⌊x⌋ : ℝ) < x := lt_of_le_of_ne this hx
      constructor <;> linarith
    rw [h1]; push_cast
    by_cases a : x - ⌊x⌋ < 1 / 2
    · rw [if_pos a, if_neg (by linarith), if_pos (by linarith)]; ring
    by_cases b : 1 / 2 < x - ⌊x⌋
    · rw [if_neg a, if_pos b, if_pos (by linarith)]; ring
    · rw [if_neg a, if_neg b, if_neg (by linarith), if_neg (by linarith)]
      by_cases c : Even ⌊x⌋
      · rw [if_pos c, if_neg (by rw [Int.even_sub, even_neg]; simp [c])]; ring
      · rw [if_neg c, if_pos (by rw [Int.even_sub, even_neg]; simp [c])]; ring

theorem step_pos (t : ℝ) : 0 < step t := by unfold step; split_ifs <;> norm_num

theorem clip_abs (y : ℝ) : |min 6 (max (-6) y)| = min |y| 6 := by
  rcases le_total 0 y with h | h
  · rw [max_eq_right (by linarith), abs_of_nonneg h, abs_of_nonneg (le_min (by norm_num) h), min_comm]
  · rw [abs_of_nonpos h, min_eq_right (by rw [max_le_iff]; constructor <;> linarith), abs_of_nonpos (by rw [max_le_iff]; constructor <;> linarith)]
    rcases le_total (-6) y with h' | h'
    · rw [max_eq_right h', min_eq_left (by linarith)]
    · rw [max_eq_left h', min_eq_right (by linarith)]; norm_num

/-- The kernel rounds to nearest as the reference does, with the value's sign. -/
theorem kNear_coe (v inv : ℝ) : kNear (v : EReal) (inv : EReal) = ((signed (v * inv) (qNear (v * inv)) : ℝ) : EReal) := by
  unfold kNear; dsimp only
  rw [← EReal.coe_mul, c_six, c_nsix, max_coe, min_coe]
  generalize hy : v * inv = y
  rw [ofBits_kBin, kRecip_bin, kStep_bin, ← EReal.coe_mul, round_coe, ← EReal.coe_mul]
  congr 1
  rw [clip_abs]
  unfold signed qNear
  split_ifs with h
  · have : min 6 (max (-6) y) = - (min |y| 6) := by
      rw [← clip_abs, abs_of_nonpos (by rw [min_le_iff, max_le_iff]; right; constructor <;> linarith), neg_neg]
    rw [this, show -min |y| 6 * (1 / step (min |y| 6)) = -(min |y| 6 / step (min |y| 6)) by ring, rhe_neg]; push_cast; ring
  · have : min 6 (max (-6) y) = (min |y| 6) := by
      rw [← clip_abs, abs_of_nonneg (le_min (by norm_num) (le_max_of_le_right (by linarith)))]
    rw [this, show min |y| 6 * (1 / step (min |y| 6)) = (min |y| 6 / step (min |y| 6)) by ring]

/-- The kernel rounds stochastically as the reference does, with the value's sign. -/
theorem kStoch_coe (v inv u : ℝ) : kStoch (v : EReal) (inv : EReal) (u : EReal) = ((signed (v * inv) (qStoch (v * inv) u) : ℝ) : EReal) := by
  unfold kStoch; dsimp only
  rw [← EReal.coe_mul]
  generalize hy : v * inv = y
  rw [abs_coe, ofBits_kBin, abs_abs, kRecip_bin, kStep_bin, ← EReal.coe_mul, floor_coe, ← EReal.coe_sub, c_half, c_256i, ← EReal.coe_add,
    ← EReal.coe_mul, olt_coe, c_zero, olt_coe, c_one, c_six, select_ofBool, select_ofBool]
  have e : |y| * (1 / step |y|) = |y| / step |y| := by ring
  rw [e, show (u + 1 / 2) * (1 / 256) = (u + 1 / 2) / 256 by ring]
  unfold signed qStoch
  rw [← apply_ite (fun x : ℝ => (x : EReal)), ← EReal.coe_add, ← EReal.coe_mul, min_coe, ← EReal.coe_sub, zero_sub, ← apply_ite (fun x : ℝ => (x : EReal))]

/-- The byte of a grid value: four times the place, and the sign bit. -/
theorem kByte_coe (y q : ℝ) (h : OnGrid q) :
    kByte (((signed y q * (1 / 64) : ℝ)) : EReal) = BitVec.ofNat 8 (4 * (nib y q % 8) + 128 * (nib y q / 8)) := by
  unfold kByte; dsimp only
  rw [c_64, ← EReal.coe_mul, show signed y q * (1 / 64) * 64 = signed y q by ring, abs_coe, c_two, c_four, c_eight, c_16, c_128, c_zero,
    olt_coe, olt_coe, olt_coe, select_ofBool, select_ofBool, select_ofBool, ← EReal.coe_mul, ← EReal.coe_mul, ← EReal.coe_mul,
    ← EReal.coe_add, ← EReal.coe_add, ← apply_ite (fun x : ℝ => (x : EReal)), ← apply_ite (fun x : ℝ => (x : EReal)), ← apply_ite (fun x : ℝ => (x : EReal)),
    ← EReal.coe_add]
  unfold nib signed
  rcases place_grid q h with h | h | h | h | h | h | h | h <;> rw [h.2, h.1] <;> by_cases hy : y < 0 <;> simp only [hy, if_true, if_false, true_and, false_and] <;>
    norm_num
  all_goals first
    | (rw [← EReal.coe_zero, fptosi_coe _ 0 (by norm_num) (by norm_num)]; rfl)
    | (rw [fptosi_coe _ 4 (by norm_num) (by norm_num)]; rfl)
    | (rw [fptosi_coe _ 8 (by norm_num) (by norm_num)]; rfl)
    | (rw [fptosi_coe _ 12 (by norm_num) (by norm_num)]; rfl)
    | (rw [fptosi_coe _ 16 (by norm_num) (by norm_num)]; rfl)
    | (rw [fptosi_coe _ 20 (by norm_num) (by norm_num)]; rfl)
    | (rw [fptosi_coe _ 24 (by norm_num) (by norm_num)]; rfl)
    | (rw [fptosi_coe _ 28 (by norm_num) (by norm_num)]; rfl)
    | (rw [fptosi_coe _ 132 (by norm_num) (by norm_num)]; rfl)
    | (rw [fptosi_coe _ 136 (by norm_num) (by norm_num)]; rfl)
    | (rw [fptosi_coe _ 140 (by norm_num) (by norm_num)]; rfl)
    | (rw [fptosi_coe _ 144 (by norm_num) (by norm_num)]; rfl)
    | (rw [fptosi_coe _ 148 (by norm_num) (by norm_num)]; rfl)
    | (rw [fptosi_coe _ 152 (by norm_num) (by norm_num)]; rfl)
    | (rw [fptosi_coe _ 156 (by norm_num) (by norm_num)]; rfl)

end Cert.Mx

end
-- ==== Proof.Exponent.lean ====
module

public import proofs.«01_k».proof.Proof.Scalar

/-! # Shared exponents and packed bytes

The exponent a group's largest magnitude gives, for the round-to-nearest quantiser and for the
stochastic one; the words the kernel makes of it; the byte that holds two four-bit codes. -/

@[expose] public section

noncomputable section

namespace Cert.Mx

open Idealize.ShloMosaic

/-- The whole part of a number's base-two logarithm. -/
def ilog (a : ℝ) : ℤ := ⌊Real.log a / Real.log 2⌋

theorem le_ilog (n : ℤ) (a : ℝ) (h : 0 < a) : n ≤ ilog a ↔ (2 : ℝ) ^ n ≤ a := by
  unfold ilog
  rw [Int.le_floor, le_div_iff₀ (Real.log_pos (by norm_num)), ← Real.log_zpow, Real.log_le_log_iff (by positivity) h]

theorem ilog_lt (n : ℤ) (a : ℝ) (h : 0 < a) : ilog a < n ↔ a < (2 : ℝ) ^ n := by
  rw [← not_le, ← not_le, not_iff_not]; exact le_ilog n a h

/-- The shared exponent of a group with largest magnitude `a`, rounding to nearest. -/
def eX (a : ℝ) : ℤ := if a = 0 then 0 else ilog a - 2

/-- The shared exponent of a group with largest magnitude `a`, rounding stochastically. -/
def eY (a : ℝ) : ℤ := if a = 0 then 0 else ilog (a * sixth) + 1

/-- The largest magnitudes the precondition allows. -/
def OkX (a : ℝ) : Prop := a = 0 ∨ ((2 : ℝ) ^ (-124 : ℤ) ≤ a ∧ a < (2 : ℝ) ^ (128 : ℤ))
def OkY (a : ℝ) : Prop := a = 0 ∨ ((2 : ℝ) ^ (-126 : ℤ) ≤ a * sixth ∧ a < (2 : ℝ) ^ (128 : ℤ))

theorem log_bounds (a : ℝ) (m n : ℤ) (h1 : (2 : ℝ) ^ m ≤ a) (h2 : a < (2 : ℝ) ^ n) : m ≤ ilog a ∧ ilog a < n := by
  have h0 : 0 < a := lt_of_lt_of_le (by positivity) h1
  constructor
  · exact (le_ilog _ _ h0).2 h1
  · exact (ilog_lt _ _ h0).2 h2

theorem eX_bounds (a : ℝ) (h : OkX a) : -126 ≤ eX a ∧ eX a ≤ 125 := by
  unfold eX
  rcases h with h | ⟨h1, h2⟩
  · rw [if_pos h]; omega
  · rw [if_neg (by have : (0 : ℝ) < 2 ^ (-124 : ℤ) := by positivity
                   linarith)]
    have := log_bounds a _ _ h1 h2; omega

theorem eY_bounds (a : ℝ) (h : OkY a) : -125 ≤ eY a ∧ eY a ≤ 126 := by
  unfold eY
  rcases h with h | ⟨h1, h2⟩
  · rw [if_pos h]; omega
  · have hp : (0 : ℝ) < 2 ^ (-126 : ℤ) := by positivity
    have h3 : a * sixth < 2 ^ (126 : ℤ) := by
      have e : (2 : ℝ) ^ (128 : ℤ) = 2 ^ (126 : ℤ) * 4 := by norm_num
      rw [e] at h2; have : (0 : ℝ) < 2 ^ (126 : ℤ) := by positivity
      unfold sixth; linarith
    rw [if_neg (by intro h0; rw [h0, zero_mul] at h1; linarith)]
    have := log_bounds _ _ _ h1 h3; omega

/-- A scaled value of a stochastically rounded group is below six. -/
theorem scaled_lt (a v : ℝ) (h : OkY a) (hv : |v| ≤ a) : |v * (2 : ℝ) ^ (-eY a)| < 6 := by
  unfold eY
  rcases h with h | ⟨h1, h2⟩
  · rw [h] at hv ⊢; have : v = 0 := abs_eq_zero.1 (le_antisymm hv (abs_nonneg v))
    rw [this]; norm_num
  · have hp : (0 : ℝ) < 2 ^ (-126 : ℤ) := by positivity
    have h3 : a * sixth < 2 ^ (ilog (a * sixth) + 1) := (ilog_lt _ _ (lt_of_lt_of_le hp h1)).1 (by omega)
    rw [if_neg (by intro h0; rw [h0, zero_mul] at h1; linarith), abs_mul, zpow_neg, abs_of_pos (inv_pos.2 (by positivity : (0:ℝ) < 2 ^ (ilog (a * sixth) + 1))),
      ← div_eq_mul_inv, div_lt_iff₀ (by positivity)]
    unfold sixth at h3; unfold sixth
    generalize (2 : ℝ) ^ (ilog (a * (11184811 / 67108864)) + 1) = z at *
    have := abs_nonneg v
    linarith

/-! ## The largest threshold a magnitude reaches -/

theorem maxsi_cases (x y : BitVec 32) : (IntOp.maxsi x y = x ∨ IntOp.maxsi x y = y) ∧ x.toInt ≤ (IntOp.maxsi x y).toInt ∧ y.toInt ≤ (IntOp.maxsi x y).toInt := by
  unfold IntOp.maxsi
  by_cases h : y.slt x = true
  · rw [if_pos h]; rw [BitVec.slt_iff_toInt_lt] at h; exact ⟨.inl rfl, le_refl _, h.le⟩
  · rw [if_neg h]; rw [BitVec.slt_iff_toInt_lt] at h; exact ⟨.inr rfl, not_lt.1 h, le_refl _⟩

/-- A signed maximum over a set is attained and bounds every member. -/
theorem fold_maxsi {ι : Type} [DecidableEq ι] [Std.Commutative (IntOp.maxsi (w := 32))] [Std.Associative (IntOp.maxsi (w := 32))]
    (s : Finset ι) (b : BitVec 32) (f : ι → BitVec 32) :
    (s.fold IntOp.maxsi b f = b ∨ ∃ i ∈ s, s.fold IntOp.maxsi b f = f i) ∧ (∀ i ∈ s, (f i).toInt ≤ (s.fold IntOp.maxsi b f).toInt) := by
  induction s using Finset.induction_on with
  | empty => simp
  | insert x s hx ih =>
    rw [Finset.fold_insert hx]
    obtain ⟨c, l, r⟩ := maxsi_cases (f x) (s.fold IntOp.maxsi b f)
    constructor
    · rcases c with c | c
      · exact .inr ⟨x, Finset.mem_insert_self _ _, c⟩
      · rw [c]; rcases ih.1 with h | ⟨i, hi, h⟩
        · exact .inl h
        · exact .inr ⟨i, Finset.mem_insert_of_mem hi, h⟩
    · intro i hi; rcases Finset.mem_insert.1 hi with h | h
      · rw [h]; exact l
      · exact (ih.2 i h).trans r

theorem toInt_field (k : ℕ) (h : k < 256) : (BitVec.ofNat 32 (k * 8388608)).toInt = (k : ℤ) * 8388608 := by
  rw [BitVec.toInt_eq_toNat_cond, BitVec.toNat_ofNat]; split_ifs <;> omega

theorem ofBits_inf : Ideal.ofBits .f32 (BitVec.ofNat 32 (255 * 8388608)) = ⊤ := by simp [Ideal.ofBits, Ideal.ieee]

/-- The largest threshold that a zero or normal magnitude reaches is the exponent field's. -/
theorem fold_thresholds [Std.Commutative (IntOp.maxsi (w := 32))] [Std.Associative (IntOp.maxsi (w := 32))] (a : ℝ)
    (h : a = 0 ∨ ((2 : ℝ) ^ (-126 : ℤ) ≤ a ∧ a < (2 : ℝ) ^ (128 : ℤ))) (f : Fin 256 → BitVec 32)
    (hf : ∀ k : Fin 256, f k = Scalar.select (Ideal.cmp .oge (a : EReal) (Ideal.ofBits .f32 (BitVec.ofNat 32 (k.val * 8388608))))
      (BitVec.ofNat 32 (k.val * 8388608)) 0#32) :
    (Finset.univ : Finset (Fin 256)).fold IntOp.maxsi 2147483648#32 f
      = BitVec.ofNat 32 ((if a = 0 then 0 else (ilog a + 127).toNat) * 8388608) := by
  have hoge : ∀ x y : EReal, Ideal.cmp .oge x y = BitVec.ofBool (decide (y ≤ x)) := fun x y => by simp [Ideal.cmp]
  have hsel : ∀ k : Fin 256, f k = if Ideal.ofBits .f32 (BitVec.ofNat 32 (k.val * 8388608)) ≤ (a : EReal) then BitVec.ofNat 32 (k.val * 8388608) else 0#32 := fun k => by
    rw [hf, hoge, select_ofBool]
  obtain ⟨E, hE⟩ : ∃ E : ℕ, E = if a = 0 then 0 else (ilog a + 127).toNat := ⟨_, rfl⟩
  rw [← hE]
  have key : ∀ k : Fin 256, Ideal.ofBits .f32 (BitVec.ofNat 32 (k.val * 8388608)) ≤ (a : EReal) ↔ k.val ≤ E := by
    intro k
    rcases Nat.eq_zero_or_pos k.val with hk | hk
    · rw [hk]
      have : (0 : ℝ) ≤ a := by
        rcases h with h | h
        · rw [h]
        · exact le_trans (by positivity) h.1
      rw [show (0 * 8388608) = 0 by norm_num, c_zero]
      exact iff_of_true (EReal.coe_le_coe_iff.2 this) (Nat.zero_le _)
    by_cases hk' : k.val = 255
    · rw [hk', ofBits_inf, top_le_iff]
      refine iff_of_false (EReal.coe_ne_top a) ?_
      rw [hE]
      rcases h with h | h
      · rw [if_pos h]; omega
      · have := log_bounds a _ _ h.1 h.2
        split_ifs <;> omega
    · rw [c_pow k.val hk (by omega), EReal.coe_le_coe_iff, hE]
      rcases h with h | h
      · rw [if_pos h, h]
        exact iff_of_false (not_le.2 (by positivity)) (by omega)
      · have h0 : 0 < a := lt_of_lt_of_le (by positivity) h.1
        rw [if_neg h0.ne']
        have := log_bounds a _ _ h.1 h.2
        rw [← le_ilog _ _ h0]; omega
  have hE' : E < 255 := by
    rw [hE]
    rcases h with h | h
    · rw [if_pos h]; omega
    · have := log_bounds a _ _ h.1 h.2
      split_ifs <;> omega
  obtain ⟨c, l⟩ := fold_maxsi (Finset.univ : Finset (Fin 256)) 2147483648#32 f
  have hEm := l ⟨E, by omega⟩ (Finset.mem_univ _)
  rw [hsel, if_pos ((key _).2 (le_refl _)), toInt_field _ (by omega)] at hEm
  dsimp only at hEm
  have mi : (2147483648#32 : BitVec 32).toInt = -2147483648 := by decide
  rcases c with c | ⟨k, _, c⟩
  · rw [c, mi] at hEm; omega
  · rw [c] at hEm ⊢
    rw [hsel] at hEm ⊢
    split_ifs at hEm ⊢ with hk
    · rw [toInt_field _ k.isLt] at hEm
      have := (key k).1 hk
      have : k.val = E := by omega
      rw [this]
    · have z : (0#32 : BitVec 32).toInt = 0 := by decide
      rw [z] at hEm
      have : E = 0 := by omega
      rw [this]

/-! ## Words of the shared exponent -/

theorem field_sub (m k : ℕ) (hk : k ≤ m) : BitVec.ofNat 32 (m * 8388608) - BitVec.ofNat 32 (k * 8388608) = BitVec.ofNat 32 ((m - k) * 8388608) := by
  have : m * 8388608 = (m - k) * 8388608 + k * 8388608 := by rw [← Nat.add_mul, Nat.sub_add_cancel hk]
  rw [this, BitVec.ofNat_add, BitVec.add_sub_cancel]

theorem field_add (m k : ℕ) : BitVec.ofNat 32 (m * 8388608) + BitVec.ofNat 32 (k * 8388608) = BitVec.ofNat 32 ((m + k) * 8388608) := by
  rw [← BitVec.ofNat_add, Nat.add_mul]

/-- The field of a nearest-rounded group. -/
def fieldX (a : ℝ) : ℕ := (eX a + 129).toNat
/-- The field of a stochastically rounded group. -/
def fieldY (a : ℝ) : ℕ := (eY a + 126).toNat

theorem invX_word (a : ℝ) (h : OkX a) : Ideal.ofBits .f32 (2147483648#32 - BitVec.ofNat 32 (fieldX a * 8388608)) = (((2 : ℝ) ^ (-eX a) : ℝ) : EReal) := by
  have := eX_bounds a h
  rw [show (2147483648#32 : BitVec 32) = BitVec.ofNat 32 (256 * 8388608) by decide, field_sub _ _ (by unfold fieldX; omega), c_pow _ (by unfold fieldX; omega) (by unfold fieldX; omega)]
  congr 2; unfold fieldX; omega

theorem scaleX_word (a : ℝ) (h : OkX a) : Ideal.ofBits .f32 (BitVec.ofNat 32 (fieldX a * 8388608) - 16777216#32) = (((2 : ℝ) ^ (eX a) : ℝ) : EReal) := by
  have := eX_bounds a h
  rw [show (16777216#32 : BitVec 32) = BitVec.ofNat 32 (2 * 8388608) by decide, field_sub _ _ (by unfold fieldX; omega), c_pow _ (by unfold fieldX; omega) (by unfold fieldX; omega)]
  congr 2; unfold fieldX; omega

theorem invY_word (a : ℝ) (h : OkY a) : Ideal.ofBits .f32 (2122317824#32 - BitVec.ofNat 32 (fieldY a * 8388608)) = (((2 : ℝ) ^ (-eY a) : ℝ) : EReal) := by
  have := eY_bounds a h
  rw [show (2122317824#32 : BitVec 32) = BitVec.ofNat 32 (253 * 8388608) by decide, field_sub _ _ (by unfold fieldY; omega), c_pow _ (by unfold fieldY; omega) (by unfold fieldY; omega)]
  congr 2; unfold fieldY; omega

theorem scaleY_word (a : ℝ) (h : OkY a) : Ideal.ofBits .f32 (BitVec.ofNat 32 (fieldY a * 8388608) - 4286578688#32) = (((2 : ℝ) ^ (eY a) : ℝ) : EReal) := by
  have := eY_bounds a h
  rw [show (4286578688#32 : BitVec 32) = - BitVec.ofNat 32 (1 * 8388608) by decide, BitVec.sub_eq_add_neg, BitVec.neg_neg, field_add, c_pow _ (by unfold fieldY; omega) (by unfold fieldY; omega)]
  congr 2; unfold fieldY; omega

theorem field_shift : ∀ k : Fin 256, (BitVec.ofNat 32 (k.val * 8388608)) >>> (23#32) = BitVec.ofNat 32 k.val := by decide +kernel

/-- The byte a shared exponent is stored as. -/
def eByte (e : ℤ) : BitVec 32 := BitVec.ofInt 32 (e + 127)

theorem byteX_word (a : ℝ) (h : OkX a) : (BitVec.ofNat 32 (fieldX a * 8388608)) >>> (23#32) - 2#32 = eByte (eX a) := by
  have := eX_bounds a h
  have hs := field_shift ⟨fieldX a, by unfold fieldX; omega⟩
  dsimp only at hs
  rw [hs]
  unfold eByte
  obtain ⟨n, hn⟩ : ∃ n : ℕ, eX a + 127 = n := ⟨(eX a + 127).toNat, by omega⟩
  have : fieldX a = n + 2 := by unfold fieldX; omega
  rw [hn, this, BitVec.ofInt_natCast, BitVec.ofNat_add, BitVec.add_sub_cancel]

theorem byteY_word (a : ℝ) (h : OkY a) : (BitVec.ofNat 32 (fieldY a * 8388608)) >>> (23#32) - 4294967295#32 = eByte (eY a) := by
  have := eY_bounds a h
  have hs := field_shift ⟨fieldY a, by unfold fieldY; omega⟩
  dsimp only at hs
  rw [hs]
  unfold eByte
  obtain ⟨n, hn⟩ : ∃ n : ℕ, eY a + 127 = n := ⟨(eY a + 127).toNat, by omega⟩
  have : n = fieldY a + 1 := by unfold fieldY; omega
  rw [hn, this, BitVec.ofInt_natCast, BitVec.ofNat_add, show (4294967295#32 : BitVec 32) = - 1#32 by decide, BitVec.sub_eq_add_neg, BitVec.neg_neg]

/-! ## Packing two codes in a byte -/

/-- What the packing makes of the bytes of two eight-bit floats. -/
def pk (l h : BitVec 8) : BitVec 8 :=
  ((l >>> 2 &&& 7#8) ||| (l >>> 4 &&& 8#8)) ||| ((h <<< 2 &&& 0x70#8) ||| (h &&& 0x80#8))

theorem pk_codes (n m : ℕ) (hn : n < 16) (hm : m < 16) :
    pk (BitVec.ofNat 8 (4 * (n % 8) + 128 * (n / 8))) (BitVec.ofNat 8 (4 * (m % 8) + 128 * (m / 8))) = BitVec.ofNat 8 (n + 16 * m) := by
  have h : ∀ n m : Fin 16, pk (BitVec.ofNat 8 (4 * (n.val % 8) + 128 * (n.val / 8))) (BitVec.ofNat 8 (4 * (m.val % 8) + 128 * (m.val / 8))) = BitVec.ofNat 8 (n.val + 16 * m.val) := by
    decide +kernel
  exact h ⟨n, hn⟩ ⟨m, hm⟩

end Cert.Mx

end
-- ==== Proof.RefScalar.lean ====
module

public import proofs.«01_k».proof.Proof.Exponent

/-! # The reference's quantiser on one value

The reference's own operations on one value, and what they are over the real numbers. -/

@[expose] public section

noncomputable section

namespace Cert.Mx

open Idealize.ShloMosaic

/-- Division by a real that is not zero. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul]; rfl

/-- The spacing of the grid, as the reference selects it. -/
def rStep (t : EReal) : EReal :=
  Scalar.select (Ideal.cmp .olt t (Ideal.ofBits .f32 0x40000000#32)) (Ideal.ofBits .f32 0x3F000000#32)
    (Scalar.select (Ideal.cmp .olt t (Ideal.ofBits .f32 0x40800000#32)) (Ideal.ofBits .f32 0x3F800000#32) (Ideal.ofBits .f32 0x40000000#32))

theorem rStep_coe (t : ℝ) : rStep (t : EReal) = (step t : EReal) := by
  unfold rStep step
  rw [c_two, c_four, c_half, c_one, olt_coe, olt_coe, select_ofBool, select_ofBool]
  split_ifs <;> rfl

/-- The reference's rounding to nearest. -/
def rNear (y : EReal) : EReal :=
  Ideal.liftRound Ideal.roundHalfEven (Ideal.div (min (max y (-y)) (Ideal.ofBits .f32 0x40C00000#32)) (rStep (min (max y (-y)) (Ideal.ofBits .f32 0x40C00000#32))))
    * rStep (min (max y (-y)) (Ideal.ofBits .f32 0x40C00000#32))

theorem rNear_coe (y : ℝ) : rNear (y : EReal) = (qNear y : EReal) := by
  unfold rNear qNear
  rw [abs_coe, c_six, min_coe, rStep_coe, div_coe _ _ (step_pos _).ne', round_coe, ← EReal.coe_mul]

/-- The reference's stochastic rounding. -/
def rStoch (y : EReal) (b : BitVec 32) : EReal :=
  min ((Ideal.liftRound Int.floor (Ideal.div (max y (-y)) (rStep (max y (-y))))
      + FloatOps.uitofp (F := Ideal) .f32 (Ideal.cmp .olt (Ideal.div ((((b.toInt : ℝ)) : EReal) + Ideal.ofBits .f32 0x3F000000#32) (Ideal.ofBits .f32 0x43800000#32))
          (Ideal.div (max y (-y)) (rStep (max y (-y))) - Ideal.liftRound Int.floor (Ideal.div (max y (-y)) (rStep (max y (-y)))))))
    * rStep (max y (-y))) (Ideal.ofBits .f32 0x40C00000#32)

theorem uitofp_bool (p : Prop) [Decidable p] : FloatOps.uitofp (F := Ideal) .f32 (BitVec.ofBool (decide p)) = (((if p then 1 else 0 : ℝ)) : EReal) := by
  by_cases h : p
  · rw [decide_eq_true h, if_pos h]
    show (((1 : ℕ) : ℝ) : EReal) = _
    norm_num
  · rw [decide_eq_false h, if_neg h]
    show (((BitVec.ofBool false).toNat : ℝ) : EReal) = _
    norm_num

theorem rStoch_coe (y : ℝ) (b : BitVec 32) : rStoch (y : EReal) b = (qStoch y (b.toInt : ℝ) : EReal) := by
  unfold rStoch qStoch
  rw [abs_coe, c_six, rStep_coe, div_coe _ _ (step_pos _).ne', floor_coe, c_half, c_256, ← EReal.coe_add, div_coe _ _ (by norm_num), ← EReal.coe_sub, olt_coe,
    uitofp_bool, ← EReal.coe_add, ← EReal.coe_mul, min_coe]

/-- The reference's four-bit code. -/
def rCode (y q : EReal) : BitVec 32 :=
  Ideal.fptosi 32 (Scalar.select (Ideal.cmp .olt q (Ideal.ofBits .f32 0x40000000#32)) (Ideal.ofBits .f32 0x40000000#32 * q)
      (Scalar.select (Ideal.cmp .olt q (Ideal.ofBits .f32 0x40800000#32)) (q + Ideal.ofBits .f32 0x40000000#32)
        (q * Ideal.ofBits .f32 0x3F000000#32 + Ideal.ofBits .f32 0x40800000#32))
    + Scalar.select (IntOp.andi (Ideal.cmp .olt y (Ideal.ofBits .f32 0x00000000#32)) (Ideal.cmp .ogt q (Ideal.ofBits .f32 0x00000000#32)))
        (Ideal.ofBits .f32 0x41000000#32) (Ideal.ofBits .f32 0x00000000#32))

theorem andi_bool (p q : Prop) [Decidable p] [Decidable q] : IntOp.andi (BitVec.ofBool (decide p)) (BitVec.ofBool (decide q)) = BitVec.ofBool (decide (p ∧ q)) := by
  by_cases h : p <;> by_cases h' : q <;> simp [h, h', IntOp.andi]

theorem rCode_coe (y q : ℝ) (h : OnGrid q) : rCode (y : EReal) (q : EReal) = BitVec.ofNat 32 (nib y q) := by
  unfold rCode
  rw [c_two, c_four, c_half, c_eight, c_zero, olt_coe, olt_coe, olt_coe, ogt_coe, andi_bool, select_ofBool, select_ofBool, select_ofBool,
    ← EReal.coe_mul, ← EReal.coe_mul, ← EReal.coe_add, ← EReal.coe_add, ← apply_ite (fun x : ℝ => (x : EReal)), ← apply_ite (fun x : ℝ => (x : EReal)),
    ← apply_ite (fun x : ℝ => (x : EReal)), ← EReal.coe_add]
  refine fptosi_coe _ _ ?_ (by have := nib_lt y q h; omega)
  unfold nib
  rcases place_grid q h with h | h | h | h | h | h | h | h <;> rw [h.2, h.1] <;> by_cases hy : y < 0 <;> norm_num [hy]

/-- The reference's exponent of a group of `x`. -/
def rExpX (a : EReal) : BitVec 32 :=
  Scalar.select (Ideal.cmp .oeq a (Ideal.ofBits .f32 0x00000000#32)) 0#32
    (IntOp.subi (Ideal.fptosi 32 (Ideal.liftRound Int.floor (Ideal.div (Ideal.log a) (Ideal.log (Ideal.ofBits .f32 0x40000000#32))))) 2#32)

/-- The reference's exponent of a group of `dy`. -/
def rExpY (a : EReal) : BitVec 32 :=
  Scalar.select (Ideal.cmp .oeq a (Ideal.ofBits .f32 0x00000000#32)) 0#32
    (IntOp.addi (Ideal.fptosi 32 (Ideal.liftRound Int.floor (Ideal.div (Ideal.log (a * Ideal.ofBits .f32 0x3E2AAAAB#32)) (Ideal.log (Ideal.ofBits .f32 0x40000000#32))))) 1#32)

theorem oeq_coe (x y : ℝ) : Ideal.cmp .oeq (x : EReal) (y : EReal) = BitVec.ofBool (decide (x = y)) := by
  simp [Ideal.cmp]

/-- The floor of the logarithm to base two. -/
theorem log_word (a : ℝ) (h : 0 < a) (hb : -1000 < ilog a ∧ ilog a < 1000) :
    Ideal.fptosi 32 (Ideal.liftRound Int.floor (Ideal.div (Ideal.log (a : EReal)) (Ideal.log ((2 : ℝ) : EReal)))) = BitVec.ofInt 32 (ilog a) := by
  have e1 : Ideal.log (a : EReal) = (Real.log a : EReal) := by
    show (if a ≤ 0 then (⊥ : EReal) else _) = _; rw [if_neg (not_le.2 h)]
  have e2 : Ideal.log ((2 : ℝ) : EReal) = (Real.log 2 : EReal) := by
    show (if (2 : ℝ) ≤ 0 then (⊥ : EReal) else _) = _; rw [if_neg (by norm_num)]
  rw [e1, e2, div_coe _ _ (Real.log_pos (by norm_num)).ne', floor_coe]
  exact fptosi_int _ hb

theorem rExpX_coe (a : ℝ) (h : OkX a) (h0 : 0 ≤ a) : rExpX (a : EReal) = BitVec.ofInt 32 (eX a) := by
  have hb := eX_bounds a h
  unfold rExpX
  rw [c_zero, oeq_coe, select_ofBool, c_two]
  unfold eX at hb ⊢
  by_cases ha : a = 0
  · rw [if_pos ha, if_pos ha]; rfl
  · rw [if_neg ha] at hb ⊢
    rw [if_neg ha, log_word a (lt_of_le_of_ne h0 (Ne.symm ha)) (by omega)]
    show BitVec.ofInt 32 (ilog a) - 2#32 = _
    rw [sub_eq_add_neg, BitVec.ofInt_add, BitVec.sub_eq_add_neg]; rfl

theorem rExpY_coe (a : ℝ) (h : OkY a) (h0 : 0 ≤ a) : rExpY (a : EReal) = BitVec.ofInt 32 (eY a) := by
  have hb := eY_bounds a h
  unfold rExpY
  rw [c_zero, oeq_coe, select_ofBool, c_two, c_sixth, ← EReal.coe_mul]
  unfold eY at hb ⊢
  by_cases ha : a = 0
  · rw [if_pos ha, if_pos ha]; rfl
  · rw [if_neg ha] at hb ⊢
    rw [if_neg ha, log_word (a * sixth) (mul_pos (lt_of_le_of_ne h0 (Ne.symm ha)) (by unfold sixth; norm_num)) (by omega)]
    show BitVec.ofInt 32 (ilog (a * sixth)) + 1#32 = _
    rw [BitVec.ofInt_add]; rfl

/-- Two to a word's power. -/
def rPow (e : BitVec 32) : EReal := Ideal.pow (Ideal.ofBits .f32 0x40000000#32) (((e.toInt : ℝ)) : EReal)

theorem toInt_ofInt (z : ℤ) (h : -1000 < z ∧ z < 1000) : (BitVec.ofInt 32 z).toInt = z := by
  rw [BitVec.toInt_ofInt, Int.bmod_def]; norm_num; omega

theorem rPow_coe (z : ℤ) (h : -1000 < z ∧ z < 1000) : rPow (BitVec.ofInt 32 z) = (((2 : ℝ) ^ z : ℝ) : EReal) := by
  unfold rPow
  rw [toInt_ofInt z h, c_two]
  show ((Real.rpow 2 (z : ℝ) : ℝ) : EReal) = _
  exact congrArg _ (Real.rpow_intCast 2 z)

theorem rPow_neg (z : ℤ) (h : -1000 < z ∧ z < 1000) : rPow (-(BitVec.ofInt 32 z)) = (((2 : ℝ) ^ (-z) : ℝ) : EReal) := by
  rw [← rPow_coe (-z) (by omega), BitVec.ofInt_neg]

/-- A scale byte, decoded. -/
theorem rPow_byte (z : ℤ) (h : -127 ≤ z ∧ z ≤ 128) :
    rPow (IntOp.subi (((eByte z).setWidth 8).setWidth 32) 127#32) = (((2 : ℝ) ^ z : ℝ) : EReal) := by
  rw [← rPow_coe z (by omega)]
  congr 1
  obtain ⟨n, hn⟩ : ∃ n : ℕ, z + 127 = n := ⟨(z + 127).toNat, by omega⟩
  unfold eByte
  rw [hn, BitVec.ofInt_natCast, show z = (n : ℤ) + (-127 : ℤ) by omega, BitVec.ofInt_add, BitVec.ofInt_natCast]
  show _ - 127#32 = _ + BitVec.ofInt 32 (-127)
  have e : ((BitVec.ofNat 32 n).setWidth 8).setWidth 32 = BitVec.ofNat 32 n := by
    apply BitVec.eq_of_toNat_eq
    rw [BitVec.toNat_setWidth, BitVec.toNat_setWidth, BitVec.toNat_ofNat]; omega
  rw [e, BitVec.sub_eq_add_neg]; rfl

/-- The value of a four-bit code, as the reference decodes it. -/
def rDec (f : BitVec 32) : EReal :=
  let b3 := IntOp.cmpi .ne (IntOp.andi f 8#32) 0#32
  let b2 := IntOp.cmpi .ne (IntOp.andi f 4#32) 0#32
  let b1 := IntOp.cmpi .ne (IntOp.andi f 2#32) 0#32
  let b0 := IntOp.cmpi .ne (IntOp.andi f 1#32) 0#32
  let mag := Scalar.select b2 (Scalar.select b1 (Scalar.select b0 (Ideal.ofBits .f32 0x40C00000#32) (Ideal.ofBits .f32 0x40800000#32))
      (Scalar.select b0 (Ideal.ofBits .f32 0x40400000#32) (Ideal.ofBits .f32 0x40000000#32)))
    (Scalar.select b1 (Scalar.select b0 (Ideal.ofBits .f32 0x3FC00000#32) (Ideal.ofBits .f32 0x3F800000#32))
      (Scalar.select b0 (Ideal.ofBits .f32 0x3F000000#32) (Ideal.ofBits .f32 0x00000000#32)))
  Scalar.select b3 (-mag) mag

theorem c_three : Ideal.ofBits .f32 0x40400000#32 = ((3 : ℝ) : EReal) := by simp [Ideal.ofBits, Ideal.ieee, -EReal.coe_mul]; norm_num
theorem c_threehalf : Ideal.ofBits .f32 0x3FC00000#32 = ((3 / 2 : ℝ) : EReal) := by simp [Ideal.ofBits, Ideal.ieee, -EReal.coe_mul]; norm_num

/-- Which bits a code has. -/
theorem code_bits : ∀ n : Fin 16,
    IntOp.cmpi .ne (IntOp.andi (BitVec.ofNat 32 n.val) 8#32) 0#32 = BitVec.ofBool (decide (8 ≤ n.val))
      ∧ IntOp.cmpi .ne (IntOp.andi (BitVec.ofNat 32 n.val) 4#32) 0#32 = BitVec.ofBool (decide (4 ≤ n.val % 8))
      ∧ IntOp.cmpi .ne (IntOp.andi (BitVec.ofNat 32 n.val) 2#32) 0#32 = BitVec.ofBool (decide (2 ≤ n.val % 4))
      ∧ IntOp.cmpi .ne (IntOp.andi (BitVec.ofNat 32 n.val) 1#32) 0#32 = BitVec.ofBool (decide (1 ≤ n.val % 2)) := by decide +kernel

/-- Decoding a code gives the signed magnitude. -/
theorem rDec_nib (y q : ℝ) (h : OnGrid q) : rDec (BitVec.ofNat 32 (nib y q)) = (signed y q : EReal) := by
  obtain ⟨h3, h2, h1, h0⟩ := code_bits ⟨nib y q, nib_lt y q h⟩
  dsimp only at h3 h2 h1 h0
  unfold rDec
  dsimp only
  rw [h3, h2, h1, h0]
  simp only [select_ofBool]
  rw [c_two, c_four, c_half, c_one, c_six, c_three, c_threehalf, c_zero]
  unfold nib signed
  rcases place_grid q h with h | h | h | h | h | h | h | h <;> simp only [h.2] <;> simp only [h.1] <;> by_cases hy : y < 0 <;>
    norm_num [hy, -EReal.coe_div, EReal.coe_neg]

/-- The two codes of a byte, apart again. -/
theorem nibbles (a b : ℕ) (ha : a < 16) (hb : b < 16) :
    (IntOp.ori (BitVec.ofNat 32 a) (IntOp.shli .host (BitVec.ofNat 32 b) 4#32)).setWidth 8 = BitVec.ofNat 8 (a + 16 * b)
      ∧ IntOp.andi ((BitVec.ofNat 8 (a + 16 * b)).setWidth 32) 15#32 = BitVec.ofNat 32 a
      ∧ IntOp.shrsi .host ((BitVec.ofNat 8 (a + 16 * b)).setWidth 32) 4#32 = BitVec.ofNat 32 b := by
  have h : ∀ a b : Fin 16, (IntOp.ori (BitVec.ofNat 32 a.val) (IntOp.shli .host (BitVec.ofNat 32 b.val) 4#32)).setWidth 8 = BitVec.ofNat 8 (a.val + 16 * b.val)
      ∧ IntOp.andi ((BitVec.ofNat 8 (a.val + 16 * b.val)).setWidth 32) 15#32 = BitVec.ofNat 32 a.val
      ∧ IntOp.shrsi .host ((BitVec.ofNat 8 (a.val + 16 * b.val)).setWidth 32) 4#32 = BitVec.ofNat 32 b.val := by decide +kernel
  exact h ⟨a, ha⟩ ⟨b, hb⟩

end Cert.Mx

end
-- ==== Proof.Tile.lean ====
module

public import proofs.«01_k».proof.Proof.Gen.KernelIdeal.Skeleton

/-! # The arithmetic of one tile

One trip of the kernel's loop over tiles rotates a `256 × 256` tile and quantises its eight groups of
32 tokens. Written out, the eight groups are the same composition of vector operations at eight row
offsets. This module names that composition once. -/

@[expose] public section

noncomputable section

namespace Cert.KernelIdeal.Tile

open Idealize.ShloMosaic Idealize.SL.Sem Cert.KernelIdeal.Gen

variable {F : FTy → Type} [FloatOps F]

/-- The largest magnitude of a group, column by column. -/
def amaxV (lo hi : FVec F S16x256 .f32) : FVec F S1x256 .f32 :=
  shapeCast S1x256 (multiReduction .maximumf [0] S256 (maximumf (absf lo) (absf hi)) 0xFF800000#32
    reduces_S16x256_S256 (.inl rfl) rfl) shapeCasts_S256_S1x256

/-- The exponent thresholds `k <<< 23`, one per row. -/
def thrV : IVec S256x256 32 :=
  shli (iota .tc S256x256 32 [0] iota_S256x256_d0_w32) (broadcast S256x256 23#32)

/-- The exponent field of `a`: the largest threshold `a` reaches, and `d` where it reaches none but zero. -/
def exV (d : BitVec 32) (a : FVec F S1x256 .f32) : IVec S1x256 32 :=
  select (cmpi .eq
      (shapeCast S1x256 (multiReductionI .maxsi [0] S256
        (select (cmpf .oge (broadcastTo S256x256 a broadcasts_S1x256_S256x256) (bitcastToFloat .f32 thrV))
          thrV (broadcast S256x256 0#32)) 2147483648#32 reduces_S256x256_S256 rfl) shapeCasts_S256_S1x256)
      (broadcast S1x256 0#32))
    (broadcast S1x256 d)
    (shapeCast S1x256 (multiReductionI .maxsi [0] S256
        (select (cmpf .oge (broadcastTo S256x256 a broadcasts_S1x256_S256x256) (bitcastToFloat .f32 thrV))
          thrV (broadcast S256x256 0#32)) 2147483648#32 reduces_S256x256_S256 rfl) shapeCasts_S256_S1x256)

/-- A float read from `b` minus the exponent field: the reciprocal of the group's scale. -/
def invV (b : BitVec 32) (ex : IVec S1x256 32) : FVec F S1x256 .f32 :=
  bitcastToFloat .f32 (subi (broadcast S1x256 b) ex)

/-- A float read from the exponent field minus `b`: the group's scale. -/
def scaleV (b : BitVec 32) (ex : IVec S1x256 32) : FVec F S1x256 .f32 :=
  bitcastToFloat .f32 (subi ex (broadcast S1x256 b))

/-- The scale byte of a group: the exponent, less `b`. -/
def byteV (b : BitVec 32) (ex : IVec S1x256 32) : IVec S1x256 32 :=
  subi (shrui ex (broadcast S1x256 23#32)) (broadcast S1x256 b)

/-- The exponent field of the binade of a magnitude: 1, 2 or 4. -/
def binadeV (t : FVec F S16x256 .f32) : IVec S16x256 32 :=
  select (cmpf .olt (absf t) (broadcast S16x256 (Scalar.ofBits .f32 0x40000000#32)))
    (broadcast S16x256 1065353216#32)
    (select (cmpf .olt (absf t) (broadcast S16x256 (Scalar.ofBits .f32 0x40800000#32)))
      (broadcast S16x256 1073741824#32) (broadcast S16x256 1082130432#32))

/-- Two over the binade. -/
def recipV (p : FVec F S16x256 .f32) : FVec F S16x256 .f32 :=
  bitcastToFloat .f32 (subi (broadcast S16x256 2139095040#32) (binadeV p))

/-- Half the binade: the step of the four-bit grid. -/
def stepV (p : FVec F S16x256 .f32) : FVec F S16x256 .f32 :=
  mulf p (broadcast S16x256 (Scalar.ofBits .f32 0x3F000000#32))

/-- A scaled value, clipped to the largest code's magnitude. -/
def clipV (r : FVec F S16x256 .f32) (inv : FVec F S1x256 .f32) : FVec F S16x256 .f32 :=
  minimumf (broadcast S16x256 (Scalar.ofBits .f32 0x40C00000#32))
    (maximumf (broadcast S16x256 (Scalar.ofBits .f32 0xC0C00000#32))
      (mulf r (broadcastTo S16x256 inv broadcasts_S1x256_S16x256)))

/-- Rounding to nearest on the grid of the value's binade. -/
def nearV (y : FVec F S16x256 .f32) : FVec F S16x256 .f32 :=
  mulf (roundeven (mulf y (recipV (bitcastToFloat .f32 (binadeV y))))) (stepV (bitcastToFloat .f32 (binadeV y)))

/-- Round to nearest of a scaled block of rows. -/
def nearestV (r : FVec F S16x256 .f32) (inv : FVec F S1x256 .f32) : FVec F S16x256 .f32 :=
  nearV (clipV r inv)

/-- Stochastic rounding of a scaled block of rows. -/
def stochV (r : FVec F S16x256 .f32) (inv : FVec F S1x256 .f32) (rand : FVec F S16x256 .f32) :
    FVec F S16x256 .f32 :=
  let y := mulf r (broadcastTo S16x256 inv broadcasts_S1x256_S16x256)
  let t := absf y
  let p : FVec F S16x256 .f32 := bitcastToFloat .f32 (binadeV t)
  let u := mulf t (recipV p)
  let k := floor u
  let up := cmpf .olt (mulf (addf rand (broadcast S16x256 (Scalar.ofBits .f32 0x3F000000#32)))
    (broadcast S16x256 (Scalar.ofBits .f32 0x3B800000#32))) (subf u k)
  let q := minimumf (mulf (addf k (select up (broadcast S16x256 (Scalar.ofBits .f32 0x3F800000#32))
    (broadcast S16x256 (Scalar.ofBits .f32 0x00000000#32)))) (stepV p))
    (broadcast S16x256 (Scalar.ofBits .f32 0x40C00000#32))
  select (cmpf .olt y (broadcast S16x256 (Scalar.ofBits .f32 0x00000000#32)))
    (subf (broadcast S16x256 (Scalar.ofBits .f32 0x00000000#32)) q) q

/-- Two blocks of rows, one under the other. -/
def pairV (a b : FVec F S16x256 .f32) : FVec F S32x256 .f32 :=
  concatenate S32x256 0 [⟨S16x256, a⟩, ⟨S16x256, b⟩] concatenates_S16x256_S16x256_S32x256_d0

/-- The quantised values as eight-bit floats, scaled by `2^-6`. -/
def f8V (q : FVec F S32x256 .f32) : FVec F S32x256 .fp8e4m3 :=
  truncf .fp8e4m3 (mulf (truncf .bf16 q bitsLt_bf16_f32) (broadcast S32x256 (Scalar.ofBits .bf16 0x3C80#16)))
    bitsLt_fp8e4m3_bf16

/-- The bytes of the eight-bit floats: sign, exponent and mantissa fields of the unscaled values. -/
def fbyteV (f : FVec F S32x256 .fp8e4m3) : IVec S32x256 8 :=
  let v : FVec F S32x256 .f32 := mulf (extf .f32 f bitsLt_fp8e4m3_f32) (broadcast S32x256 (Scalar.ofBits .f32 0x42800000#32))
  let m := absf v
  let field := select (cmpf .olt m (broadcast S32x256 (Scalar.ofBits .f32 0x40000000#32)))
    (mulf (broadcast S32x256 (Scalar.ofBits .f32 0x41000000#32)) m)
    (select (cmpf .olt m (broadcast S32x256 (Scalar.ofBits .f32 0x40800000#32)))
      (addf (mulf (broadcast S32x256 (Scalar.ofBits .f32 0x40800000#32)) m) (broadcast S32x256 (Scalar.ofBits .f32 0x41000000#32)))
      (addf (mulf (broadcast S32x256 (Scalar.ofBits .f32 0x40000000#32)) m) (broadcast S32x256 (Scalar.ofBits .f32 0x41800000#32))))
  trunci 8 (fptosi 32 (addf field (select (cmpf .olt v (broadcast S32x256 (Scalar.ofBits .f32 0x00000000#32)))
    (broadcast S32x256 (Scalar.ofBits .f32 0x43000000#32)) (broadcast S32x256 (Scalar.ofBits .f32 0x00000000#32))))) natLt_8_32

/-- Four rows of bytes as one row of words. -/
def wordsV (b : IVec S32x256 8) : IVec S8x256 32 := bitcast S8x256 32 b bitcasts_S32x256_w8_S8x256_w32

/-- The packed codes: the low value's four bits below the high value's, four bytes at a time. -/
def packV (lo hi : IVec S8x256 32) : IVec S32x256 8 :=
  bitcast S32x256 8
    (ori (ori (andi (shrui lo (broadcast S8x256 2#32)) (broadcast S8x256 117901063#32))
        (andi (shrui lo (broadcast S8x256 4#32)) (broadcast S8x256 134744072#32)))
      (ori (andi (shli hi (broadcast S8x256 2#32)) (broadcast S8x256 1886417008#32))
        (andi hi (broadcast S8x256 2155905152#32)))) bitcasts_S8x256_w32_S32x256_w8

/-- The values the product reads: unscaled from the eight-bit format, times the group's scale. -/
def operandV (f : FVec F S32x256 .fp8e4m3) (sc : FVec F S32x256 .f32) : FVec F S32x256 .bf16 :=
  shapeCast S32x256 (mulf (mulf (extf .bf16 f bitsLt_fp8e4m3_bf16) (broadcast S32x256 (Scalar.ofBits .bf16 0x4280#16)))
    (truncf .bf16 sc bitsLt_bf16_f32)) shapeCasts_S32x256_S32x256

/-- A group's scale on each of its sixteen rows. -/
def scRowsV (s : FVec F S1x256 .f32) : FVec F S16x256 .f32 :=
  broadcastTo S16x256 (shapeCast S1x256 s shapeCasts_S1x256_S1x256) broadcasts_S1x256_S16x256

/-- The rotated tile. -/
def rotV (rot t : Vec F S256x256 .bf16) : FVec F S256x256 .f32 :=
  matmul (φ₁ := .bf16) (φ₂ := .bf16) dot_S256x256_S256x256_S256x256_1_0_0_1_n_n none (shapeCast S256x256 rot shapeCasts_S256x256_S256x256)
    (shapeCast S256x256 t shapeCasts_S256x256_S256x256) (constant S256x256 .f32 0x00000000#32)

/-- The random bytes of the tile as numbers, permuted as the rotation permutes the rows. -/
def randV (perm : Vec F S256x256 .bf16) (b : Vec F S256x256 .i8) : FVec F S256x256 .f32 :=
  matmul (φ₁ := .bf16) (φ₂ := .bf16) dot_S256x256_S256x256_S256x256_1_0_0_1_n_n none (shapeCast S256x256 perm shapeCasts_S256x256_S256x256)
    (truncf .bf16 (sitofp .f32 (extui 32 (shapeCast S256x256 b shapeCasts_S256x256_S256x256 : IVec S256x256 8) natLt_8_32)) bitsLt_bf16_f32)
    (constant S256x256 .f32 0x00000000#32)

/-- Sixteen rows of the tile from row `s` on. -/
abbrev rowsV (s : ℕ) (r : FVec F S256x256 .f32) (h : S256x256.Slices ![s, 0] S16x256 := by decide) :
    FVec F S16x256 .f32 := extractStridedSlice S16x256 ![s, 0] r h

/-- The exponent field of the group at rows `s` (even tokens) and `t` (odd tokens) of an `x` tile. -/
def exX (r : FVec F S256x256 .f32) (s t : ℕ) (hs : S256x256.Slices ![s, 0] S16x256 := by decide)
    (ht : S256x256.Slices ![t, 0] S16x256 := by decide) : IVec S1x256 32 :=
  exV 1082130432#32 (amaxV (rowsV s r hs) (rowsV t r ht))

/-- The exponent field of the same group of a `dy` tile, whose largest magnitude is divided by six. -/
def exY (r : FVec F S256x256 .f32) (s t : ℕ) (hs : S256x256.Slices ![s, 0] S16x256 := by decide)
    (ht : S256x256.Slices ![t, 0] S16x256 := by decide) : IVec S1x256 32 :=
  exV 1056964608#32 (mulf (amaxV (rowsV s r hs) (rowsV t r ht)) (broadcast S1x256 (Scalar.ofBits .f32 0x3E2AAAAB#32)))

/-- The values of a group of an `x` tile at rows `s`, in units of the group's scale, on the grid. -/
def qX (r : FVec F S256x256 .f32) (ex : IVec S1x256 32) (s : ℕ) (hs : S256x256.Slices ![s, 0] S16x256 := by decide) :
    FVec F S16x256 .f32 :=
  nearestV (rowsV s r hs) (invV 2147483648#32 ex)

/-- The values of a group of a `dy` tile at rows `s`, in units of the group's scale, on the grid. -/
def qY (r u : FVec F S256x256 .f32) (ex : IVec S1x256 32) (s : ℕ) (hs : S256x256.Slices ![s, 0] S16x256 := by decide) :
    FVec F S16x256 .f32 :=
  stochV (rowsV s r hs) (invV 2122317824#32 ex) (rowsV s u hs)

/-- The packed codes of two groups. -/
def codesV (a b c d : FVec F S16x256 .f32) : IVec S32x256 8 :=
  packV (wordsV (fbyteV (f8V (pairV a b)))) (wordsV (fbyteV (f8V (pairV c d))))

/-- The operand rows of two groups. -/
def opV (b : BitVec 32) (q q' : FVec F S16x256 .f32) (e e' : IVec S1x256 32) : FVec F S32x256 .bf16 :=
  operandV (f8V (pairV q q')) (pairV (scRowsV (scaleV b e)) (scRowsV (scaleV b e')))

/-- The eight scale bytes of a tile. -/
def bytesV (b0 b1 b2 b3 b4 b5 b6 b7 : IVec S1x256 32) : IVec S8x256 32 :=
  shapeCast S8x256 (concatenate S8x256 0 [⟨S1x256, b0⟩, ⟨S1x256, b1⟩, ⟨S1x256, b2⟩, ⟨S1x256, b3⟩, ⟨S1x256, b4⟩, ⟨S1x256, b5⟩, ⟨S1x256, b6⟩, ⟨S1x256, b7⟩]
    concatenates_S1x256_S1x256_S1x256_S1x256_S1x256_S1x256_S1x256_S1x256_S8x256_d0) shapeCasts_S8x256_S8x256

end Cert.KernelIdeal.Tile

end
-- ==== Proof.TilePt.lean ====
module

public import proofs.«01_k».proof.Proof.Tile
public import proofs.«01_k».proof.Proof.Exponent
public import Idealize.ShloMosaic.Lib.BitcastFour
public import Idealize.ShloMosaic.Lib.Pointwise
public import Idealize.ShloMosaic.Lib.ValueLayout
public import Idealize.ShloMosaic.Lib.MatmulPlain
public import Idealize.ShloMosaic.PureOps.Ideal.Laws

/-! # The tile's arithmetic, value by value

What each vector operation of a tile holds at one row and column, over the extended reals. -/

@[expose] public section

noncomputable section

namespace Cert.KernelIdeal.Tile

open Idealize.ShloMosaic hiding ix1 ix2 ix3
open Idealize.SL.Sem Cert.KernelIdeal.Gen Cert.Mx
open Idealize.ShloMosaic.ValueIdx

/-- Sixteen rows from row `s`. -/
theorem rowsV_apply (s : ℕ) (r : FVec Ideal S256x256 .f32) (h : S256x256.Slices ![s, 0] S16x256) (p : Fin 16) (c : Fin 256)
    (k : Fin 256) (hk : k.val = s + p.val) : rowsV s r h (ix2 p c) = r (ix2 k c) := by
  refine extractStridedSlice_apply _ r h _ _ fun a => ?_
  match a with
  | ⟨0, _⟩ => exact hk
  | ⟨1, _⟩ => show c.val = 0 + c.val; omega

/-- The largest magnitude of a group, as a supremum. -/
theorem amaxV_apply (lo hi : FVec Ideal S16x256 .f32) (c : Fin 256) :
    amaxV lo hi (ix2 (0 : Fin 1) c)
      = ⨆ p : Fin 16, max (max (lo (ix2 p c)) (-(lo (ix2 p c)))) (max (hi (ix2 p c)) (-(hi (ix2 p c)))) := by
  unfold amaxV
  refine (shapeCast_a_1a_apply _ _ _ _).trans ?_
  refine (Ideal.multiReduction_maximumf_single _ _ _ _ _ _).trans ?_
  apply eq_of_forall_ge_iff
  intro b
  rw [Finset.fold_max_le, iSup_le_iff]
  have e : ∀ p : Fin 16, reduces_S16x256_S256.lift (ix1 c) p = ix2 p c := fun p => by
    funext a; match a with
    | ⟨0, _⟩ => rfl
    | ⟨1, _⟩ => rfl
  constructor
  · rintro ⟨_, h⟩ p
    have := h p (Finset.mem_univ _)
    exact (congrArg (maximumf (absf lo) (absf hi)) (e p)).symm.trans_le this
  · intro h
    refine ⟨by show Ideal.ofBits .f32 0xFF800000#32 ≤ b; rw [c_ninf]; exact bot_le, fun p _ => ?_⟩
    exact (congrArg (maximumf (absf lo) (absf hi)) (e p)).trans_le (h p)

theorem thrV_apply (k c : Fin 256) : thrV (ix2 k c) = BitVec.ofNat 32 (k.val * 8388608) := by
  have h : ∀ k : Fin 256, IntOp.shli .vector (BitVec.ofNat 32 k.val) 23#32 = BitVec.ofNat 32 (k.val * 8388608) := by decide +kernel
  rw [← h]
  show IntOp.shli .vector (iota .tc S256x256 32 [0] iota_S256x256_d0_w32 (ix2 k c)) 23#32 = _
  rw [iota_single_apply]

/-- The exponent field of a zero or normal magnitude. -/
theorem exV_apply (d : BitVec 32) (a : FVec Ideal S1x256 .f32) (c : Fin 256) (α : ℝ) (ha : a (ix2 (0 : Fin 1) c) = (α : EReal))
    (h : α = 0 ∨ ((2 : ℝ) ^ (-126 : ℤ) ≤ α ∧ α < (2 : ℝ) ^ (128 : ℤ))) :
    exV d a (ix2 (0 : Fin 1) c) = if α = 0 then d else BitVec.ofNat 32 ((ilog α + 127).toNat * 8388608) := by
  have key : shapeCast S1x256 (multiReductionI .maxsi [0] S256
        (select (cmpf .oge (broadcastTo S256x256 a broadcasts_S1x256_S256x256) (bitcastToFloat .f32 thrV))
          thrV (broadcast S256x256 0#32)) 2147483648#32 reduces_S256x256_S256 rfl) shapeCasts_S256_S1x256 (ix2 (0 : Fin 1) c)
      = BitVec.ofNat 32 ((if α = 0 then 0 else (ilog α + 127).toNat) * 8388608) := by
    refine (shapeCast_a_1a_apply _ _ _ _).trans ?_
    refine (multiReductionI_eq_fold _ _ _ _ _ _).trans ?_
    refine (reduces_S256x256_S256.fold_filter_drop_single _ _ _ _).trans ?_
    refine fold_thresholds α h _ fun k => ?_
    have e : reduces_S256x256_S256.lift (ix1 c) k = ix2 (n0 := 256) (n1 := 256) k c := by
      funext a; match a with
      | ⟨0, _⟩ => rfl
      | ⟨1, _⟩ => rfl
    show (select _ _ _) (reduces_S256x256_S256.lift (ix1 c) k) = _
    rw [e]
    show Scalar.select (Ideal.cmp .oge (broadcastTo S256x256 a broadcasts_S1x256_S256x256 (ix2 k c)) (Ideal.ofBits .f32 (thrV (ix2 k c)))) (thrV (ix2 k c)) 0#32 = _
    rw [thrV_apply, broadcastTo_1b_ab_apply, ha]
  unfold exV
  show Scalar.select (IntOp.cmpi .eq (shapeCast S1x256 _ _ _) 0#32) d (shapeCast S1x256 _ _ _) = _
  rw [key]
  have hc : ∀ x : BitVec 32, IntOp.cmpi .eq x 0#32 = BitVec.ofBool (decide (x = 0#32)) := fun x => by
    show BitVec.ofBool (x == 0#32) = _
    rfl
  rw [hc, select_ofBool]
  by_cases hα : α = 0
  · rw [if_pos hα, if_pos hα, if_pos (by rfl)]
  · rw [if_neg hα, if_neg hα]
    rw [if_neg]
    intro hz
    have h' := h.resolve_left hα
    have := log_bounds _ _ _ h'.1 h'.2
    have h2 := congrArg BitVec.toInt hz
    rw [toInt_field _ (by omega)] at h2
    have z : (0#32 : BitVec 32).toInt = 0 := by decide
    rw [z] at h2; omega

/-- The binade's word of one value. -/
theorem binadeV_apply (t : FVec Ideal S16x256 .f32) (i : S16x256.Idx) : binadeV t i = kBin (t i) := rfl

theorem recipV_apply (t : FVec Ideal S16x256 .f32) (i : S16x256.Idx) : recipV t i = kRecip (t i) := by
  unfold kRecip; rw [← binadeV_apply]; rfl

theorem stepV_apply (t : FVec Ideal S16x256 .f32) (i : S16x256.Idx) : stepV t i = kStep (t i) := rfl

theorem binF_apply (t : FVec Ideal S16x256 .f32) (i : S16x256.Idx) :
    (bitcastToFloat .f32 (binadeV t) : FVec Ideal S16x256 .f32) i = Ideal.ofBits .f32 (kBin (t i)) := by
  rw [← binadeV_apply]; rfl

theorem scaled_apply (v : FVec Ideal S16x256 .f32) (b : BitVec 32) (ex : IVec S1x256 32) (p : Fin 16) (c : Fin 256) :
    mulf v (broadcastTo S16x256 (invV (F := Ideal) b ex) broadcasts_S1x256_S16x256) (ix2 p c)
      = v (ix2 p c) * Ideal.ofBits .f32 (b - ex (ix2 (0 : Fin 1) c)) := by
  have e : broadcastTo S16x256 (invV (F := Ideal) b ex) broadcasts_S1x256_S16x256 (ix2 p c) = Ideal.ofBits .f32 (b - ex (ix2 (0 : Fin 1) c)) :=
    broadcastTo_1b_ab_apply _ _ p c
  rw [← e]; rfl

/-- Rounding to nearest, one value. -/
theorem nearV_apply (y : FVec Ideal S16x256 .f32) (i : S16x256.Idx) :
    nearV y i = Ideal.liftRound Ideal.roundHalfEven (y i * kRecip (Ideal.ofBits .f32 (kBin (y i)))) * kStep (Ideal.ofBits .f32 (kBin (y i))) := by
  rw [← binF_apply y i, ← recipV_apply, ← stepV_apply]; rfl

/-- A value rounded to nearest, by the kernel's formula. -/
theorem qX_apply (r : FVec Ideal S256x256 .f32) (ex : IVec S1x256 32) (s : ℕ) (hs : S256x256.Slices ![s, 0] S16x256) (p : Fin 16) (c : Fin 256) :
    qX r ex s hs (ix2 p c) = kNear (rowsV s r hs (ix2 p c)) (Ideal.ofBits .f32 (2147483648#32 - ex (ix2 (0 : Fin 1) c))) := by
  unfold qX nearestV kNear
  rw [nearV_apply]
  have e : clipV (rowsV s r hs) (invV (F := Ideal) 2147483648#32 ex) (ix2 p c)
      = min (Ideal.ofBits .f32 0x40C00000#32) (max (Ideal.ofBits .f32 0xC0C00000#32)
        (rowsV s r hs (ix2 p c) * Ideal.ofBits .f32 (2147483648#32 - ex (ix2 (0 : Fin 1) c)))) := by
    rw [← scaled_apply]; rfl
  rw [e]

/-- A value rounded stochastically, by the kernel's formula. -/
theorem qY_apply (r u : FVec Ideal S256x256 .f32) (ex : IVec S1x256 32) (s : ℕ) (hs : S256x256.Slices ![s, 0] S16x256) (p : Fin 16) (c : Fin 256) :
    qY r u ex s hs (ix2 p c) = kStoch (rowsV s r hs (ix2 p c)) (Ideal.ofBits .f32 (2122317824#32 - ex (ix2 (0 : Fin 1) c))) (rowsV s u hs (ix2 p c)) := by
  unfold qY stochV kStoch
  rw [← scaled_apply]
  generalize rowsV s u hs = u'
  generalize mulf (rowsV s r hs) (broadcastTo S16x256 (invV (F := Ideal) 2122317824#32 ex) broadcasts_S1x256_S16x256) = y
  have e : ∀ t : FVec Ideal S16x256 .f32, kRecip (Ideal.ofBits .f32 (kBin (t (ix2 p c)))) = recipV (F := Ideal) (bitcastToFloat .f32 (binadeV t)) (ix2 p c) := fun t => by
    rw [recipV_apply, binF_apply]
  have e' : ∀ t : FVec Ideal S16x256 .f32, kStep (Ideal.ofBits .f32 (kBin (t (ix2 p c)))) = stepV (F := Ideal) (bitcastToFloat .f32 (binadeV t)) (ix2 p c) := fun t => by
    rw [stepV_apply, binF_apply]
  have ea : max (y (ix2 p c)) (-(y (ix2 p c))) = absf y (ix2 p c) := rfl
  dsimp only
  rw [ea, e, e']
  generalize recipV (F := Ideal) (bitcastToFloat .f32 (binadeV (absf y))) = a
  generalize stepV (F := Ideal) (bitcastToFloat .f32 (binadeV (absf y))) = b
  rfl

/-- Two stacked blocks. -/
theorem pairV_apply (a b : FVec Ideal S16x256 .f32) (p : Fin 32) (c : Fin 256) :
    pairV a b (ix2 p c) = if h : p.val < 16 then a (ix2 ⟨p.val, h⟩ c) else b (ix2 ⟨p.val - 16, by omega⟩ c) := by
  unfold pairV
  by_cases h : p.val < 16
  · rw [dif_pos h]
    refine concatenate_pair_apply_left (t := S32x256) (0 : Fin 2) a b _ (ix2 p c) rfl _ fun x => ?_
    match x with
    | ⟨0, _⟩ => rfl
    | ⟨1, _⟩ => rfl
  · rw [dif_neg h]
    refine concatenate_pair_apply_right (t := S32x256) (0 : Fin 2) a b _ (ix2 p c) rfl rfl _ (fun x hx => ?_) ?_
    · match x with
      | ⟨0, _⟩ => exact absurd rfl hx
      | ⟨1, _⟩ => rfl
    · show p.val - 16 + 16 = p.val; omega

/-- The packing of words, bit by bit: a byte of the packed word is the packed byte. -/
theorem pk_bit (l h : BitVec 8) (wl wh : BitVec 32) (m q : ℕ) (hm : m < 4) (hq : q < 8)
    (hl : ∀ k, k < 8 → wl.getLsbD (m * 8 + k) = l.getLsbD k) (hh : ∀ k, k < 8 → wh.getLsbD (m * 8 + k) = h.getLsbD k) :
    (((wl >>> 2#32 &&& 117901063#32) ||| (wl >>> 4#32 &&& 134744072#32)) ||| ((wh <<< 2#32 &&& 1886417008#32) ||| (wh &&& 2155905152#32))).getLsbD (m * 8 + q)
      = (pk l h).getLsbD q := by
  have m1 : ∀ m : Fin 4, ∀ q : Fin 8, (117901063#32).getLsbD (m.val * 8 + q.val) = decide (q.val < 3) := by decide
  have m2 : ∀ m : Fin 4, ∀ q : Fin 8, (134744072#32).getLsbD (m.val * 8 + q.val) = decide (q.val = 3) := by decide
  have m3 : ∀ m : Fin 4, ∀ q : Fin 8, (1886417008#32).getLsbD (m.val * 8 + q.val) = decide (4 ≤ q.val ∧ q.val < 7) := by decide
  have m4 : ∀ m : Fin 4, ∀ q : Fin 8, (2155905152#32).getLsbD (m.val * 8 + q.val) = decide (q.val = 7) := by decide
  have n1 : ∀ q : Fin 8, (7#8).getLsbD q.val = decide (q.val < 3) := by decide
  have n2 : ∀ q : Fin 8, (8#8).getLsbD q.val = decide (q.val = 3) := by decide
  have n3 : ∀ q : Fin 8, (0x70#8).getLsbD q.val = decide (4 ≤ q.val ∧ q.val < 7) := by decide
  have n4 : ∀ q : Fin 8, (0x80#8).getLsbD q.val = decide (q.val = 7) := by decide
  have m1 := m1 ⟨m, hm⟩ ⟨q, hq⟩; have m2 := m2 ⟨m, hm⟩ ⟨q, hq⟩; have m3 := m3 ⟨m, hm⟩ ⟨q, hq⟩; have m4 := m4 ⟨m, hm⟩ ⟨q, hq⟩
  have n1 := n1 ⟨q, hq⟩; have n2 := n2 ⟨q, hq⟩; have n3 := n3 ⟨q, hq⟩; have n4 := n4 ⟨q, hq⟩
  dsimp only at m1 m2 m3 m4 n1 n2 n3 n4
  unfold pk
  simp only [BitVec.getLsbD_or, BitVec.getLsbD_and, BitVec.getLsbD_ushiftRight, BitVec.getLsbD_shiftLeft, m1, m2, m3, m4, n1, n2, n3, n4,
    BitVec.ushiftRight_eq', BitVec.shiftLeft_eq', BitVec.toNat_ofNat]
  norm_num
  have a4 := hh q hq
  by_cases h1 : q < 3
  · have a1 := hl (q + 2) (by omega)
    rw [show 2 + (m * 8 + q) = m * 8 + (q + 2) by omega, a1, show 2 + q = q + 2 by omega]
    have : ¬ q = 3 := by omega
    have : ¬ 4 ≤ q := by omega
    have : ¬ q = 7 := by omega
    simp [*]
  by_cases h2 : q = 3
  · have a2 := hl (q + 4) (by omega)
    rw [show 4 + (m * 8 + q) = m * 8 + (q + 4) by omega, a2, show 4 + q = q + 4 by omega]
    subst h2; simp
  by_cases h3 : q < 7
  · have a3 := hh (q - 2) (by omega)
    rw [show m * 8 + q - 2 = m * 8 + (q - 2) by omega, a3]
    have : 4 ≤ q := by omega
    have : ¬ q = 7 := by omega
    have : 2 ≤ q := by omega
    have : m * 8 + q < 32 := by omega
    have : 2 ≤ m * 8 + q := by omega
    have : ¬ m * 8 + q < 2 := by omega
    have : ¬ q < 2 := by omega
    have : ¬ m * 8 + q ≤ 1 := by omega
    have : ¬ q ≤ 1 := by omega
    simp [*]
  · have : q = 7 := by omega
    subst this; simp [a4]

/-- The packed byte of two bytes in the same place. -/
theorem packV_apply (lo hi : IVec S32x256 8) (p : Fin 32) (c : Fin 256) :
    packV (wordsV lo) (wordsV hi) (ix2 p c) = pk (lo (ix2 p c)) (hi (ix2 p c)) := by
  have hw : ∀ (b : IVec S32x256 8) (k : ℕ), k < 8 → (wordsV b (ix2 (⟨p.val / 4, by omega⟩ : Fin 8) c)).getLsbD (p.val % 4 * 8 + k) = (b (ix2 p c)).getLsbD k := by
    intro b k hk
    have := bitcast_8_32_getLsbD_ix2 b bitcasts_S32x256_w8_S8x256_w32 (⟨p.val / 4, by omega⟩ : Fin 8) c (p.val % 4 * 8 + k) (by omega) p (by dsimp only; omega)
    rw [show (p.val % 4 * 8 + k) % 8 = k by omega] at this
    exact this
  apply BitVec.eq_of_getLsbD_eq
  intro q hq
  unfold packV
  rw [bitcast_getLsbD _ _ _ _ hq (by decide)]
  have e : ∀ hp, bitcasts_S8x256_w32_S32x256_w8.srcIdx (ix2 p c) ((S32x256.row (ix2 p c) * 8 + q) / 32) hp = ix2 (⟨p.val / 4, by omega⟩ : Fin 8) c := by
    intro hp; funext a
    match a with
    | ⟨0, _⟩ => exact Fin.ext ((Shape.Bitcasts.srcIdx_row _ _ _ _ ⟨0, by decide⟩ rfl).trans (by show (p.val * 8 + q) / 32 = p.val / 4; omega))
    | ⟨1, _⟩ => exact Fin.ext (Shape.Bitcasts.srcIdx_other _ _ _ _ ⟨1, by decide⟩ (by show ¬ 1 + 2 = 2; omega))
  rw [e, show (S32x256.row (ix2 p c) * 8 + q) % 32 = p.val % 4 * 8 + q by show (p.val * 8 + q) % 32 = _; omega]
  show (((wordsV lo _ >>> 2#32 &&& 117901063#32) ||| (wordsV lo _ >>> 4#32 &&& 134744072#32)) ||| ((wordsV hi _ <<< 2#32 &&& 1886417008#32) ||| (wordsV hi _ &&& 2155905152#32))).getLsbD _ = _
  have hl := hw lo
  have hh := hw hi
  generalize wordsV lo (ix2 (⟨p.val / 4, by omega⟩ : Fin 8) c) = wl at *
  generalize wordsV hi (ix2 (⟨p.val / 4, by omega⟩ : Fin 8) c) = wh at *
  generalize lo (ix2 p c) = l at *
  generalize hi (ix2 p c) = h at *
  have hm : p.val % 4 < 4 := by omega
  exact pk_bit l h wl wh (p.val % 4) q hm hq hl hh

/-- The bytes of the eight-bit floats, one value. -/
theorem fbyteV_apply (f : FVec Ideal S32x256 .fp8e4m3) (i : S32x256.Idx) : fbyteV f i = kByte (f i) := rfl

/-- The eight-bit float of one value. -/
theorem f8V_apply (q : FVec Ideal S32x256 .f32) (i : S32x256.Idx) : f8V q i = q i * Ideal.ofBits .bf16 0x3C80#16 := rfl

/-- The packed codes of two groups: the low half's code and sixteen times the high half's. -/
theorem codesV_apply (a b c d : FVec Ideal S16x256 .f32) (p : Fin 32) (l : Fin 256) (y q y' q' : ℝ) (hq : OnGrid q) (hq' : OnGrid q')
    (h : pairV a b (ix2 p l) = ((signed y q : ℝ) : EReal)) (h' : pairV c d (ix2 p l) = ((signed y' q' : ℝ) : EReal)) :
    codesV a b c d (ix2 p l) = BitVec.ofNat 8 (nib y q + 16 * nib y' q') := by
  unfold codesV
  rw [packV_apply, fbyteV_apply, fbyteV_apply, f8V_apply, f8V_apply, h, h', c_b64i, ← EReal.coe_mul, ← EReal.coe_mul, kByte_coe y q hq, kByte_coe y' q' hq',
    pk_codes _ _ (nib_lt y q hq) (nib_lt y' q' hq')]

/-- The operand's value: the quantised value times the group's scale. -/
theorem opV_apply (b : BitVec 32) (q q' : FVec Ideal S16x256 .f32) (e e' : IVec S1x256 32) (p : Fin 32) (l : Fin 256) (v sc : ℝ)
    (h : pairV q q' (ix2 p l) = (v : EReal))
    (h' : Ideal.ofBits .f32 ((if p.val < 16 then e else e') (ix2 (0 : Fin 1) l) - b) = (sc : EReal)) :
    opV b q q' e e' (ix2 p l) = ((v * sc : ℝ) : EReal) := by
  have hs : pairV (scRowsV (scaleV b e)) (scRowsV (scaleV (F := Ideal) b e')) (ix2 p l) = (sc : EReal) := by
    rw [pairV_apply, ← h']
    unfold scRowsV
    rw [shapeCast_self, shapeCast_self]
    split_ifs
    · exact broadcastTo_1b_ab_apply _ _ _ l
    · exact broadcastTo_1b_ab_apply _ _ _ l
  unfold opV operandV
  rw [shapeCast_self]
  have : mulf (mulf (extf .bf16 (f8V (pairV q q')) bitsLt_fp8e4m3_bf16) (broadcast S32x256 (Scalar.ofBits (F := Ideal) .bf16 0x4280#16)))
    (truncf .bf16 (pairV (scRowsV (scaleV b e)) (scRowsV (scaleV b e'))) bitsLt_bf16_f32) (ix2 p l)
      = (pairV q q' (ix2 p l) * Ideal.ofBits .bf16 0x3C80#16) * Ideal.ofBits .bf16 0x4280#16 * pairV (scRowsV (scaleV b e)) (scRowsV (scaleV (F := Ideal) b e')) (ix2 p l) := rfl
  rw [this, hs, h, c_b64i, c_b64, ← EReal.coe_mul, ← EReal.coe_mul, ← EReal.coe_mul]
  congr 1; ring

/-- The scale bytes of a tile, group by group. -/
theorem bytesV_apply (f : Fin 8 → IVec S1x256 32) (g : Fin 8) (l : Fin 256) :
    bytesV (f 0) (f 1) (f 2) (f 3) (f 4) (f 5) (f 6) (f 7) (ix2 g l) = f g (ix2 (0 : Fin 1) l) := by
  unfold bytesV
  rw [shapeCast_self]
  have e := concatenate_ofFn_unit_apply (t := S8x256) (s₁ := S1x256) (0 : Fin 2) f
    concatenates_S1x256_S1x256_S1x256_S1x256_S1x256_S1x256_S1x256_S1x256_S8x256_d0 rfl rfl (ix2 g l) g rfl (ix2 (0 : Fin 1) l)
    (fun b hb => by
      match b with
      | ⟨0, _⟩ => exact absurd rfl hb
      | ⟨1, _⟩ => rfl)
  exact e

/-- A scale byte: the exponent field shifted down, less a constant. -/
theorem byteV_apply (b : BitVec 32) (ex : IVec S1x256 32) (i : S1x256.Idx) : byteV b ex i = ex i >>> (23#32) - b := rfl

/-- The rotated tile. -/
theorem rotV_apply (rot t : Vec Ideal S256x256 .bf16) (p c : Fin 256) :
    rotV rot t (ix2 p c) = ∑ j : Fin 256, rot (ix2 p j) * t (ix2 j c) := by
  unfold rotV
  rw [shapeCast_self, shapeCast_self]
  refine (Ideal.matmul_plain_apply none _ _ (constant S256x256 .f32 0x00000000#32) p c).trans ?_
  show Ideal.ofBits .f32 0x00000000#32 + _ = _
  rw [c_zero, EReal.coe_zero, zero_add]

/-- The permuted random bytes. -/
theorem randV_apply (perm : Vec Ideal S256x256 .bf16) (b : Vec Ideal S256x256 .i8) (p c : Fin 256) :
    randV perm b (ix2 p c) = ∑ j : Fin 256, perm (ix2 p j) * (((((b (ix2 j c) : BitVec 8).setWidth 32).toInt : ℝ) : EReal)) := by
  unfold randV
  rw [shapeCast_self, shapeCast_self]
  refine (Ideal.matmul_plain_apply none _ _ (constant S256x256 .f32 0x00000000#32) p c).trans ?_
  show Ideal.ofBits .f32 0x00000000#32 + _ = _
  rw [c_zero, EReal.coe_zero, zero_add]
  rfl

end Cert.KernelIdeal.Tile

end
-- ==== Proof.Group.lean ====
module

public import proofs.«01_k».proof.Proof.TilePt

/-! # A tile's groups, in real numbers

What one tile's codes, operand rows and scale bytes are when the rotated tile holds real numbers and every group's largest
magnitude is in range. Row `R < 128` of the tile is the low value of its code, row `128 + R` the high one; both are of group
`R / 16`. -/

@[expose] public section

noncomputable section

namespace Cert.KernelIdeal.Tile

open Idealize.ShloMosaic hiding ix1 ix2 ix3
open Idealize.SL.Sem Cert.KernelIdeal.Gen Cert.Mx
open Idealize.ShloMosaic.ValueIdx

/-- The tile `r` holds the real numbers `ρ`, and `α` are its groups' largest magnitudes. -/
structure Holds (r : FVec Ideal S256x256 .f32) (ρ α : ℕ → ℕ → ℝ) : Prop where
  val : ∀ p c : Fin 256, r (ix2 p c) = ((ρ p.val c.val : ℝ) : EReal)
  sup : ∀ (g : Fin 8) (c : Fin 256), (⨆ p : Fin 16, max (max (((ρ (16 * g.val + p.val) c.val : ℝ) : EReal)) (-((ρ (16 * g.val + p.val) c.val : ℝ) : EReal)))
      (max (((ρ (128 + 16 * g.val + p.val) c.val : ℝ) : EReal)) (-((ρ (128 + 16 * g.val + p.val) c.val : ℝ) : EReal)))) = ((α g.val c.val : ℝ) : EReal)

variable {r u : FVec Ideal S256x256 .f32} {ρ α υ : ℕ → ℕ → ℝ}

/-- A block of sixteen rows of the tile. -/
theorem Holds.rows (H : Holds r ρ α) (s : ℕ) (hs : S256x256.Slices ![s, 0] S16x256) (p : Fin 16) (c : Fin 256) (h : s + 16 ≤ 256) :
    rowsV s r hs (ix2 p c) = ((ρ (s + p.val) c.val : ℝ) : EReal) := by
  rw [rowsV_apply s r hs p c ⟨s + p.val, by omega⟩ rfl, H.val]

/-- The largest magnitude of a group. -/
theorem Holds.amax (H : Holds r ρ α) (g : Fin 8) (s t : ℕ) (hs : S256x256.Slices ![s, 0] S16x256) (ht : S256x256.Slices ![t, 0] S16x256)
    (es : s = 16 * g.val) (et : t = 128 + 16 * g.val) (c : Fin 256) :
    amaxV (rowsV s r hs) (rowsV t r ht) (ix2 (0 : Fin 1) c) = ((α g.val c.val : ℝ) : EReal) := by
  rw [amaxV_apply, ← H.sup g c]
  refine iSup_congr fun p => ?_
  rw [H.rows s hs p c (by omega), H.rows t ht p c (by omega), es, et]

/-- No value of a group is larger than the largest. -/
theorem Holds.le (H : Holds r ρ α) (R : ℕ) (hR : R < 256) (c : Fin 256) : |ρ R c.val| ≤ α (R % 128 / 16) c.val := by
  have h := le_of_eq (H.sup ⟨R % 128 / 16, by omega⟩ c)
  rw [iSup_le_iff] at h
  have hp := h ⟨R % 16, by omega⟩
  dsimp only at hp
  rw [max_coe', max_coe', max_le_iff, EReal.coe_le_coe_iff, EReal.coe_le_coe_iff] at hp
  rcases Nat.lt_or_ge R 128 with h1 | h1
  · have e : 16 * (R % 128 / 16) + R % 16 = R := by omega
    rw [e] at hp; exact hp.1
  · have e : 128 + 16 * (R % 128 / 16) + R % 16 = R := by omega
    rw [e] at hp; exact hp.2
where
  max_coe' (x : ℝ) : max (x : EReal) (-(x : EReal)) = ((|x| : ℝ) : EReal) := by
    rw [← EReal.coe_neg, max_coe]; rfl

/-- A tile's exponent field of a group, for `x`. -/
theorem Holds.exX (H : Holds r ρ α) (g : Fin 8) (s t : ℕ) (hs : S256x256.Slices ![s, 0] S16x256) (ht : S256x256.Slices ![t, 0] S16x256)
    (es : s = 16 * g.val) (et : t = 128 + 16 * g.val) (c : Fin 256) (h : OkX (α g.val c.val)) :
    Tile.exX r s t hs ht (ix2 (0 : Fin 1) c) = BitVec.ofNat 32 (fieldX (α g.val c.val) * 8388608) := by
  unfold Tile.exX
  rw [exV_apply _ _ c _ (H.amax g s t hs ht es et c) (by
    rcases h with h | h
    · exact .inl h
    · exact .inr ⟨le_trans (by norm_num) h.1, h.2⟩)]
  unfold fieldX eX
  split_ifs with h0
  · rfl
  · congr 3; omega

/-- A tile's exponent field of a group, for `dy`. -/
theorem Holds.exY (H : Holds r ρ α) (g : Fin 8) (s t : ℕ) (hs : S256x256.Slices ![s, 0] S16x256) (ht : S256x256.Slices ![t, 0] S16x256)
    (es : s = 16 * g.val) (et : t = 128 + 16 * g.val) (c : Fin 256) (h : OkY (α g.val c.val)) :
    Tile.exY r s t hs ht (ix2 (0 : Fin 1) c) = BitVec.ofNat 32 (fieldY (α g.val c.val) * 8388608) := by
  unfold Tile.exY
  have hs6 : (0 : ℝ) < sixth := by unfold sixth; norm_num
  have hs1 : sixth ≤ 1 := by unfold sixth; norm_num
  rw [exV_apply _ _ c (α g.val c.val * sixth) (by
      show amaxV _ _ (ix2 (0 : Fin 1) c) * Ideal.ofBits .f32 0x3E2AAAAB#32 = _
      rw [H.amax g s t hs ht es et c, c_sixth, EReal.coe_mul]) (by
    rcases h with h | h
    · exact .inl (by rw [h, zero_mul])
    · have hp : 0 < α g.val c.val := by
        have : (0 : ℝ) < α g.val c.val * sixth := lt_of_lt_of_le (by positivity) h.1
        exact (mul_pos_iff_of_pos_right hs6).mp this
      exact .inr ⟨h.1, lt_of_le_of_lt (mul_le_of_le_one_right hp.le hs1) h.2⟩)]
  unfold fieldY eY
  have hz : α g.val c.val * sixth = 0 ↔ α g.val c.val = 0 := by
    rw [mul_eq_zero]; exact ⟨fun h => h.resolve_right hs6.ne', .inl⟩
  simp only [hz]
  split_ifs with h0
  · rfl
  · congr 3; omega

/-- The scaled value of row `R`, for `x`. -/
def yX (ρ α : ℕ → ℕ → ℝ) (R c : ℕ) : ℝ := ρ R c * (2 : ℝ) ^ (-eX (α (R % 128 / 16) c))
/-- The quantised value of row `R`, in units of its scale, for `x`. -/
def vX (ρ α : ℕ → ℕ → ℝ) (R c : ℕ) : ℝ := signed (yX ρ α R c) (qNear (yX ρ α R c))
/-- The scaled value of row `R`, for `dy`. -/
def yY (ρ α : ℕ → ℕ → ℝ) (R c : ℕ) : ℝ := ρ R c * (2 : ℝ) ^ (-eY (α (R % 128 / 16) c))
/-- The quantised value of row `R`, in units of its scale, for `dy`. -/
def vY (ρ α υ : ℕ → ℕ → ℝ) (R c : ℕ) : ℝ := signed (yY ρ α R c) (qStoch (yY ρ α R c) (υ R c))

/-- A block of quantised rows, for `x`. -/
theorem Holds.qX (H : Holds r ρ α) (g : Fin 8) (ex : IVec S1x256 32) (s : ℕ) (hs : S256x256.Slices ![s, 0] S16x256)
    (es : s % 128 = 16 * g.val) (hs' : s < 256) (p : Fin 16) (c : Fin 256) (h : OkX (α g.val c.val))
    (hex : ex (ix2 (0 : Fin 1) c) = BitVec.ofNat 32 (fieldX (α g.val c.val) * 8388608)) :
    Tile.qX r ex s hs (ix2 p c) = ((vX ρ α (s + p.val) c.val : ℝ) : EReal) := by
  have hp := p.isLt
  rw [qX_apply, H.rows s hs p c (by omega), hex, invX_word _ h, kNear_coe]
  unfold vX yX
  have e : (s + p.val) % 128 / 16 = g.val := by omega
  rw [e]

/-- A block of quantised rows, for `dy`. -/
theorem Holds.qY (H : Holds r ρ α) (hu : ∀ p c : Fin 256, u (ix2 p c) = ((υ p.val c.val : ℝ) : EReal)) (g : Fin 8) (ex : IVec S1x256 32)
    (s : ℕ) (hs : S256x256.Slices ![s, 0] S16x256)
    (es : s % 128 = 16 * g.val) (hs' : s < 256) (p : Fin 16) (c : Fin 256) (h : OkY (α g.val c.val))
    (hex : ex (ix2 (0 : Fin 1) c) = BitVec.ofNat 32 (fieldY (α g.val c.val) * 8388608)) :
    Tile.qY r u ex s hs (ix2 p c) = ((vY ρ α υ (s + p.val) c.val : ℝ) : EReal) := by
  have hp := p.isLt
  rw [qY_apply, H.rows s hs p c (by omega), hex, invY_word _ h, rowsV_apply s u hs p c ⟨s + p.val, by omega⟩ rfl, hu, kStoch_coe]
  unfold vY yY
  have e : (s + p.val) % 128 / 16 = g.val := by omega
  rw [e]

/-- Two blocks of sixteen rows, one after the other. -/
theorem pairV_rows (a b : FVec Ideal S16x256 .f32) (f : ℕ → ℝ) (s s' : ℕ) (c : Fin 256) (e : s' = s + 16)
    (ha : ∀ p : Fin 16, a (ix2 p c) = ((f (s + p.val) : ℝ) : EReal)) (hb : ∀ p : Fin 16, b (ix2 p c) = ((f (s' + p.val) : ℝ) : EReal)) (p : Fin 32) :
    pairV a b (ix2 p c) = ((f (s + p.val) : ℝ) : EReal) := by
  rw [pairV_apply]
  split_ifs with h
  · exact ha _
  · rw [hb, e]
    have e' : s + 16 + (p.val - 16) = s + p.val := by omega
    exact congrArg (fun n => ((f n : ℝ) : EReal)) e'

/-- The code of row `R`, for `x`. -/
def codeX (ρ α : ℕ → ℕ → ℝ) (R c : ℕ) : BitVec 8 :=
  BitVec.ofNat 8 (nib (yX ρ α R c) (qNear (yX ρ α R c)) + 16 * nib (yX ρ α (128 + R) c) (qNear (yX ρ α (128 + R) c)))
/-- The code of row `R`, for `dy`. -/
def codeY (ρ α υ : ℕ → ℕ → ℝ) (R c : ℕ) : BitVec 8 :=
  BitVec.ofNat 8 (nib (yY ρ α R c) (qStoch (yY ρ α R c) (υ R c)) + 16 * nib (yY ρ α (128 + R) c) (qStoch (yY ρ α (128 + R) c) (υ (128 + R) c)))

/-- The packed codes of two groups, for `x`. -/
theorem Holds.codesX (H : Holds r ρ α) (i : Fin 4) (s s' t t' : ℕ) (hs : S256x256.Slices ![s, 0] S16x256) (hs' : S256x256.Slices ![s', 0] S16x256)
    (ht : S256x256.Slices ![t, 0] S16x256) (ht' : S256x256.Slices ![t', 0] S16x256) (es : s = 32 * i.val) (es' : s' = s + 16)
    (et : t = s + 128) (et' : t' = t + 16) (p : Fin 32) (c : Fin 256)
    (h : OkX (α (2 * i.val) c.val)) (h' : OkX (α (2 * i.val + 1) c.val)) :
    codesV (Tile.qX r (Tile.exX r s t hs ht) s hs) (Tile.qX r (Tile.exX r s' t' hs' ht') s' hs') (Tile.qX r (Tile.exX r s t hs ht) t ht)
      (Tile.qX r (Tile.exX r s' t' hs' ht') t' ht') (ix2 p c) = codeX ρ α (32 * i.val + p.val) c.val := by
  have e1 := H.exX ⟨2 * i.val, by omega⟩ s t hs ht (by dsimp only; omega) (by dsimp only; omega) c h
  have e2 := H.exX ⟨2 * i.val + 1, by omega⟩ s' t' hs' ht' (by dsimp only; omega) (by dsimp only; omega) c h'
  have hi := i.isLt
  refine codesV_apply _ _ _ _ p c _ _ _ _ (qNear_grid _) (qNear_grid _) ?_ ?_
  · refine (pairV_rows _ _ (fun R => vX ρ α R c.val) s s' c es' (fun p => H.qX _ _ s hs ?_ ?_ p c h e1) (fun p => H.qX _ _ s' hs' ?_ ?_ p c h' e2) p).trans ?_
    any_goals ((try dsimp only); omega)
    rw [es]; rfl
  · refine (pairV_rows _ _ (fun R => vX ρ α R c.val) t t' c et' (fun p => H.qX _ _ t ht ?_ ?_ p c h e1) (fun p => H.qX _ _ t' ht' ?_ ?_ p c h' e2) p).trans ?_
    any_goals ((try dsimp only); omega)
    have e : t + p.val = 128 + (32 * i.val + p.val) := by omega
    rw [e]; rfl

/-- The packed codes of two groups, for `dy`. -/
theorem Holds.codesY (H : Holds r ρ α) (hu : ∀ p c : Fin 256, u (ix2 p c) = ((υ p.val c.val : ℝ) : EReal)) (i : Fin 4) (s s' t t' : ℕ)
    (hs : S256x256.Slices ![s, 0] S16x256) (hs' : S256x256.Slices ![s', 0] S16x256)
    (ht : S256x256.Slices ![t, 0] S16x256) (ht' : S256x256.Slices ![t', 0] S16x256) (es : s = 32 * i.val) (es' : s' = s + 16)
    (et : t = s + 128) (et' : t' = t + 16) (p : Fin 32) (c : Fin 256)
    (h : OkY (α (2 * i.val) c.val)) (h' : OkY (α (2 * i.val + 1) c.val)) :
    codesV (Tile.qY r u (Tile.exY r s t hs ht) s hs) (Tile.qY r u (Tile.exY r s' t' hs' ht') s' hs') (Tile.qY r u (Tile.exY r s t hs ht) t ht)
      (Tile.qY r u (Tile.exY r s' t' hs' ht') t' ht') (ix2 p c) = codeY ρ α υ (32 * i.val + p.val) c.val := by
  have e1 := H.exY ⟨2 * i.val, by omega⟩ s t hs ht (by dsimp only; omega) (by dsimp only; omega) c h
  have e2 := H.exY ⟨2 * i.val + 1, by omega⟩ s' t' hs' ht' (by dsimp only; omega) (by dsimp only; omega) c h'
  have hi := i.isLt
  have hp := p.isLt
  have ok : ∀ R, 32 * i.val ≤ R % 128 → R % 128 < 32 * i.val + 32 → OkY (α (R % 128 / 16) c.val) := by
    intro R h1 h2
    rcases (by omega : R % 128 / 16 = 2 * i.val ∨ R % 128 / 16 = 2 * i.val + 1) with e | e <;> rw [e] <;> assumption
  have lt : ∀ R, R < 256 → 32 * i.val ≤ R % 128 → R % 128 < 32 * i.val + 32 → |yY ρ α R c.val| < 6 := fun R h0 h1 h2 =>
    scaled_lt _ _ (ok R h1 h2) (H.le R h0 c)
  refine codesV_apply _ _ _ _ p c _ _ _ _ (qStoch_grid _ _ (lt _ ?_ ?_ ?_)) (qStoch_grid _ _ (lt _ ?_ ?_ ?_)) ?_ ?_
  any_goals omega
  · refine (pairV_rows _ _ (fun R => vY ρ α υ R c.val) s s' c es' (fun p => H.qY hu _ _ s hs ?_ ?_ p c h e1) (fun p => H.qY hu _ _ s' hs' ?_ ?_ p c h' e2) p).trans ?_
    any_goals ((try dsimp only); omega)
    rw [es]; rfl
  · refine (pairV_rows _ _ (fun R => vY ρ α υ R c.val) t t' c et' (fun p => H.qY hu _ _ t ht ?_ ?_ p c h e1) (fun p => H.qY hu _ _ t' ht' ?_ ?_ p c h' e2) p).trans ?_
    any_goals ((try dsimp only); omega)
    have e : t + p.val = 128 + (32 * i.val + p.val) := by omega
    rw [e]; rfl

/-- The operand rows of two groups, for `x`: `a` is the first row of them. -/
theorem Holds.opX (H : Holds r ρ α) (i : Fin 4) (a a' s s' t t' : ℕ) (hs : S256x256.Slices ![s, 0] S16x256) (hs' : S256x256.Slices ![s', 0] S16x256)
    (ht : S256x256.Slices ![t, 0] S16x256) (ht' : S256x256.Slices ![t', 0] S16x256) (ha : S256x256.Slices ![a, 0] S16x256) (ha' : S256x256.Slices ![a', 0] S16x256)
    (es : s = 32 * i.val) (es' : s' = s + 16) (et : t = s + 128) (et' : t' = t + 16) (ea : a = s ∨ a = t) (ea' : a' = a + 16) (p : Fin 32) (c : Fin 256)
    (h : OkX (α (2 * i.val) c.val)) (h' : OkX (α (2 * i.val + 1) c.val)) :
    opV 16777216#32 (Tile.qX r (Tile.exX r s t hs ht) a ha) (Tile.qX r (Tile.exX r s' t' hs' ht') a' ha') (Tile.exX r s t hs ht)
      (Tile.exX r s' t' hs' ht') (ix2 p c) = ((vX ρ α (a + p.val) c.val * (2 : ℝ) ^ eX (α ((a + p.val) % 128 / 16) c.val) : ℝ) : EReal) := by
  have e1 := H.exX ⟨2 * i.val, by omega⟩ s t hs ht (by dsimp only; omega) (by dsimp only; omega) c h
  have e2 := H.exX ⟨2 * i.val + 1, by omega⟩ s' t' hs' ht' (by dsimp only; omega) (by dsimp only; omega) c h'
  have hi := i.isLt
  have hp := p.isLt
  refine opV_apply _ _ _ _ _ p c _ _ ?_ ?_
  · refine (pairV_rows _ _ (fun R => vX ρ α R c.val) a a' c ea' (fun p => H.qX _ _ a ha ?_ ?_ p c h e1) (fun p => H.qX _ _ a' ha' ?_ ?_ p c h' e2) p).trans rfl
    all_goals ((try dsimp only); omega)
  · split_ifs with hq
    · have e : (a + p.val) % 128 / 16 = 2 * i.val := by omega
      rw [e1, e]; exact scaleX_word _ h
    · have e : (a + p.val) % 128 / 16 = 2 * i.val + 1 := by omega
      rw [e2, e]; exact scaleX_word _ h'

/-- The operand rows of two groups, for `dy`: `a` is the first row of them. -/
theorem Holds.opY (H : Holds r ρ α) (hu : ∀ p c : Fin 256, u (ix2 p c) = ((υ p.val c.val : ℝ) : EReal)) (i : Fin 4) (a a' s s' t t' : ℕ)
    (hs : S256x256.Slices ![s, 0] S16x256) (hs' : S256x256.Slices ![s', 0] S16x256)
    (ht : S256x256.Slices ![t, 0] S16x256) (ht' : S256x256.Slices ![t', 0] S16x256) (ha : S256x256.Slices ![a, 0] S16x256) (ha' : S256x256.Slices ![a', 0] S16x256)
    (es : s = 32 * i.val) (es' : s' = s + 16) (et : t = s + 128) (et' : t' = t + 16) (ea : a = s ∨ a = t) (ea' : a' = a + 16) (p : Fin 32) (c : Fin 256)
    (h : OkY (α (2 * i.val) c.val)) (h' : OkY (α (2 * i.val + 1) c.val)) :
    opV 4286578688#32 (Tile.qY r u (Tile.exY r s t hs ht) a ha) (Tile.qY r u (Tile.exY r s' t' hs' ht') a' ha') (Tile.exY r s t hs ht)
      (Tile.exY r s' t' hs' ht') (ix2 p c) = ((vY ρ α υ (a + p.val) c.val * (2 : ℝ) ^ eY (α ((a + p.val) % 128 / 16) c.val) : ℝ) : EReal) := by
  have e1 := H.exY ⟨2 * i.val, by omega⟩ s t hs ht (by dsimp only; omega) (by dsimp only; omega) c h
  have e2 := H.exY ⟨2 * i.val + 1, by omega⟩ s' t' hs' ht' (by dsimp only; omega) (by dsimp only; omega) c h'
  have hi := i.isLt
  have hp := p.isLt
  refine opV_apply _ _ _ _ _ p c _ _ ?_ ?_
  · refine (pairV_rows _ _ (fun R => vY ρ α υ R c.val) a a' c ea' (fun p => H.qY hu _ _ a ha ?_ ?_ p c h e1) (fun p => H.qY hu _ _ a' ha' ?_ ?_ p c h' e2) p).trans rfl
    all_goals ((try dsimp only); omega)
  · split_ifs with hq
    · have e : (a + p.val) % 128 / 16 = 2 * i.val := by omega
      rw [e1, e]; exact scaleY_word _ h
    · have e : (a + p.val) % 128 / 16 = 2 * i.val + 1 := by omega
      rw [e2, e]; exact scaleY_word _ h'

/-- A group's scale byte, for `x`. -/
theorem Holds.scX (H : Holds r ρ α) (g : Fin 8) (s t : ℕ) (hs : S256x256.Slices ![s, 0] S16x256) (ht : S256x256.Slices ![t, 0] S16x256)
    (es : s = 16 * g.val) (et : t = 128 + 16 * g.val) (c : Fin 256) (h : OkX (α g.val c.val)) :
    byteV 2#32 (Tile.exX r s t hs ht) (ix2 (0 : Fin 1) c) = eByte (eX (α g.val c.val)) := by
  rw [byteV_apply, H.exX g s t hs ht es et c h]; exact byteX_word _ h

/-- A group's scale byte, for `dy`. -/
theorem Holds.scY (H : Holds r ρ α) (g : Fin 8) (s t : ℕ) (hs : S256x256.Slices ![s, 0] S16x256) (ht : S256x256.Slices ![t, 0] S16x256)
    (es : s = 16 * g.val) (et : t = 128 + 16 * g.val) (c : Fin 256) (h : OkY (α g.val c.val)) :
    byteV 4294967295#32 (Tile.exY r s t hs ht) (ix2 (0 : Fin 1) c) = eByte (eY (α g.val c.val)) := by
  rw [byteV_apply, H.exY g s t hs ht es et c h]; exact byteY_word _ h

end Cert.KernelIdeal.Tile

end
-- ==== Proof.Trip.lean ====
module

public import proofs.«01_k».proof.Proof.Gen.KernelIdeal.Loops
public import proofs.«01_k».proof.Proof.Tile

/-! # What one trip of each loop stores

The stores of one trip, each a rectangle with the value stored, in the terms of `Tile`. -/

@[expose] public section

set_option maxRecDepth 8192

noncomputable section

namespace Cert.KernelIdeal.Tile

open Idealize.ShloMosaic Idealize.ShloMosaic.TcCoe Idealize.SL.Sem Cert.KernelIdeal.Gen

variable {F : FTy → Type} [FloatOps F]

/-- The packed codes one trip stores, of an `x` tile rotated to `r`. -/
def codePx (r : FVec F S256x256 .f32) (k : Fin k0_t2_loop.trips) : List (View.Piece (Elt F) S512x1024 .i8) :=
  [⟨Rect.unit (k0_off7 k 96#32) S32x256.size (k0_off7_inb k 3), codesV (qX r (exX r 96 224) 96) (qX r (exX r 112 240) 112) (qX r (exX r 96 224) 224) (qX r (exX r 112 240) 240)⟩,
   ⟨Rect.unit (k0_off7 k 64#32) S32x256.size (k0_off7_inb k 2), codesV (qX r (exX r 64 192) 64) (qX r (exX r 80 208) 80) (qX r (exX r 64 192) 192) (qX r (exX r 80 208) 208)⟩,
   ⟨Rect.unit (k0_off7 k 32#32) S32x256.size (k0_off7_inb k 1), codesV (qX r (exX r 32 160) 32) (qX r (exX r 48 176) 48) (qX r (exX r 32 160) 160) (qX r (exX r 48 176) 176)⟩,
   ⟨Rect.unit (k0_off7 k 0#32) S32x256.size (k0_off7_inb k 0), codesV (qX r (exX r 0 128) 0) (qX r (exX r 16 144) 16) (qX r (exX r 0 128) 128) (qX r (exX r 16 144) 144)⟩]

/-- The operand rows one trip stores, of an `x` tile rotated to `r`. -/
def opPx (r : FVec F S256x256 .f32) (k : Fin k0_t2_loop.trips) : List (View.Piece (Elt F) S1024x1024 .bf16) :=
  [⟨Rect.unit (k0_off9 k 96#32) S32x256.size (k0_off9_inb k 3), opV 16777216#32 (qX r (exX r 96 224) 224) (qX r (exX r 112 240) 240) (exX r 96 224) (exX r 112 240)⟩,
   ⟨Rect.unit (k0_off8 k 96#32) S32x256.size (k0_off8_inb k 3), opV 16777216#32 (qX r (exX r 96 224) 96) (qX r (exX r 112 240) 112) (exX r 96 224) (exX r 112 240)⟩,
   ⟨Rect.unit (k0_off9 k 64#32) S32x256.size (k0_off9_inb k 2), opV 16777216#32 (qX r (exX r 64 192) 192) (qX r (exX r 80 208) 208) (exX r 64 192) (exX r 80 208)⟩,
   ⟨Rect.unit (k0_off8 k 64#32) S32x256.size (k0_off8_inb k 2), opV 16777216#32 (qX r (exX r 64 192) 64) (qX r (exX r 80 208) 80) (exX r 64 192) (exX r 80 208)⟩,
   ⟨Rect.unit (k0_off9 k 32#32) S32x256.size (k0_off9_inb k 1), opV 16777216#32 (qX r (exX r 32 160) 160) (qX r (exX r 48 176) 176) (exX r 32 160) (exX r 48 176)⟩,
   ⟨Rect.unit (k0_off8 k 32#32) S32x256.size (k0_off8_inb k 1), opV 16777216#32 (qX r (exX r 32 160) 32) (qX r (exX r 48 176) 48) (exX r 32 160) (exX r 48 176)⟩,
   ⟨Rect.unit (k0_off9 k 0#32) S32x256.size (k0_off9_inb k 0), opV 16777216#32 (qX r (exX r 0 128) 128) (qX r (exX r 16 144) 144) (exX r 0 128) (exX r 16 144)⟩,
   ⟨Rect.unit (k0_off8 k 0#32) S32x256.size (k0_off8_inb k 0), opV 16777216#32 (qX r (exX r 0 128) 0) (qX r (exX r 16 144) 16) (exX r 0 128) (exX r 16 144)⟩]

/-- The scale bytes one trip stores, of an `x` tile rotated to `r`. -/
def scPx (r : FVec F S256x256 .f32) (k : Fin k0_t2_loop.trips) : List (View.Piece (Elt F) S32x1024 .i32) :=
  [⟨Rect.unit (k0_off10 k) S8x256.size (k0_off10_inb k), bytesV (byteV 2#32 (exX r 0 128)) (byteV 2#32 (exX r 16 144)) (byteV 2#32 (exX r 32 160)) (byteV 2#32 (exX r 48 176)) (byteV 2#32 (exX r 64 192)) (byteV 2#32 (exX r 80 208)) (byteV 2#32 (exX r 96 224)) (byteV 2#32 (exX r 112 240))⟩]

/-- The packed codes one trip stores, of an `dy` tile rotated to `r`. -/
def codePy (r u : FVec F S256x256 .f32) (i : grid0.Coords) (k0_h2 : k0_cond2 i = 1#1) (k : Fin k0_t1_loop.trips) : List (View.Piece (Elt F) S512x1024 .i8) :=
  [⟨Rect.unit (k0_off2 k 96#32) S32x256.size (k0_off2_inb i k k0_h2 3), codesV (qY r u (exY r 96 224) 96) (qY r u (exY r 112 240) 112) (qY r u (exY r 96 224) 224) (qY r u (exY r 112 240) 240)⟩,
   ⟨Rect.unit (k0_off2 k 64#32) S32x256.size (k0_off2_inb i k k0_h2 2), codesV (qY r u (exY r 64 192) 64) (qY r u (exY r 80 208) 80) (qY r u (exY r 64 192) 192) (qY r u (exY r 80 208) 208)⟩,
   ⟨Rect.unit (k0_off2 k 32#32) S32x256.size (k0_off2_inb i k k0_h2 1), codesV (qY r u (exY r 32 160) 32) (qY r u (exY r 48 176) 48) (qY r u (exY r 32 160) 160) (qY r u (exY r 48 176) 176)⟩,
   ⟨Rect.unit (k0_off2 k 0#32) S32x256.size (k0_off2_inb i k k0_h2 0), codesV (qY r u (exY r 0 128) 0) (qY r u (exY r 16 144) 16) (qY r u (exY r 0 128) 128) (qY r u (exY r 16 144) 144)⟩]

/-- The operand rows one trip stores, of an `dy` tile rotated to `r`. -/
def opPy (r u : FVec F S256x256 .f32) (i : grid0.Coords) (k0_h2 : k0_cond2 i = 1#1) (k : Fin k0_t1_loop.trips) : List (View.Piece (Elt F) S1024x1024 .bf16) :=
  [⟨Rect.unit (k0_off4 k 96#32) S32x256.size (k0_off4_inb i k k0_h2 3), opV 4286578688#32 (qY r u (exY r 96 224) 224) (qY r u (exY r 112 240) 240) (exY r 96 224) (exY r 112 240)⟩,
   ⟨Rect.unit (k0_off3 k 96#32) S32x256.size (k0_off3_inb i k k0_h2 3), opV 4286578688#32 (qY r u (exY r 96 224) 96) (qY r u (exY r 112 240) 112) (exY r 96 224) (exY r 112 240)⟩,
   ⟨Rect.unit (k0_off4 k 64#32) S32x256.size (k0_off4_inb i k k0_h2 2), opV 4286578688#32 (qY r u (exY r 64 192) 192) (qY r u (exY r 80 208) 208) (exY r 64 192) (exY r 80 208)⟩,
   ⟨Rect.unit (k0_off3 k 64#32) S32x256.size (k0_off3_inb i k k0_h2 2), opV 4286578688#32 (qY r u (exY r 64 192) 64) (qY r u (exY r 80 208) 80) (exY r 64 192) (exY r 80 208)⟩,
   ⟨Rect.unit (k0_off4 k 32#32) S32x256.size (k0_off4_inb i k k0_h2 1), opV 4286578688#32 (qY r u (exY r 32 160) 160) (qY r u (exY r 48 176) 176) (exY r 32 160) (exY r 48 176)⟩,
   ⟨Rect.unit (k0_off3 k 32#32) S32x256.size (k0_off3_inb i k k0_h2 1), opV 4286578688#32 (qY r u (exY r 32 160) 32) (qY r u (exY r 48 176) 48) (exY r 32 160) (exY r 48 176)⟩,
   ⟨Rect.unit (k0_off4 k 0#32) S32x256.size (k0_off4_inb i k k0_h2 0), opV 4286578688#32 (qY r u (exY r 0 128) 128) (qY r u (exY r 16 144) 144) (exY r 0 128) (exY r 16 144)⟩,
   ⟨Rect.unit (k0_off3 k 0#32) S32x256.size (k0_off3_inb i k k0_h2 0), opV 4286578688#32 (qY r u (exY r 0 128) 0) (qY r u (exY r 16 144) 16) (exY r 0 128) (exY r 16 144)⟩]

/-- The scale bytes one trip stores, of an `dy` tile rotated to `r`. -/
def scPy (r : FVec F S256x256 .f32) (i : grid0.Coords) (k0_h2 : k0_cond2 i = 1#1) (k : Fin k0_t1_loop.trips) : List (View.Piece (Elt F) S32x1024 .i32) :=
  [⟨Rect.unit (k0_off5 k) S8x256.size (k0_off5_inb i k k0_h2), bytesV (byteV 4294967295#32 (exY r 0 128)) (byteV 4294967295#32 (exY r 16 144)) (byteV 4294967295#32 (exY r 32 160)) (byteV 4294967295#32 (exY r 48 176)) (byteV 4294967295#32 (exY r 64 192)) (byteV 4294967295#32 (exY r 80 208)) (byteV 4294967295#32 (exY r 96 224)) (byteV 4294967295#32 (exY r 112 240))⟩]

/-- The trip's stores, in the terms above. -/
theorem trip_x (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (X_arg2 : BufTy.Contents (Elt F) arg2.view.ty) (X_arg4 : BufTy.Contents (Elt F) arg4.view.ty) (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k
      = (codePx (rotV (View.readAt (Elt F) arg2.view (Rect.unit (s := S256x256) ![0, 0] S256x256.size inb_S256x256_S256x256_0_0).toLoadRect X_arg2) (View.readAt (Elt F) arg4.view (Rect.unit (s := S1024x1024) (k0_off6 k) S256x256.size (k0_off6_inb k)).toLoadRect X_arg4)) k, opPx (rotV (View.readAt (Elt F) arg2.view (Rect.unit (s := S256x256) ![0, 0] S256x256.size inb_S256x256_S256x256_0_0).toLoadRect X_arg2) (View.readAt (Elt F) arg4.view (Rect.unit (s := S1024x1024) (k0_off6 k) S256x256.size (k0_off6_inb k)).toLoadRect X_arg4)) k, scPx (rotV (View.readAt (Elt F) arg2.view (Rect.unit (s := S256x256) ![0, 0] S256x256.size inb_S256x256_S256x256_0_0).toLoadRect X_arg2) (View.readAt (Elt F) arg4.view (Rect.unit (s := S1024x1024) (k0_off6 k) S256x256.size (k0_off6_inb k)).toLoadRect X_arg4)) k) := by
  unfold tripL_k0_t2 trip_k0_t2; rfl

/-- The trip's stores, in the terms above. -/
theorem trip_y (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (k0_h2 : k0_cond2 i = 1#1) (X_arg2 : BufTy.Contents (Elt F) arg2.view.ty) (X_arg3 : BufTy.Contents (Elt F) arg3.view.ty) (X_arg5 : BufTy.Contents (Elt F) arg5.view.ty) (X_arg6 : BufTy.Contents (Elt F) arg6.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k
      = (codePy (rotV (View.readAt (Elt F) arg2.view (Rect.unit (s := S256x256) ![0, 0] S256x256.size inb_S256x256_S256x256_0_0).toLoadRect X_arg2) (View.readAt (Elt F) arg5.view (Rect.unit (s := S1024x1024) (k0_off1 k) S256x256.size (k0_off1_inb i k k0_h2)).toLoadRect X_arg5)) (randV (View.readAt (Elt F) arg3.view (Rect.unit (s := S256x256) ![0, 0] S256x256.size inb_S256x256_S256x256_0_0).toLoadRect X_arg3) (View.readAt (Elt F) arg6.view (Rect.unit (s := S1024x1024) (k0_off1 k) S256x256.size (k0_off1_inb i k k0_h2)).toLoadRect X_arg6)) i k0_h2 k, opPy (rotV (View.readAt (Elt F) arg2.view (Rect.unit (s := S256x256) ![0, 0] S256x256.size inb_S256x256_S256x256_0_0).toLoadRect X_arg2) (View.readAt (Elt F) arg5.view (Rect.unit (s := S1024x1024) (k0_off1 k) S256x256.size (k0_off1_inb i k k0_h2)).toLoadRect X_arg5)) (randV (View.readAt (Elt F) arg3.view (Rect.unit (s := S256x256) ![0, 0] S256x256.size inb_S256x256_S256x256_0_0).toLoadRect X_arg3) (View.readAt (Elt F) arg6.view (Rect.unit (s := S1024x1024) (k0_off1 k) S256x256.size (k0_off1_inb i k k0_h2)).toLoadRect X_arg6)) i k0_h2 k, scPy (rotV (View.readAt (Elt F) arg2.view (Rect.unit (s := S256x256) ![0, 0] S256x256.size inb_S256x256_S256x256_0_0).toLoadRect X_arg2) (View.readAt (Elt F) arg5.view (Rect.unit (s := S1024x1024) (k0_off1 k) S256x256.size (k0_off1_inb i k k0_h2)).toLoadRect X_arg5)) i k0_h2 k) := by
  unfold tripL_k0_t1 trip_k0_t1; rfl

end Cert.KernelIdeal.Tile

end
-- ==== Proof.LoopKit.lean ====
module

public import proofs.«01_k».proof.Proof.Group
public import proofs.«01_k».proof.Proof.Trip

/-! # What the loops leave behind

After the sixteen trips of a loop over tiles, every entry of the packed codes, of the operand and of the scale bytes is the
entry of its tile. Tile `k` lies at rows `256 (k / 4)` and columns `256 (k % 4)` of the block. -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.Mx
open Idealize.ShloMosaic.ValueIdx

/-- The packed codes of a block of `x`. -/
def gCodeX (ρ α : ℕ → ℕ → ℕ → ℝ) (I : S512x1024.Idx) : BitVec 8 :=
  codeX (ρ (4 * ((I 0).val / 128) + (I 1).val / 256)) (α (4 * ((I 0).val / 128) + (I 1).val / 256)) ((I 0).val % 128) ((I 1).val % 256)
/-- The packed codes of a block of `dy`. -/
def gCodeY (ρ α υ : ℕ → ℕ → ℕ → ℝ) (I : S512x1024.Idx) : BitVec 8 :=
  codeY (ρ (4 * ((I 0).val / 128) + (I 1).val / 256)) (α (4 * ((I 0).val / 128) + (I 1).val / 256)) (υ (4 * ((I 0).val / 128) + (I 1).val / 256)) ((I 0).val % 128) ((I 1).val % 256)
/-- The operand of a tile of `x` at a row and column. -/
def oX (ρ α : ℕ → ℕ → ℝ) (R c : ℕ) : EReal := ((vX ρ α R c * (2 : ℝ) ^ eX (α (R % 128 / 16) c) : ℝ) : EReal)
/-- The operand of a tile of `dy` at a row and column. -/
def oY (ρ α υ : ℕ → ℕ → ℝ) (R c : ℕ) : EReal := ((vY ρ α υ R c * (2 : ℝ) ^ eY (α (R % 128 / 16) c) : ℝ) : EReal)
/-- The operand of a block of `x`. -/
def gOpX (ρ α : ℕ → ℕ → ℕ → ℝ) (I : S1024x1024.Idx) : EReal :=
  oX (ρ (4 * ((I 0).val / 256) + (I 1).val / 256)) (α (4 * ((I 0).val / 256) + (I 1).val / 256)) ((I 0).val % 256) ((I 1).val % 256)
/-- The operand of a block of `dy`. -/
def gOpY (ρ α υ : ℕ → ℕ → ℕ → ℝ) (I : S1024x1024.Idx) : EReal :=
  oY (ρ (4 * ((I 0).val / 256) + (I 1).val / 256)) (α (4 * ((I 0).val / 256) + (I 1).val / 256)) (υ (4 * ((I 0).val / 256) + (I 1).val / 256)) ((I 0).val % 256) ((I 1).val % 256)
/-- The scale bytes of a block of `x`. -/
def gScX (α : ℕ → ℕ → ℕ → ℝ) (I : S32x1024.Idx) : BitVec 32 := eByte (eX (α (4 * ((I 0).val / 8) + (I 1).val / 256) ((I 0).val % 8) ((I 1).val % 256)))
/-- The scale bytes of a block of `dy`. -/
def gScY (α : ℕ → ℕ → ℕ → ℝ) (I : S32x1024.Idx) : BitVec 32 := eByte (eY (α (4 * ((I 0).val / 8) + (I 1).val / 256) ((I 0).val % 8) ((I 1).val % 256)))

/-- A rectangle's index splits into its row and column. -/
theorem idx2 {a b : ℕ} (x : (⟨2, ![a, b]⟩ : Shape).Idx) : ∃ (p : Fin a) (c : Fin b), x = ix2 p c :=
  ⟨x 0, x 1, by funext i; fin_cases i <;> rfl⟩

/-- Reading of a function of a tile number, a row and a column at a place of the block. -/
theorem at_tile {β : Type} (f : ℕ → ℕ → ℕ → β) (w k R c I J : ℕ) (hw : 0 < w) (hI : I = w * (k / 4) + R) (hJ : J = 256 * (k % 4) + c)
    (hR : R < w) (hc : c < 256) : f (4 * (I / w) + J / 256) (I % w) (J % 256) = f k R c := by
  have h1 : I / w = k / 4 := by rw [hI, Nat.mul_add_div hw, Nat.div_eq_of_lt hR, Nat.add_zero]
  have h2 : I % w = R := by rw [hI, Nat.mul_add_mod, Nat.mod_eq_of_lt hR]
  have h3 : J / 256 = k % 4 := by omega
  have h4 : J % 256 = c := by omega
  rw [h1, h2, h3, h4, Nat.div_add_mod]

/-- A piece at a tile's place holds what a function of tile number, row and column says. -/
theorem emb_tile {β : Type} (f : ℕ → ℕ → ℕ → β) (w k a b : ℕ) (D0 D1 : ℕ) (off : Fin 2 → ℕ) (q0 : ℕ)
    (inb : ∀ i, off i + (⟨2, ![a, b]⟩ : Shape).size i ≤ (⟨2, ![D0, D1]⟩ : Shape).size i)
    (hoff : off = ![w * (k / 4) + q0, 256 * (k % 4)]) (hw : q0 + a ≤ w) (hb : b ≤ 256) (p : Fin a) (c : Fin b) :
    f (4 * (((Rect.unit (s := ⟨2, ![D0, D1]⟩) off (⟨2, ![a, b]⟩ : Shape).size inb).emb (ix2 p c) 0).val / w)
        + ((Rect.unit (s := ⟨2, ![D0, D1]⟩) off (⟨2, ![a, b]⟩ : Shape).size inb).emb (ix2 p c) 1).val / 256)
      (((Rect.unit (s := ⟨2, ![D0, D1]⟩) off (⟨2, ![a, b]⟩ : Shape).size inb).emb (ix2 p c) 0).val % w)
      (((Rect.unit (s := ⟨2, ![D0, D1]⟩) off (⟨2, ![a, b]⟩ : Shape).size inb).emb (ix2 p c) 1).val % 256) = f k (q0 + p.val) c.val := by
  subst hoff
  have hp := p.isLt
  have hc := c.isLt
  refine at_tile f w k _ _ _ _ (by omega) ?_ ?_ (by omega) (by omega)
  · rw [Rect.emb_apply]; show (w * (k / 4) + q0) + 1 * p.val = _; omega
  · rw [Rect.emb_apply]; show 256 * (k % 4) + 1 * c.val = _; omega

/-- All pieces of `L'` are `G`'s, and every place is in one: what the buffer reads afterwards. -/
theorem reads_of_pieces {sig : RefSig} {κ : Kind} {sp : Space} {s : Shape} {e : EltTy} {Val : EltTy → Type} (v : View sig κ sp s e) (f : v.ty.Contents Val)
    (L : List (View.Piece Val s e)) (G : s.Idx → Val e) (h : ∀ p ∈ L, ∀ x : p.1.shape.Idx, p.2 x = G (p.1.emb x)) (hc : ∀ y, ∃ p ∈ L, y ∈ p.1.set) :
    v.read Val (v.writes Val f L) = G :=
  funext fun y => View.read_writes_apply_of_pieces v f G L h y (hc y)

/-- A place lies in a tile's rectangle. -/
theorem mem_tile {D0 D1 a b : ℕ} (off : Fin 2 → ℕ) (inb : ∀ i, off i + (⟨2, ![a, b]⟩ : Shape).size i ≤ (⟨2, ![D0, D1]⟩ : Shape).size i) (o0 o1 : ℕ)
    (hoff : off = ![o0, o1]) (y : (⟨2, ![D0, D1]⟩ : Shape).Idx) (h0 : o0 ≤ (y 0).val) (h0' : (y 0).val < o0 + a) (h1 : o1 ≤ (y 1).val) (h1' : (y 1).val < o1 + b) :
    y ∈ (Rect.unit (s := ⟨2, ![D0, D1]⟩) off (⟨2, ![a, b]⟩ : Shape).size inb).set := by
  subst hoff
  rw [Rect.mem_set_unit]
  intro i; fin_cases i
  · exact ⟨h0, h0'⟩
  · exact ⟨h1, h1'⟩

end Cert.KernelIdeal.Tile

end
-- ==== Proof.LoopX.lean ====
module

public import proofs.«01_k».proof.Proof.LoopKit

/-! # What the loop over the tiles of `x` leaves behind -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.Mx
open Idealize.ShloMosaic.ValueIdx

variable {ρ α υ : ℕ → ℕ → ℕ → ℝ} {r u : FVec Ideal S256x256 .f32}

/-- The codes' pieces of one trip. -/
theorem codePx_at (k : Fin k0_t2_loop.trips) (H : Holds r (ρ k.val) (α k.val)) (ok : ∀ g c, g < 8 → c < 256 → OkX (α k.val g c)) :
    ∀ p ∈ codePx (F := Ideal) r k, ∀ x : p.1.shape.Idx, p.2 x = gCodeX ρ α (p.1.emb x) := by
  intro p hp
  simp only [codePx, List.mem_cons, List.mem_nil_iff, or_false] at hp
  rcases hp with rfl | rfl | rfl | rfl <;> intro x <;> obtain ⟨q, c, rfl⟩ := idx2 x
  · exact (H.codesX 3 _ _ _ _ _ _ _ _ rfl rfl rfl rfl q c (ok _ _ (by decide) c.isLt) (ok _ _ (by decide) c.isLt)).trans
      (emb_tile (fun k R c => codeX (ρ k) (α k) R c) 128 k.val 32 256 512 1024 _ 96 (k0_off7_inb k 3) (k0_off7_eq k 3) (by omega) (by omega) q c).symm
  · exact (H.codesX 2 _ _ _ _ _ _ _ _ rfl rfl rfl rfl q c (ok _ _ (by decide) c.isLt) (ok _ _ (by decide) c.isLt)).trans
      (emb_tile (fun k R c => codeX (ρ k) (α k) R c) 128 k.val 32 256 512 1024 _ 64 (k0_off7_inb k 2) (k0_off7_eq k 2) (by omega) (by omega) q c).symm
  · exact (H.codesX 1 _ _ _ _ _ _ _ _ rfl rfl rfl rfl q c (ok _ _ (by decide) c.isLt) (ok _ _ (by decide) c.isLt)).trans
      (emb_tile (fun k R c => codeX (ρ k) (α k) R c) 128 k.val 32 256 512 1024 _ 32 (k0_off7_inb k 1) (k0_off7_eq k 1) (by omega) (by omega) q c).symm
  · exact (H.codesX 0 _ _ _ _ _ _ _ _ rfl rfl rfl rfl q c (ok _ _ (by decide) c.isLt) (ok _ _ (by decide) c.isLt)).trans
      (emb_tile (fun k R c => codeX (ρ k) (α k) R c) 128 k.val 32 256 512 1024 _ 0 (k0_off7_inb k 0) (k0_off7_eq k 0) (by omega) (by omega) q c).symm

/-- The operand's pieces of one trip. -/
theorem opPx_at (k : Fin k0_t2_loop.trips) (H : Holds r (ρ k.val) (α k.val)) (ok : ∀ g c, g < 8 → c < 256 → OkX (α k.val g c)) :
    ∀ p ∈ opPx (F := Ideal) r k, ∀ x : p.1.shape.Idx, p.2 x = gOpX ρ α (p.1.emb x) := by
  intro p hp
  simp only [opPx, List.mem_cons, List.mem_nil_iff, or_false] at hp
  rcases hp with rfl | rfl | rfl | rfl | rfl | rfl | rfl | rfl <;> intro x <;> obtain ⟨q, c, rfl⟩ := idx2 x
  · exact (H.opX 3 224 240 96 112 224 240 _ _ _ _ _ _ rfl rfl rfl rfl (.inr rfl) rfl q c (ok _ _ (by decide) c.isLt) (ok _ _ (by decide) c.isLt)).trans
      (emb_tile (fun k R c => oX (ρ k) (α k) R c) 256 k.val 32 256 1024 1024 _ 224 (k0_off9_inb k 3) (k0_off9_eq k 3) (by omega) (by omega) q c).symm
  · exact (H.opX 3 96 112 96 112 224 240 _ _ _ _ _ _ rfl rfl rfl rfl (.inl rfl) rfl q c (ok _ _ (by decide) c.isLt) (ok _ _ (by decide) c.isLt)).trans
      (emb_tile (fun k R c => oX (ρ k) (α k) R c) 256 k.val 32 256 1024 1024 _ 96 (k0_off8_inb k 3) (k0_off8_eq k 3) (by omega) (by omega) q c).symm
  · exact (H.opX 2 192 208 64 80 192 208 _ _ _ _ _ _ rfl rfl rfl rfl (.inr rfl) rfl q c (ok _ _ (by decide) c.isLt) (ok _ _ (by decide) c.isLt)).trans
      (emb_tile (fun k R c => oX (ρ k) (α k) R c) 256 k.val 32 256 1024 1024 _ 192 (k0_off9_inb k 2) (k0_off9_eq k 2) (by omega) (by omega) q c).symm
  · exact (H.opX 2 64 80 64 80 192 208 _ _ _ _ _ _ rfl rfl rfl rfl (.inl rfl) rfl q c (ok _ _ (by decide) c.isLt) (ok _ _ (by decide) c.isLt)).trans
      (emb_tile (fun k R c => oX (ρ k) (α k) R c) 256 k.val 32 256 1024 1024 _ 64 (k0_off8_inb k 2) (k0_off8_eq k 2) (by omega) (by omega) q c).symm
  · exact (H.opX 1 160 176 32 48 160 176 _ _ _ _ _ _ rfl rfl rfl rfl (.inr rfl) rfl q c (ok _ _ (by decide) c.isLt) (ok _ _ (by decide) c.isLt)).trans
      (emb_tile (fun k R c => oX (ρ k) (α k) R c) 256 k.val 32 256 1024 1024 _ 160 (k0_off9_inb k 1) (k0_off9_eq k 1) (by omega) (by omega) q c).symm
  · exact (H.opX 1 32 48 32 48 160 176 _ _ _ _ _ _ rfl rfl rfl rfl (.inl rfl) rfl q c (ok _ _ (by decide) c.isLt) (ok _ _ (by decide) c.isLt)).trans
      (emb_tile (fun k R c => oX (ρ k) (α k) R c) 256 k.val 32 256 1024 1024 _ 32 (k0_off8_inb k 1) (k0_off8_eq k 1) (by omega) (by omega) q c).symm
  · exact (H.opX 0 128 144 0 16 128 144 _ _ _ _ _ _ rfl rfl rfl rfl (.inr rfl) rfl q c (ok _ _ (by decide) c.isLt) (ok _ _ (by decide) c.isLt)).trans
      (emb_tile (fun k R c => oX (ρ k) (α k) R c) 256 k.val 32 256 1024 1024 _ 128 (k0_off9_inb k 0) (k0_off9_eq k 0) (by omega) (by omega) q c).symm
  · exact (H.opX 0 0 16 0 16 128 144 _ _ _ _ _ _ rfl rfl rfl rfl (.inl rfl) rfl q c (ok _ _ (by decide) c.isLt) (ok _ _ (by decide) c.isLt)).trans
      (emb_tile (fun k R c => oX (ρ k) (α k) R c) 256 k.val 32 256 1024 1024 _ 0 (k0_off8_inb k 0) (k0_off8_eq k 0) (by omega) (by omega) q c).symm

/-- The scale bytes' piece of one trip. -/
theorem scPx_at (k : Fin k0_t2_loop.trips) (H : Holds r (ρ k.val) (α k.val)) (ok : ∀ g c, g < 8 → c < 256 → OkX (α k.val g c)) :
    ∀ p ∈ scPx (F := Ideal) r k, ∀ x : p.1.shape.Idx, p.2 x = gScX α (p.1.emb x) := by
  intro p hp
  simp only [scPx, List.mem_cons, List.mem_nil_iff, or_false] at hp
  rcases hp with rfl; intro x; obtain ⟨q, c, rfl⟩ := idx2 x
  refine Eq.trans ?_ (emb_tile (fun k R c => eByte (eX (α k R c))) 8 k.val 8 256 32 1024 _ 0 (k0_off10_inb k) (k0_off10_eq k) (by omega) (by omega) q c).symm
  refine (bytesV_apply ![_, _, _, _, _, _, _, _] q c).trans ?_
  rw [Nat.zero_add]
  fin_cases q
  · exact H.scX 0 _ _ _ _ rfl rfl c (ok _ _ (by decide) c.isLt)
  · exact H.scX 1 _ _ _ _ rfl rfl c (ok _ _ (by decide) c.isLt)
  · exact H.scX 2 _ _ _ _ rfl rfl c (ok _ _ (by decide) c.isLt)
  · exact H.scX 3 _ _ _ _ rfl rfl c (ok _ _ (by decide) c.isLt)
  · exact H.scX 4 _ _ _ _ rfl rfl c (ok _ _ (by decide) c.isLt)
  · exact H.scX 5 _ _ _ _ rfl rfl c (ok _ _ (by decide) c.isLt)
  · exact H.scX 6 _ _ _ _ rfl rfl c (ok _ _ (by decide) c.isLt)
  · exact H.scX 7 _ _ _ _ rfl rfl c (ok _ _ (by decide) c.isLt)

/-- A piece of the first `n` trips is a piece of one of them. -/
theorem pbx_at (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (X_arg2 : BufTy.Contents (Elt Ideal) arg2.view.ty) (X_arg4 : BufTy.Contents (Elt Ideal) arg4.view.ty) (G1 : S512x1024.Idx → BitVec 8) (G2 : S1024x1024.Idx → EReal) (G3 : S32x1024.Idx → BitVec 32)
    (h : ∀ k : Fin k0_t2_loop.trips, (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k).1, ∀ x : p.1.shape.Idx, p.2 x = G1 (p.1.emb x)) ∧
      (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k).2.1, ∀ x : p.1.shape.Idx, p.2 x = G2 (p.1.emb x)) ∧
      (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k).2.2, ∀ x : p.1.shape.Idx, p.2 x = G3 (p.1.emb x))) :
    ∀ m, m ≤ k0_t2_loop.trips → (∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 m).1, ∀ x : p.1.shape.Idx, p.2 x = G1 (p.1.emb x)) ∧
      (∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 m).2.1, ∀ x : p.1.shape.Idx, p.2 x = G2 (p.1.emb x)) ∧
      (∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 m).2.2, ∀ x : p.1.shape.Idx, p.2 x = G3 (p.1.emb x)) := by
  intro m
  induction m with
  | zero => intro _; exact ⟨fun p hp => absurd hp List.not_mem_nil, fun p hp => absurd hp List.not_mem_nil, fun p hp => absurd hp List.not_mem_nil⟩
  | succ m ih =>
    intro hm
    obtain ⟨i1, i2, i3⟩ := ih (Nat.le_of_succ_le hm)
    obtain ⟨h1, h2, h3⟩ := h ⟨m, hm⟩
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 ⟨m, hm⟩]
    exact ⟨fun p hp => (List.mem_append.mp hp).elim (h1 p) (i1 p), fun p hp => (List.mem_append.mp hp).elim (h2 p) (i2 p),
      fun p hp => (List.mem_append.mp hp).elim (h3 p) (i3 p)⟩

/-- A piece of a trip is among the pieces of all trips. -/
theorem pbx_mem (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (X_arg2 : BufTy.Contents (Elt Ideal) arg2.view.ty) (X_arg4 : BufTy.Contents (Elt Ideal) arg4.view.ty) (k : Fin k0_t2_loop.trips) :
    ∀ m, k.val < m → m ≤ k0_t2_loop.trips → (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k).1, p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 m).1) ∧
      (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k).2.1, p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 m).2.1) ∧ (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k).2.2, p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 m).2.2) := by
  intro m
  induction m with
  | zero => intro h; exact absurd h (Nat.not_lt_zero _)
  | succ m ih =>
    intro hk hm
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 ⟨m, hm⟩]
    rcases Nat.lt_succ_iff_lt_or_eq.mp hk with h | h
    · obtain ⟨i1, i2, i3⟩ := ih h (Nat.le_of_succ_le hm)
      exact ⟨fun p hp => List.mem_append_right _ (i1 p hp), fun p hp => List.mem_append_right _ (i2 p hp), fun p hp => List.mem_append_right _ (i3 p hp)⟩
    · obtain rfl : k = ⟨m, hm⟩ := Fin.ext h
      exact ⟨fun p hp => List.mem_append_left _ hp, fun p hp => List.mem_append_left _ hp, fun p hp => List.mem_append_left _ hp⟩

/-- The pieces of the whole loop are the block's codes, operand and scale bytes. -/
theorem loopx_at (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (X_arg2 : BufTy.Contents (Elt Ideal) arg2.view.ty) (X_arg4 : BufTy.Contents (Elt Ideal) arg4.view.ty)
    (H : ∀ k : Fin k0_t2_loop.trips, Holds (rotV (View.readAt (Elt Ideal) arg2.view (Rect.unit (s := S256x256) ![0, 0] S256x256.size inb_S256x256_S256x256_0_0).toLoadRect X_arg2) (View.readAt (Elt Ideal) arg4.view (Rect.unit (s := S1024x1024) (k0_off6 k) S256x256.size (k0_off6_inb k)).toLoadRect X_arg4)) (ρ k.val) (α k.val))
    (ok : ∀ k g c, k < 16 → g < 8 → c < 256 → OkX (α k g c)) :
    (∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k0_t2_loop.trips).1, ∀ x : p.1.shape.Idx, p.2 x = gCodeX ρ α (p.1.emb x)) ∧
      (∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k0_t2_loop.trips).2.1, ∀ x : p.1.shape.Idx, p.2 x = gOpX ρ α (p.1.emb x)) ∧
      (∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k0_t2_loop.trips).2.2, ∀ x : p.1.shape.Idx, p.2 x = gScX α (p.1.emb x)) := by
  refine pbx_at 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 _ _ _ (fun k => ?_) _ le_rfl
  have hk : k.val < 16 := lt_of_lt_of_eq k.isLt (by decide)
  rw [trip_x (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k]
  exact ⟨codePx_at k (H k) (fun g c => ok _ g c hk), opPx_at k (H k) (fun g c => ok _ g c hk), scPx_at k (H k) (fun g c => ok _ g c hk)⟩

/-- The pieces of the whole loop cover the block. -/
theorem loopx_cover (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (X_arg2 : BufTy.Contents (Elt Ideal) arg2.view.ty) (X_arg4 : BufTy.Contents (Elt Ideal) arg4.view.ty) :
    (∀ y, ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k0_t2_loop.trips).1, y ∈ p.1.set) ∧ (∀ y, ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k0_t2_loop.trips).2.1, y ∈ p.1.set) ∧
      (∀ y, ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k0_t2_loop.trips).2.2, y ∈ p.1.set) := by
  refine ⟨fun y => ?_, fun y => ?_, fun y => ?_⟩
  · have h0 : (y 0).val < 512 := (y 0).isLt
    have h1 : (y 1).val < 1024 := (y 1).isLt
    obtain ⟨k, hk⟩ : ∃ k : Fin k0_t2_loop.trips, k.val = 4 * ((y 0).val / 128) + (y 1).val / 256 := ⟨⟨_, lt_of_lt_of_eq (by omega : _ < 16) (by decide)⟩, rfl⟩
    have hm := (pbx_mem 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k k0_t2_loop.trips k.isLt le_rfl).1
    rw [trip_x (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k] at hm
    simp only [codePx, List.mem_cons, List.mem_nil_iff, or_false, forall_eq_or_imp, forall_eq] at hm
    obtain ⟨m3, m2, m1, m0⟩ := hm
    rcases (by omega : (y 0).val % 128 / 32 = 3 ∨ (y 0).val % 128 / 32 = 2 ∨ (y 0).val % 128 / 32 = 1 ∨ (y 0).val % 128 / 32 = 0) with h | h | h | h
    · exact ⟨_, m3, mem_tile _ (k0_off7_inb k 3) _ _ (k0_off7_eq k 3) y (by show 128 * (k.val / 4) + 32 * 3 ≤ _; omega) (by show _ < 128 * (k.val / 4) + 32 * 3 + 32; omega) (by omega) (by omega)⟩
    · exact ⟨_, m2, mem_tile _ (k0_off7_inb k 2) _ _ (k0_off7_eq k 2) y (by show 128 * (k.val / 4) + 32 * 2 ≤ _; omega) (by show _ < 128 * (k.val / 4) + 32 * 2 + 32; omega) (by omega) (by omega)⟩
    · exact ⟨_, m1, mem_tile _ (k0_off7_inb k 1) _ _ (k0_off7_eq k 1) y (by show 128 * (k.val / 4) + 32 * 1 ≤ _; omega) (by show _ < 128 * (k.val / 4) + 32 * 1 + 32; omega) (by omega) (by omega)⟩
    · exact ⟨_, m0, mem_tile _ (k0_off7_inb k 0) _ _ (k0_off7_eq k 0) y (by show 128 * (k.val / 4) + 32 * 0 ≤ _; omega) (by show _ < 128 * (k.val / 4) + 32 * 0 + 32; omega) (by omega) (by omega)⟩
  · have h0 : (y 0).val < 1024 := (y 0).isLt
    have h1 : (y 1).val < 1024 := (y 1).isLt
    obtain ⟨k, hk⟩ : ∃ k : Fin k0_t2_loop.trips, k.val = 4 * ((y 0).val / 256) + (y 1).val / 256 := ⟨⟨_, lt_of_lt_of_eq (by omega : _ < 16) (by decide)⟩, rfl⟩
    have hm := (pbx_mem 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k k0_t2_loop.trips k.isLt le_rfl).2.1
    rw [trip_x (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k] at hm
    simp only [opPx, List.mem_cons, List.mem_nil_iff, or_false, forall_eq_or_imp, forall_eq] at hm
    obtain ⟨m7, m3, m6, m2, m5, m1, m4, m0⟩ := hm
    rcases (by omega : (y 0).val % 256 / 32 = 7 ∨ (y 0).val % 256 / 32 = 6 ∨ (y 0).val % 256 / 32 = 5 ∨ (y 0).val % 256 / 32 = 4 ∨
      (y 0).val % 256 / 32 = 3 ∨ (y 0).val % 256 / 32 = 2 ∨ (y 0).val % 256 / 32 = 1 ∨ (y 0).val % 256 / 32 = 0) with h | h | h | h | h | h | h | h
    · exact ⟨_, m7, mem_tile _ (k0_off9_inb k 3) _ _ (k0_off9_eq k 3) y (by show 256 * (k.val / 4) + 32 * 3 + 128 ≤ _; omega) (by show _ < 256 * (k.val / 4) + 32 * 3 + 128 + 32; omega) (by omega) (by omega)⟩
    · exact ⟨_, m6, mem_tile _ (k0_off9_inb k 2) _ _ (k0_off9_eq k 2) y (by show 256 * (k.val / 4) + 32 * 2 + 128 ≤ _; omega) (by show _ < 256 * (k.val / 4) + 32 * 2 + 128 + 32; omega) (by omega) (by omega)⟩
    · exact ⟨_, m5, mem_tile _ (k0_off9_inb k 1) _ _ (k0_off9_eq k 1) y (by show 256 * (k.val / 4) + 32 * 1 + 128 ≤ _; omega) (by show _ < 256 * (k.val / 4) + 32 * 1 + 128 + 32; omega) (by omega) (by omega)⟩
    · exact ⟨_, m4, mem_tile _ (k0_off9_inb k 0) _ _ (k0_off9_eq k 0) y (by show 256 * (k.val / 4) + 32 * 0 + 128 ≤ _; omega) (by show _ < 256 * (k.val / 4) + 32 * 0 + 128 + 32; omega) (by omega) (by omega)⟩
    · exact ⟨_, m3, mem_tile _ (k0_off8_inb k 3) _ _ (k0_off8_eq k 3) y (by show 256 * (k.val / 4) + 32 * 3 ≤ _; omega) (by show _ < 256 * (k.val / 4) + 32 * 3 + 32; omega) (by omega) (by omega)⟩
    · exact ⟨_, m2, mem_tile _ (k0_off8_inb k 2) _ _ (k0_off8_eq k 2) y (by show 256 * (k.val / 4) + 32 * 2 ≤ _; omega) (by show _ < 256 * (k.val / 4) + 32 * 2 + 32; omega) (by omega) (by omega)⟩
    · exact ⟨_, m1, mem_tile _ (k0_off8_inb k 1) _ _ (k0_off8_eq k 1) y (by show 256 * (k.val / 4) + 32 * 1 ≤ _; omega) (by show _ < 256 * (k.val / 4) + 32 * 1 + 32; omega) (by omega) (by omega)⟩
    · exact ⟨_, m0, mem_tile _ (k0_off8_inb k 0) _ _ (k0_off8_eq k 0) y (by show 256 * (k.val / 4) + 32 * 0 ≤ _; omega) (by show _ < 256 * (k.val / 4) + 32 * 0 + 32; omega) (by omega) (by omega)⟩
  · have h0 : (y 0).val < 32 := (y 0).isLt
    have h1 : (y 1).val < 1024 := (y 1).isLt
    obtain ⟨k, hk⟩ : ∃ k : Fin k0_t2_loop.trips, k.val = 4 * ((y 0).val / 8) + (y 1).val / 256 := ⟨⟨_, lt_of_lt_of_eq (by omega : _ < 16) (by decide)⟩, rfl⟩
    have hm := (pbx_mem 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k k0_t2_loop.trips k.isLt le_rfl).2.2
    rw [trip_x (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg2 X_arg4 k] at hm
    simp only [scPx, List.mem_cons, List.mem_nil_iff, or_false, forall_eq_or_imp, forall_eq] at hm
    exact ⟨_, hm, mem_tile _ (k0_off10_inb k) _ _ (k0_off10_eq k) y (by omega) (by omega) (by omega) (by omega)⟩

end Cert.KernelIdeal.Tile

end
-- ==== Proof.LoopY.lean ====
module

public import proofs.«01_k».proof.Proof.LoopKit

/-! # What the loop over the tiles of `dy` leaves behind -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.Mx
open Idealize.ShloMosaic.ValueIdx

variable {ρ α υ : ℕ → ℕ → ℕ → ℝ} {r u : FVec Ideal S256x256 .f32}

/-- The codes' pieces of one trip. -/
theorem codePy_at (i : grid0.Coords) (k0_h2 : k0_cond2 i = 1#1) (k : Fin k0_t1_loop.trips) (H : Holds r (ρ k.val) (α k.val)) (hu : ∀ p c : Fin 256, u (ix2 p c) = ((υ k.val p.val c.val : ℝ) : EReal)) (ok : ∀ g c, g < 8 → c < 256 → OkY (α k.val g c)) :
    ∀ p ∈ codePy (F := Ideal) r u i k0_h2 k, ∀ x : p.1.shape.Idx, p.2 x = gCodeY ρ α υ (p.1.emb x) := by
  intro p hp
  simp only [codePy, List.mem_cons, List.mem_nil_iff, or_false] at hp
  rcases hp with rfl | rfl | rfl | rfl <;> intro x <;> obtain ⟨q, c, rfl⟩ := idx2 x
  · exact (H.codesY hu 3 _ _ _ _ _ _ _ _ rfl rfl rfl rfl q c (ok _ _ (by decide) c.isLt) (ok _ _ (by decide) c.isLt)).trans
      (emb_tile (fun k R c => codeY (ρ k) (α k) (υ k) R c) 128 k.val 32 256 512 1024 _ 96 (k0_off2_inb i k k0_h2 3) (k0_off2_eq k 3) (by omega) (by omega) q c).symm
  · exact (H.codesY hu 2 _ _ _ _ _ _ _ _ rfl rfl rfl rfl q c (ok _ _ (by decide) c.isLt) (ok _ _ (by decide) c.isLt)).trans
      (emb_tile (fun k R c => codeY (ρ k) (α k) (υ k) R c) 128 k.val 32 256 512 1024 _ 64 (k0_off2_inb i k k0_h2 2) (k0_off2_eq k 2) (by omega) (by omega) q c).symm
  · exact (H.codesY hu 1 _ _ _ _ _ _ _ _ rfl rfl rfl rfl q c (ok _ _ (by decide) c.isLt) (ok _ _ (by decide) c.isLt)).trans
      (emb_tile (fun k R c => codeY (ρ k) (α k) (υ k) R c) 128 k.val 32 256 512 1024 _ 32 (k0_off2_inb i k k0_h2 1) (k0_off2_eq k 1) (by omega) (by omega) q c).symm
  · exact (H.codesY hu 0 _ _ _ _ _ _ _ _ rfl rfl rfl rfl q c (ok _ _ (by decide) c.isLt) (ok _ _ (by decide) c.isLt)).trans
      (emb_tile (fun k R c => codeY (ρ k) (α k) (υ k) R c) 128 k.val 32 256 512 1024 _ 0 (k0_off2_inb i k k0_h2 0) (k0_off2_eq k 0) (by omega) (by omega) q c).symm

/-- The operand's pieces of one trip. -/
theorem opPy_at (i : grid0.Coords) (k0_h2 : k0_cond2 i = 1#1) (k : Fin k0_t1_loop.trips) (H : Holds r (ρ k.val) (α k.val)) (hu : ∀ p c : Fin 256, u (ix2 p c) = ((υ k.val p.val c.val : ℝ) : EReal)) (ok : ∀ g c, g < 8 → c < 256 → OkY (α k.val g c)) :
    ∀ p ∈ opPy (F := Ideal) r u i k0_h2 k, ∀ x : p.1.shape.Idx, p.2 x = gOpY ρ α υ (p.1.emb x) := by
  intro p hp
  simp only [opPy, List.mem_cons, List.mem_nil_iff, or_false] at hp
  rcases hp with rfl | rfl | rfl | rfl | rfl | rfl | rfl | rfl <;> intro x <;> obtain ⟨q, c, rfl⟩ := idx2 x
  · exact (H.opY hu 3 224 240 96 112 224 240 _ _ _ _ _ _ rfl rfl rfl rfl (.inr rfl) rfl q c (ok _ _ (by decide) c.isLt) (ok _ _ (by decide) c.isLt)).trans
      (emb_tile (fun k R c => oY (ρ k) (α k) (υ k) R c) 256 k.val 32 256 1024 1024 _ 224 (k0_off4_inb i k k0_h2 3) (k0_off4_eq k 3) (by omega) (by omega) q c).symm
  · exact (H.opY hu 3 96 112 96 112 224 240 _ _ _ _ _ _ rfl rfl rfl rfl (.inl rfl) rfl q c (ok _ _ (by decide) c.isLt) (ok _ _ (by decide) c.isLt)).trans
      (emb_tile (fun k R c => oY (ρ k) (α k) (υ k) R c) 256 k.val 32 256 1024 1024 _ 96 (k0_off3_inb i k k0_h2 3) (k0_off3_eq k 3) (by omega) (by omega) q c).symm
  · exact (H.opY hu 2 192 208 64 80 192 208 _ _ _ _ _ _ rfl rfl rfl rfl (.inr rfl) rfl q c (ok _ _ (by decide) c.isLt) (ok _ _ (by decide) c.isLt)).trans
      (emb_tile (fun k R c => oY (ρ k) (α k) (υ k) R c) 256 k.val 32 256 1024 1024 _ 192 (k0_off4_inb i k k0_h2 2) (k0_off4_eq k 2) (by omega) (by omega) q c).symm
  · exact (H.opY hu 2 64 80 64 80 192 208 _ _ _ _ _ _ rfl rfl rfl rfl (.inl rfl) rfl q c (ok _ _ (by decide) c.isLt) (ok _ _ (by decide) c.isLt)).trans
      (emb_tile (fun k R c => oY (ρ k) (α k) (υ k) R c) 256 k.val 32 256 1024 1024 _ 64 (k0_off3_inb i k k0_h2 2) (k0_off3_eq k 2) (by omega) (by omega) q c).symm
  · exact (H.opY hu 1 160 176 32 48 160 176 _ _ _ _ _ _ rfl rfl rfl rfl (.inr rfl) rfl q c (ok _ _ (by decide) c.isLt) (ok _ _ (by decide) c.isLt)).trans
      (emb_tile (fun k R c => oY (ρ k) (α k) (υ k) R c) 256 k.val 32 256 1024 1024 _ 160 (k0_off4_inb i k k0_h2 1) (k0_off4_eq k 1) (by omega) (by omega) q c).symm
  · exact (H.opY hu 1 32 48 32 48 160 176 _ _ _ _ _ _ rfl rfl rfl rfl (.inl rfl) rfl q c (ok _ _ (by decide) c.isLt) (ok _ _ (by decide) c.isLt)).trans
      (emb_tile (fun k R c => oY (ρ k) (α k) (υ k) R c) 256 k.val 32 256 1024 1024 _ 32 (k0_off3_inb i k k0_h2 1) (k0_off3_eq k 1) (by omega) (by omega) q c).symm
  · exact (H.opY hu 0 128 144 0 16 128 144 _ _ _ _ _ _ rfl rfl rfl rfl (.inr rfl) rfl q c (ok _ _ (by decide) c.isLt) (ok _ _ (by decide) c.isLt)).trans
      (emb_tile (fun k R c => oY (ρ k) (α k) (υ k) R c) 256 k.val 32 256 1024 1024 _ 128 (k0_off4_inb i k k0_h2 0) (k0_off4_eq k 0) (by omega) (by omega) q c).symm
  · exact (H.opY hu 0 0 16 0 16 128 144 _ _ _ _ _ _ rfl rfl rfl rfl (.inl rfl) rfl q c (ok _ _ (by decide) c.isLt) (ok _ _ (by decide) c.isLt)).trans
      (emb_tile (fun k R c => oY (ρ k) (α k) (υ k) R c) 256 k.val 32 256 1024 1024 _ 0 (k0_off3_inb i k k0_h2 0) (k0_off3_eq k 0) (by omega) (by omega) q c).symm

/-- The scale bytes' piece of one trip. -/
theorem scPy_at (i : grid0.Coords) (k0_h2 : k0_cond2 i = 1#1) (k : Fin k0_t1_loop.trips) (H : Holds r (ρ k.val) (α k.val)) (ok : ∀ g c, g < 8 → c < 256 → OkY (α k.val g c)) :
    ∀ p ∈ scPy (F := Ideal) r i k0_h2 k, ∀ x : p.1.shape.Idx, p.2 x = gScY α (p.1.emb x) := by
  intro p hp
  simp only [scPy, List.mem_cons, List.mem_nil_iff, or_false] at hp
  rcases hp with rfl; intro x; obtain ⟨q, c, rfl⟩ := idx2 x
  refine Eq.trans ?_ (emb_tile (fun k R c => eByte (eY (α k R c))) 8 k.val 8 256 32 1024 _ 0 (k0_off5_inb i k k0_h2) (k0_off5_eq k) (by omega) (by omega) q c).symm
  refine (bytesV_apply ![_, _, _, _, _, _, _, _] q c).trans ?_
  rw [Nat.zero_add]
  fin_cases q
  · exact H.scY 0 _ _ _ _ rfl rfl c (ok _ _ (by decide) c.isLt)
  · exact H.scY 1 _ _ _ _ rfl rfl c (ok _ _ (by decide) c.isLt)
  · exact H.scY 2 _ _ _ _ rfl rfl c (ok _ _ (by decide) c.isLt)
  · exact H.scY 3 _ _ _ _ rfl rfl c (ok _ _ (by decide) c.isLt)
  · exact H.scY 4 _ _ _ _ rfl rfl c (ok _ _ (by decide) c.isLt)
  · exact H.scY 5 _ _ _ _ rfl rfl c (ok _ _ (by decide) c.isLt)
  · exact H.scY 6 _ _ _ _ rfl rfl c (ok _ _ (by decide) c.isLt)
  · exact H.scY 7 _ _ _ _ rfl rfl c (ok _ _ (by decide) c.isLt)

/-- A piece of the first `n` trips is a piece of one of them. -/
theorem pby_at (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (k0_h2 : k0_cond2 i = 1#1) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (G1 : S512x1024.Idx → BitVec 8) (G2 : S1024x1024.Idx → EReal) (G3 : S32x1024.Idx → BitVec 32)
    (h : ∀ k : Fin k0_t1_loop.trips, (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k).1, ∀ x : p.1.shape.Idx, p.2 x = G1 (p.1.emb x)) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k).2.1, ∀ x : p.1.shape.Idx, p.2 x = G2 (p.1.emb x)) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k).2.2, ∀ x : p.1.shape.Idx, p.2 x = G3 (p.1.emb x))) :
    ∀ m, m ≤ k0_t1_loop.trips → (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 m).1, ∀ x : p.1.shape.Idx, p.2 x = G1 (p.1.emb x)) ∧
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 m).2.1, ∀ x : p.1.shape.Idx, p.2 x = G2 (p.1.emb x)) ∧
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 m).2.2, ∀ x : p.1.shape.Idx, p.2 x = G3 (p.1.emb x)) := by
  intro m
  induction m with
  | zero => intro _; exact ⟨fun p hp => absurd hp List.not_mem_nil, fun p hp => absurd hp List.not_mem_nil, fun p hp => absurd hp List.not_mem_nil⟩
  | succ m ih =>
    intro hm
    obtain ⟨i1, i2, i3⟩ := ih (Nat.le_of_succ_le hm)
    obtain ⟨h1, h2, h3⟩ := h ⟨m, hm⟩
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 ⟨m, hm⟩]
    exact ⟨fun p hp => (List.mem_append.mp hp).elim (h1 p) (i1 p), fun p hp => (List.mem_append.mp hp).elim (h2 p) (i2 p),
      fun p hp => (List.mem_append.mp hp).elim (h3 p) (i3 p)⟩

/-- A piece of a trip is among the pieces of all trips. -/
theorem pby_mem (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (k0_h2 : k0_cond2 i = 1#1) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (k : Fin k0_t1_loop.trips) :
    ∀ m, k.val < m → m ≤ k0_t1_loop.trips → (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k).1, p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 m).1) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k).2.1, p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 m).2.1) ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k).2.2, p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 m).2.2) := by
  intro m
  induction m with
  | zero => intro h; exact absurd h (Nat.not_lt_zero _)
  | succ m ih =>
    intro hk hm
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 ⟨m, hm⟩]
    rcases Nat.lt_succ_iff_lt_or_eq.mp hk with h | h
    · obtain ⟨i1, i2, i3⟩ := ih h (Nat.le_of_succ_le hm)
      exact ⟨fun p hp => List.mem_append_right _ (i1 p hp), fun p hp => List.mem_append_right _ (i2 p hp), fun p hp => List.mem_append_right _ (i3 p hp)⟩
    · obtain rfl : k = ⟨m, hm⟩ := Fin.ext h
      exact ⟨fun p hp => List.mem_append_left _ hp, fun p hp => List.mem_append_left _ hp, fun p hp => List.mem_append_left _ hp⟩

/-- The pieces of the whole loop are the block's codes, operand and scale bytes. -/
theorem loopy_at (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (k0_h2 : k0_cond2 i = 1#1) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty)
    (H : ∀ k : Fin k0_t1_loop.trips, Holds (rotV (View.readAt (Elt Ideal) arg2.view (Rect.unit (s := S256x256) ![0, 0] S256x256.size inb_S256x256_S256x256_0_0).toLoadRect X_arg2) (View.readAt (Elt Ideal) arg5.view (Rect.unit (s := S1024x1024) (k0_off1 k) S256x256.size (k0_off1_inb i k k0_h2)).toLoadRect X_arg5)) (ρ k.val) (α k.val))
    (hu : ∀ (k : Fin k0_t1_loop.trips) (p c : Fin 256), (randV (View.readAt (Elt Ideal) arg3.view (Rect.unit (s := S256x256) ![0, 0] S256x256.size inb_S256x256_S256x256_0_0).toLoadRect X_arg3) (View.readAt (Elt Ideal) arg6.view (Rect.unit (s := S1024x1024) (k0_off1 k) S256x256.size (k0_off1_inb i k k0_h2)).toLoadRect X_arg6)) (ix2 p c) = ((υ k.val p.val c.val : ℝ) : EReal))
    (ok : ∀ k g c, k < 16 → g < 8 → c < 256 → OkY (α k g c)) :
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k0_t1_loop.trips).1, ∀ x : p.1.shape.Idx, p.2 x = gCodeY ρ α υ (p.1.emb x)) ∧
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k0_t1_loop.trips).2.1, ∀ x : p.1.shape.Idx, p.2 x = gOpY ρ α υ (p.1.emb x)) ∧
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k0_t1_loop.trips).2.2, ∀ x : p.1.shape.Idx, p.2 x = gScY α (p.1.emb x)) := by
  refine pby_at 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 _ _ _ (fun k => ?_) _ le_rfl
  have hk : k.val < 16 := lt_of_lt_of_eq k.isLt (by decide)
  rw [trip_y (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k]
  exact ⟨codePy_at i k0_h2 k (H k) (hu k) (fun g c => ok _ g c hk), opPy_at i k0_h2 k (H k) (hu k) (fun g c => ok _ g c hk), scPy_at i k0_h2 k (H k) (fun g c => ok _ g c hk)⟩

/-- The pieces of the whole loop cover the block. -/
theorem loopy_cover (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole) (k0_h2 : k0_cond2 i = 1#1) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) :
    (∀ y, ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k0_t1_loop.trips).1, y ∈ p.1.set) ∧ (∀ y, ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k0_t1_loop.trips).2.1, y ∈ p.1.set) ∧
      (∀ y, ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k0_t1_loop.trips).2.2, y ∈ p.1.set) := by
  refine ⟨fun y => ?_, fun y => ?_, fun y => ?_⟩
  · have h0 : (y 0).val < 512 := (y 0).isLt
    have h1 : (y 1).val < 1024 := (y 1).isLt
    obtain ⟨k, hk⟩ : ∃ k : Fin k0_t1_loop.trips, k.val = 4 * ((y 0).val / 128) + (y 1).val / 256 := ⟨⟨_, lt_of_lt_of_eq (by omega : _ < 16) (by decide)⟩, rfl⟩
    have hm := (pby_mem 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k k0_t1_loop.trips k.isLt le_rfl).1
    rw [trip_y (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k] at hm
    simp only [codePy, List.mem_cons, List.mem_nil_iff, or_false, forall_eq_or_imp, forall_eq] at hm
    obtain ⟨m3, m2, m1, m0⟩ := hm
    rcases (by omega : (y 0).val % 128 / 32 = 3 ∨ (y 0).val % 128 / 32 = 2 ∨ (y 0).val % 128 / 32 = 1 ∨ (y 0).val % 128 / 32 = 0) with h | h | h | h
    · exact ⟨_, m3, mem_tile _ (k0_off2_inb i k k0_h2 3) _ _ (k0_off2_eq k 3) y (by show 128 * (k.val / 4) + 32 * 3 ≤ _; omega) (by show _ < 128 * (k.val / 4) + 32 * 3 + 32; omega) (by omega) (by omega)⟩
    · exact ⟨_, m2, mem_tile _ (k0_off2_inb i k k0_h2 2) _ _ (k0_off2_eq k 2) y (by show 128 * (k.val / 4) + 32 * 2 ≤ _; omega) (by show _ < 128 * (k.val / 4) + 32 * 2 + 32; omega) (by omega) (by omega)⟩
    · exact ⟨_, m1, mem_tile _ (k0_off2_inb i k k0_h2 1) _ _ (k0_off2_eq k 1) y (by show 128 * (k.val / 4) + 32 * 1 ≤ _; omega) (by show _ < 128 * (k.val / 4) + 32 * 1 + 32; omega) (by omega) (by omega)⟩
    · exact ⟨_, m0, mem_tile _ (k0_off2_inb i k k0_h2 0) _ _ (k0_off2_eq k 0) y (by show 128 * (k.val / 4) + 32 * 0 ≤ _; omega) (by show _ < 128 * (k.val / 4) + 32 * 0 + 32; omega) (by omega) (by omega)⟩
  · have h0 : (y 0).val < 1024 := (y 0).isLt
    have h1 : (y 1).val < 1024 := (y 1).isLt
    obtain ⟨k, hk⟩ : ∃ k : Fin k0_t1_loop.trips, k.val = 4 * ((y 0).val / 256) + (y 1).val / 256 := ⟨⟨_, lt_of_lt_of_eq (by omega : _ < 16) (by decide)⟩, rfl⟩
    have hm := (pby_mem 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k k0_t1_loop.trips k.isLt le_rfl).2.1
    rw [trip_y (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k] at hm
    simp only [opPy, List.mem_cons, List.mem_nil_iff, or_false, forall_eq_or_imp, forall_eq] at hm
    obtain ⟨m7, m3, m6, m2, m5, m1, m4, m0⟩ := hm
    rcases (by omega : (y 0).val % 256 / 32 = 7 ∨ (y 0).val % 256 / 32 = 6 ∨ (y 0).val % 256 / 32 = 5 ∨ (y 0).val % 256 / 32 = 4 ∨
      (y 0).val % 256 / 32 = 3 ∨ (y 0).val % 256 / 32 = 2 ∨ (y 0).val % 256 / 32 = 1 ∨ (y 0).val % 256 / 32 = 0) with h | h | h | h | h | h | h | h
    · exact ⟨_, m7, mem_tile _ (k0_off4_inb i k k0_h2 3) _ _ (k0_off4_eq k 3) y (by show 256 * (k.val / 4) + 32 * 3 + 128 ≤ _; omega) (by show _ < 256 * (k.val / 4) + 32 * 3 + 128 + 32; omega) (by omega) (by omega)⟩
    · exact ⟨_, m6, mem_tile _ (k0_off4_inb i k k0_h2 2) _ _ (k0_off4_eq k 2) y (by show 256 * (k.val / 4) + 32 * 2 + 128 ≤ _; omega) (by show _ < 256 * (k.val / 4) + 32 * 2 + 128 + 32; omega) (by omega) (by omega)⟩
    · exact ⟨_, m5, mem_tile _ (k0_off4_inb i k k0_h2 1) _ _ (k0_off4_eq k 1) y (by show 256 * (k.val / 4) + 32 * 1 + 128 ≤ _; omega) (by show _ < 256 * (k.val / 4) + 32 * 1 + 128 + 32; omega) (by omega) (by omega)⟩
    · exact ⟨_, m4, mem_tile _ (k0_off4_inb i k k0_h2 0) _ _ (k0_off4_eq k 0) y (by show 256 * (k.val / 4) + 32 * 0 + 128 ≤ _; omega) (by show _ < 256 * (k.val / 4) + 32 * 0 + 128 + 32; omega) (by omega) (by omega)⟩
    · exact ⟨_, m3, mem_tile _ (k0_off3_inb i k k0_h2 3) _ _ (k0_off3_eq k 3) y (by show 256 * (k.val / 4) + 32 * 3 ≤ _; omega) (by show _ < 256 * (k.val / 4) + 32 * 3 + 32; omega) (by omega) (by omega)⟩
    · exact ⟨_, m2, mem_tile _ (k0_off3_inb i k k0_h2 2) _ _ (k0_off3_eq k 2) y (by show 256 * (k.val / 4) + 32 * 2 ≤ _; omega) (by show _ < 256 * (k.val / 4) + 32 * 2 + 32; omega) (by omega) (by omega)⟩
    · exact ⟨_, m1, mem_tile _ (k0_off3_inb i k k0_h2 1) _ _ (k0_off3_eq k 1) y (by show 256 * (k.val / 4) + 32 * 1 ≤ _; omega) (by show _ < 256 * (k.val / 4) + 32 * 1 + 32; omega) (by omega) (by omega)⟩
    · exact ⟨_, m0, mem_tile _ (k0_off3_inb i k k0_h2 0) _ _ (k0_off3_eq k 0) y (by show 256 * (k.val / 4) + 32 * 0 ≤ _; omega) (by show _ < 256 * (k.val / 4) + 32 * 0 + 32; omega) (by omega) (by omega)⟩
  · have h0 : (y 0).val < 32 := (y 0).isLt
    have h1 : (y 1).val < 1024 := (y 1).isLt
    obtain ⟨k, hk⟩ : ∃ k : Fin k0_t1_loop.trips, k.val = 4 * ((y 0).val / 8) + (y 1).val / 256 := ⟨⟨_, lt_of_lt_of_eq (by omega : _ < 16) (by decide)⟩, rfl⟩
    have hm := (pby_mem 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k k0_t1_loop.trips k.isLt le_rfl).2.2
    rw [trip_y (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X_arg2 X_arg3 X_arg5 X_arg6 k] at hm
    simp only [scPy, List.mem_cons, List.mem_nil_iff, or_false, forall_eq_or_imp, forall_eq] at hm
    exact ⟨_, hm, mem_tile _ (k0_off5_inb i k k0_h2) _ _ (k0_off5_eq k) y (by omega) (by omega) (by omega) (by omega)⟩

end Cert.KernelIdeal.Tile

end
-- ==== Proof.BlockKit.lean ====
module

public import proofs.«01_k».proof.Proof.LoopX
public import proofs.«01_k».proof.Proof.LoopY
public import proofs.«01_k».proof.Proof.Gen.KernelIdeal.Frame
public import Idealize.ShloMosaic.Lib.WholeRead

/-! # Reading a block

A block as sixteen tiles, what it means for the rotated tiles to hold real numbers, and reads of a buffer that pieces cover. -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.Mx
open Idealize.ShloMosaic.ValueIdx

/-- Tile `k` of a block. -/
def tileOf {β : Type} (X : S1024x1024.Idx → β) (k : Fin 16) (y : S256x256.Idx) : β :=
  X (ix2 ⟨256 * (k.val / 4) + (y 0).val, by have h : (y 0).val < 256 := (y 0).isLt; have := k.isLt; omega⟩
    ⟨256 * (k.val % 4) + (y 1).val, by have h : (y 1).val < 256 := (y 1).isLt; omega⟩)

/-- The rotated tiles of a block of `x` hold the real numbers `ρ`, with group maxima `α` in range. -/
structure BX (x0 : Vec Ideal S256x256 .bf16) (x2 : Vec Ideal S1024x1024 .bf16) (ρ α : ℕ → ℕ → ℕ → ℝ) : Prop where
  holds : ∀ k : Fin 16, Holds (rotV (F := Ideal) x0 (tileOf x2 k)) (ρ k.val) (α k.val)
  ok : ∀ k g c, k < 16 → g < 8 → c < 256 → OkX (α k g c)

/-- The rotated tiles of a block of `dy` hold the real numbers `ρ`, with group maxima `α` in range; the permuted random
    bytes are `υ`. -/
structure BY (x0 x1 : Vec Ideal S256x256 .bf16) (x3 : Vec Ideal S1024x1024 .bf16) (x4 : Vec Ideal S1024x1024 .i8) (ρ α υ : ℕ → ℕ → ℕ → ℝ) : Prop where
  holds : ∀ k : Fin 16, Holds (rotV (F := Ideal) x0 (tileOf x3 k)) (ρ k.val) (α k.val)
  rand : ∀ (k : Fin 16) (p c : Fin 256), randV (F := Ideal) x1 (tileOf x4 k) (ix2 p c) = ((υ k.val p.val c.val : ℝ) : EReal)
  ok : ∀ k g c, k < 16 → g < 8 → c < 256 → OkY (α k g c)

/-- An index of the whole rectangle is itself. -/
theorem idx_whole {a b : ℕ} (inb : ∀ i, (![0, 0] : Fin 2 → ℕ) i + (⟨2, ![a, b]⟩ : Shape).size i ≤ (⟨2, ![a, b]⟩ : Shape).size i) (x : (⟨2, ![a, b]⟩ : Shape).Idx) :
    (Rect.unit (s := ⟨2, ![a, b]⟩) ![0, 0] (⟨2, ![a, b]⟩ : Shape).size inb).toLoadRect.idx x = x := by
  funext i; apply Fin.ext; fin_cases i
  · show 0 + 1 * (x 0).val = (x 0).val; omega
  · show 0 + 1 * (x 1).val = (x 1).val; omega

/-- A load of the whole of a buffer held at what reads `X`. -/
theorem readAt_whole {κ : Kind} {sp : Space} {a b : ℕ} {e : EltTy} {Val : EltTy → Type} (m : Memref sig κ sp ⟨2, ![a, b]⟩ e) (h : m.IsWhole)
    (X : (⟨2, ![a, b]⟩ : Shape).Idx → Val e)
    (inb : ∀ i, (![0, 0] : Fin 2 → ℕ) i + (⟨2, ![a, b]⟩ : Shape).size i ≤ (⟨2, ![a, b]⟩ : Shape).size i) :
    View.readAt Val m.view (Rect.unit (s := ⟨2, ![a, b]⟩) ![0, 0] (⟨2, ![a, b]⟩ : Shape).size inb).toLoadRect (h.unread X) = X := by
  funext x; rw [h.readAt_unread, idx_whole]

/-- A load of a tile of a buffer held at what reads `X`. -/
theorem readAt_tile {κ : Kind} {sp : Space} {e : EltTy} {Val : EltTy → Type} (m : Memref sig κ sp S1024x1024 e) (h : m.IsWhole)
    (X : S1024x1024.Idx → Val e) (k : Fin 16) (off : Fin 2 → ℕ) (hoff : off = ![256 * (k.val / 4), 256 * (k.val % 4)])
    (inb : ∀ i, off i + S256x256.size i ≤ S1024x1024.size i) :
    View.readAt Val m.view (Rect.unit (s := S1024x1024) off S256x256.size inb).toLoadRect (h.unread X) = tileOf X k := by
  subst hoff
  funext x; rw [h.readAt_unread]; unfold tileOf
  congr 1; funext i; apply Fin.ext; fin_cases i
  · show 256 * (k.val / 4) + 1 * (x 0).val = 256 * (k.val / 4) + (x 0).val; omega
  · show 256 * (k.val % 4) + 1 * (x 1).val = 256 * (k.val % 4) + (x 1).val; omega

section reads
variable {sg : RefSig} {κ : Kind} {sp : Space} {s : Shape} {e : EltTy} {Val : EltTy → Type} [∀ e, Nonempty (Val e)]

/-- A load of what covering pieces of `G` left. -/
theorem readCov_pieces (v : View sg κ sp s e) (L L' : List (View.Piece Val s e)) (G : s.Idx → Val e)
    (h : ∀ p ∈ L, ∀ x : p.1.shape.Idx, p.2 x = G (p.1.emb x)) (hc : ∀ y, ∃ p ∈ L, y ∈ p.1.set) (B : LoadRect s) :
    v.readCov (L ++ L') B = fun x => G (B.idx x) := by
  funext x
  show v.read Val (v.writes Val v.junk (L ++ L')) (B.idx x) = _
  rw [View.writes_append]
  exact congrFun (reads_of_pieces v _ L G h hc) _

/-- The same, of covering pieces alone. -/
theorem readCov_pieces' (v : View sg κ sp s e) (L : List (View.Piece Val s e)) (G : s.Idx → Val e)
    (h : ∀ p ∈ L, ∀ x : p.1.shape.Idx, p.2 x = G (p.1.emb x)) (hc : ∀ y, ∃ p ∈ L, y ∈ p.1.set) (B : LoadRect s) :
    v.readCov L B = fun x => G (B.idx x) := by
  have := readCov_pieces v L [] G h hc B
  rwa [List.append_nil] at this
end reads

/-- One whole store, last. -/
theorem read_whole_cons {sg : RefSig} {κ : Kind} {sp : Space} {a b : ℕ} {e : EltTy} {Val : EltTy → Type} (v : View sg κ sp ⟨2, ![a, b]⟩ e) (f : v.ty.Contents Val)
    (L : List (View.Piece Val ⟨2, ![a, b]⟩ e)) (inb : ∀ i, (![0, 0] : Fin 2 → ℕ) i + (⟨2, ![a, b]⟩ : Shape).size i ≤ (⟨2, ![a, b]⟩ : Shape).size i)
    (w : (⟨2, ![a, b]⟩ : Shape).Idx → Val e) :
    v.read Val (v.writes Val f (⟨Rect.unit (s := ⟨2, ![a, b]⟩) ![0, 0] (⟨2, ![a, b]⟩ : Shape).size inb, w⟩ :: L)) = w := by
  funext y
  have h := View.read_writes_cons_emb v f (Rect.unit (s := ⟨2, ![a, b]⟩) ![0, 0] (⟨2, ![a, b]⟩ : Shape).size inb) w L y
  have e : (Rect.unit (s := ⟨2, ![a, b]⟩) ![0, 0] (⟨2, ![a, b]⟩ : Shape).size inb).emb y = y := idx_whole inb y
  rw [e] at h; exact h

/-- A load of one whole store. -/
theorem readCov_whole {sg : RefSig} {κ : Kind} {sp : Space} {a b : ℕ} {e : EltTy} {Val : EltTy → Type} [∀ e, Nonempty (Val e)] (v : View sg κ sp ⟨2, ![a, b]⟩ e)
    (L : List (View.Piece Val ⟨2, ![a, b]⟩ e)) (inb inb' : ∀ i, (![0, 0] : Fin 2 → ℕ) i + (⟨2, ![a, b]⟩ : Shape).size i ≤ (⟨2, ![a, b]⟩ : Shape).size i)
    (w : (⟨2, ![a, b]⟩ : Shape).Idx → Val e) :
    v.readCov (⟨Rect.unit (s := ⟨2, ![a, b]⟩) ![0, 0] (⟨2, ![a, b]⟩ : Shape).size inb, w⟩ :: L)
      (Rect.unit (s := ⟨2, ![a, b]⟩) ![0, 0] (⟨2, ![a, b]⟩ : Shape).size inb').toLoadRect = w := by
  funext x
  show v.read Val (v.writes Val v.junk _) ((Rect.unit (s := ⟨2, ![a, b]⟩) ![0, 0] (⟨2, ![a, b]⟩ : Shape).size inb').toLoadRect.idx x) = _
  rw [idx_whole, read_whole_cons]

/-- A rotated tile, as the loop reads it. -/
theorem rot_read {m2 : Memref sig .tc .vmem S256x256 .bf16} (h2 : m2.IsWhole) {m4 : Memref sig .tc .vmem S1024x1024 .bf16} (h4 : m4.IsWhole)
    (x0 : Vec Ideal S256x256 .bf16) (x2 : Vec Ideal S1024x1024 .bf16) (k : Fin 16) (off : Fin 2 → ℕ) (hoff : off = ![256 * (k.val / 4), 256 * (k.val % 4)])
    (inb : ∀ i, off i + S256x256.size i ≤ S1024x1024.size i) :
    rotV (View.readAt (Elt Ideal) m2.view (Rect.unit (s := S256x256) ![0, 0] S256x256.size inb_S256x256_S256x256_0_0).toLoadRect (h2.unread x0))
      (View.readAt (Elt Ideal) m4.view (Rect.unit (s := S1024x1024) off S256x256.size inb).toLoadRect (h4.unread x2)) = rotV (F := Ideal) x0 (tileOf x2 k) :=
  congrArg₂ (rotV (F := Ideal)) (readAt_whole m2 h2 x0 _) (readAt_tile m4 h4 x2 k off hoff inb)

/-- A tile's permuted random bytes, as the loop reads them. -/
theorem rand_read {m3 : Memref sig .tc .vmem S256x256 .bf16} (h3 : m3.IsWhole) {m6 : Memref sig .tc .vmem S1024x1024 .i8} (h6 : m6.IsWhole)
    (x1 : Vec Ideal S256x256 .bf16) (x4 : Vec Ideal S1024x1024 .i8) (k : Fin 16) (off : Fin 2 → ℕ) (hoff : off = ![256 * (k.val / 4), 256 * (k.val % 4)])
    (inb : ∀ i, off i + S256x256.size i ≤ S1024x1024.size i) :
    randV (View.readAt (Elt Ideal) m3.view (Rect.unit (s := S256x256) ![0, 0] S256x256.size inb_S256x256_S256x256_0_0).toLoadRect (h3.unread x1))
      (View.readAt (Elt Ideal) m6.view (Rect.unit (s := S1024x1024) off S256x256.size inb).toLoadRect (h6.unread x4)) = randV (F := Ideal) x1 (tileOf x4 k) :=
  congrArg₂ (randV (F := Ideal)) (readAt_whole m3 h3 x1 _) (readAt_tile m6 h6 x4 k off hoff inb)

end Cert.KernelIdeal.Tile

end
-- ==== Proof.BlockX.lean ====
module

public import proofs.«01_k».proof.Proof.BlockKit

/-! # The loops over a block -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.Mx
open Idealize.ShloMosaic.ValueIdx

variable {ρ α σ β υ : ℕ → ℕ → ℕ → ℝ}

/-- The loop's pieces over a block of `x`: what they hold, and that they cover. -/
theorem bx (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole)  (x0 : Vec Ideal S256x256 .bf16) (x2 : Vec Ideal S1024x1024 .bf16) (B : BX x0 x2 ρ α) :
    (∀ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2) k0_t2_loop.trips).1, ∀ x : p.1.shape.Idx, p.2 x = gCodeX ρ α (p.1.emb x)) ∧
      (∀ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2) k0_t2_loop.trips).2.1, ∀ x : p.1.shape.Idx, p.2 x = gOpX ρ α (p.1.emb x)) ∧
      (∀ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2) k0_t2_loop.trips).2.2, ∀ x : p.1.shape.Idx, p.2 x = gScX α (p.1.emb x)) :=
  loopx_at Variants.none c none i arg2 harg2 arg3 harg3 arg4 harg4 arg5 harg5 arg6 harg6 arg7 harg7 arg8 harg8 arg9 harg9 arg10 harg10 arg11 harg11 arg12 harg12 arg13 harg13 arg14 harg14 arg15 harg15 _ _ (fun k => by
    rw [rot_read harg2 harg4 x0 x2 ⟨k.val, lt_of_lt_of_eq k.isLt (by decide)⟩ _ (k0_off6_eq k)]
    exact B.holds ⟨k.val, lt_of_lt_of_eq k.isLt (by decide)⟩) B.ok

/-- The loop's pieces over a block of `dy`: what they hold. -/
theorem by' (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole)  (hc1 : cond0_1 i) (x0 x1 : Vec Ideal S256x256 .bf16) (x2 x3 : Vec Ideal S1024x1024 .bf16) (x4 : Vec Ideal S1024x1024 .i8) (B : BY x0 x1 x3 x4 σ β υ) :
    (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4) k0_t1_loop.trips).1, ∀ x : p.1.shape.Idx, p.2 x = gCodeY σ β υ (p.1.emb x)) ∧
      (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4) k0_t1_loop.trips).2.1, ∀ x : p.1.shape.Idx, p.2 x = gOpY σ β υ (p.1.emb x)) ∧
      (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4) k0_t1_loop.trips).2.2, ∀ x : p.1.shape.Idx, p.2 x = gScY β (p.1.emb x)) :=
  loopy_at Variants.none c none i arg2 harg2 arg3 harg3 arg4 harg4 arg5 harg5 arg6 harg6 arg7 harg7 arg8 harg8 arg9 harg9 arg10 harg10 arg11 harg11 arg12 harg12 arg13 harg13 arg14 harg14 arg15 harg15 hc1 _ _ _ _ (fun k => by
    rw [rot_read harg2 harg5 x0 x3 ⟨k.val, lt_of_lt_of_eq k.isLt (by decide)⟩ _ (k0_off1_eq k)]
    exact B.holds ⟨k.val, lt_of_lt_of_eq k.isLt (by decide)⟩) (fun k p q => by
    rw [rand_read harg3 harg6 x1 x4 ⟨k.val, lt_of_lt_of_eq k.isLt (by decide)⟩ _ (k0_off1_eq k)]
    exact B.rand ⟨k.val, lt_of_lt_of_eq k.isLt (by decide)⟩ p q) B.ok

/-- Case A leaves the codes of `x`'s block. -/
theorem out0_A_6_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} (B : BX x0 x2 ρ α) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 = gCodeX ρ α := by
  unfold out0_A_6 kernelRun0_A
  exact reads_of_pieces _ _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 B).1 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).1

/-- Case A leaves the scale bytes of `x`'s block. -/
theorem out0_A_7_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} (B : BX x0 x2 ρ α) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 = fun I => (gScX α I).setWidth 8 := by
  unfold out0_A_7 kernelRun0_A
  refine (read_whole_cons _ _ _ inb_S32x1024_S32x1024_0_0 _).trans ?_
  unfold kernelRun0_A.sl.v13
  rw [readCov_pieces _ _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 B).2.2 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).2.2]
  funext I; unfold k0_pay415
  exact congrArg (fun z => (gScX α z).setWidth 8) (idx_whole inb_S32x1024_S32x1024_0_0 I)

/-- Case B leaves the codes of `x`'s block. -/
theorem out0_B_6_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : ¬cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} {xo8 : Vec Ideal S512x1024 .i8} {xo9 : Vec Ideal S32x1024 .i8} {xs2 : Vec Ideal S1024x1024 .bf16} (B : BX x0 x2 ρ α) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 xo8 xo9 xs2 = gCodeX ρ α := by
  unfold out0_B_6 kernelRun0_B
  exact reads_of_pieces _ _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 B).1 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).1

/-- Case B leaves the scale bytes of `x`'s block. -/
theorem out0_B_7_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : ¬cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} {xo8 : Vec Ideal S512x1024 .i8} {xo9 : Vec Ideal S32x1024 .i8} {xs2 : Vec Ideal S1024x1024 .bf16} (B : BX x0 x2 ρ α) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 xo8 xo9 xs2 = fun I => (gScX α I).setWidth 8 := by
  unfold out0_B_7 kernelRun0_B
  refine (read_whole_cons _ _ _ inb_S32x1024_S32x1024_0_0 _).trans ?_
  unfold kernelRun0_B.sl.v13
  rw [readCov_pieces _ _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 B).2.2 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).2.2]
  funext I; unfold k0_pay415
  exact congrArg (fun z => (gScX α z).setWidth 8) (idx_whole inb_S32x1024_S32x1024_0_0 I)

/-- Case C leaves the codes of `x`'s block. -/
theorem out0_C_6_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} (B : BX x0 x2 ρ α) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 = gCodeX ρ α := by
  unfold out0_C_6 kernelRun0_C
  exact reads_of_pieces _ _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 B).1 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).1

/-- Case C leaves the scale bytes of `x`'s block. -/
theorem out0_C_7_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} (B : BX x0 x2 ρ α) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 = fun I => (gScX α I).setWidth 8 := by
  unfold out0_C_7 kernelRun0_C
  refine (read_whole_cons _ _ _ inb_S32x1024_S32x1024_0_0 _).trans ?_
  unfold kernelRun0_C.sl.v13
  rw [readCov_pieces _ _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 B).2.2 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).2.2]
  funext I; unfold k0_pay415
  exact congrArg (fun z => (gScX α z).setWidth 8) (idx_whole inb_S32x1024_S32x1024_0_0 I)

end Cert.KernelIdeal.Tile

end
-- ==== Proof.BlockY.lean ====
module

public import proofs.«01_k».proof.Proof.BlockX

/-! # What a block of `dy` leaves -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.Mx
open Idealize.ShloMosaic.ValueIdx

variable {ρ α σ β υ : ℕ → ℕ → ℕ → ℝ}

/-- Case A leaves the codes of `dy`'s block. -/
theorem out0_A_8_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} (B : BY x0 x1 x3 x4 σ β υ) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 = gCodeY σ β υ := by
  unfold out0_A_8 kernelRun0_A
  refine (read_whole_cons _ _ _ inb_S512x1024_S512x1024_0_0 _).trans ?_
  unfold k0_pay1
  rw [shapeCast_self, readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).1]
  funext I
  exact congrArg (gCodeY σ β υ) (idx_whole inb_S512x1024_S512x1024_0_0 I)

/-- Case A leaves the scale bytes of `dy`'s block. -/
theorem out0_A_9_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} (B : BY x0 x1 x3 x4 σ β υ) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 = fun I => (gScY β I).setWidth 8 := by
  unfold out0_A_9 kernelRun0_A
  refine (read_whole_cons _ _ _ inb_S32x1024_S32x1024_0_0 _).trans ?_
  unfold k0_pay2 kernelRun0_A.sl.v30 kernelRun0_A.sl.H9_1
  rw [shapeCast_self]
  refine (readCov_whole _ _ inb_S32x1024_S32x1024_0_0 inb_S32x1024_S32x1024_0_0 _).trans ?_
  unfold k0_pay408
  rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.2 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.2]
  funext I
  exact congrArg (fun z => (gScY β z).setWidth 8) (idx_whole inb_S32x1024_S32x1024_0_0 I)

/-- Case C leaves the codes of `dy`'s block. -/
theorem out0_C_8_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} (B : BY x0 x1 x3 x4 σ β υ) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 = gCodeY σ β υ := by
  unfold out0_C_8 kernelRun0_C
  refine (read_whole_cons _ _ _ inb_S512x1024_S512x1024_0_0 _).trans ?_
  unfold k0_pay1
  rw [shapeCast_self, readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).1]
  funext I
  exact congrArg (gCodeY σ β υ) (idx_whole inb_S512x1024_S512x1024_0_0 I)

/-- Case C leaves the scale bytes of `dy`'s block. -/
theorem out0_C_9_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} (B : BY x0 x1 x3 x4 σ β υ) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 = fun I => (gScY β I).setWidth 8 := by
  unfold out0_C_9 kernelRun0_C
  refine (read_whole_cons _ _ _ inb_S32x1024_S32x1024_0_0 _).trans ?_
  unfold k0_pay2 kernelRun0_C.sl.v30 kernelRun0_C.sl.H9_1
  rw [shapeCast_self]
  refine (readCov_whole _ _ inb_S32x1024_S32x1024_0_0 inb_S32x1024_S32x1024_0_0 _).trans ?_
  unfold k0_pay408
  rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.2 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.2]
  funext I
  exact congrArg (fun z => (gScY β z).setWidth 8) (idx_whole inb_S32x1024_S32x1024_0_0 I)

/-- Case B leaves the codes of `dy` as they were. -/
theorem out0_B_8_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : ¬cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} {xo8 : Vec Ideal S512x1024 .i8} {xo9 : Vec Ideal S32x1024 .i8} {xs2 : Vec Ideal S1024x1024 .bf16}  :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 xo8 xo9 xs2 = xo8 := by
  unfold out0_B_8 kernelRun0_B
  refine (read_whole_cons _ _ _ inb_S512x1024_S512x1024_0_0 _).trans ?_
  unfold k0_pay1
  rw [shapeCast_self]
  exact readAt_whole arg10 harg10 xo8 _

/-- Case B leaves the scale bytes of `dy` as they were. -/
theorem out0_B_9_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : ¬cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} {xo8 : Vec Ideal S512x1024 .i8} {xo9 : Vec Ideal S32x1024 .i8} {xs2 : Vec Ideal S1024x1024 .bf16}  :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 xo8 xo9 xs2 = xo9 := by
  unfold out0_B_9 kernelRun0_B
  refine (read_whole_cons _ _ _ inb_S32x1024_S32x1024_0_0 _).trans ?_
  unfold k0_pay2
  rw [shapeCast_self]
  exact readAt_whole arg11 harg11 xo9 _

end Cert.KernelIdeal.Tile

end
-- ==== Proof.BlockDw.lean ====
module

public import proofs.«01_k».proof.Proof.BlockY
public import Idealize.ShloMosaic.Lib.WritesUnit

/-! # The transposed operand of `dy` and the weight gradient -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.Mx
open Idealize.ShloMosaic.ValueIdx

variable {ρ α σ β υ : ℕ → ℕ → ℕ → ℝ}

/-- The operand of a block of `dy`, transposed. -/
def gOpT (σ β υ : ℕ → ℕ → ℕ → ℝ) (I : S1024x1024.Idx) : EReal := gOpY σ β υ (ix2 (I 1) (I 0))

/-- A transposed quarter holds its entries of the transposed operand. -/
theorem piece_T (n : ℕ) (G : S1024x1024.Idx → EReal) (inb : ∀ i, (![n, 0] : Fin 2 → ℕ) i + S256x1024.size i ≤ S1024x1024.size i)
    (inb' : ∀ i, (![0, n] : Fin 2 → ℕ) i + S1024x256.size i ≤ S1024x1024.size i)
    (x : (Rect.unit (s := S1024x1024) ![0, n] S1024x256.size inb').shape.Idx) :
    shapeCast S1024x256 (transpose S1024x256 [1, 0] (fun z => G ((Rect.unit (s := S1024x1024) ![n, 0] S256x1024.size inb).toLoadRect.idx z) : FVec Ideal S256x1024 .bf16)
      transposes_S256x1024_p1_0_S1024x256) shapeCasts_S1024x256_S1024x256 x
      = G (ix2 ((Rect.unit (s := S1024x1024) ![0, n] S1024x256.size inb').emb x 1) ((Rect.unit (s := S1024x1024) ![0, n] S1024x256.size inb').emb x 0)) := by
  rw [shapeCast_self]
  obtain ⟨d, s, rfl⟩ := idx2 (a := 1024) (b := 256) x
  refine (transpose_apply [1, 0] _ transposes_S256x1024_p1_0_S1024x256 _ (ix2 s d) (fun b => ?_)).trans ?_
  · fin_cases b <;> rfl
  · refine congrArg G (funext fun a => Fin.ext ?_)
    fin_cases a
    · rfl
    · rfl

/-- What a point adds to the weight gradient: the block column's product, at its columns. -/
def stepDw (j : ℕ) (prev : S1024x8192.Idx → EReal) (w v : S1024x1024.Idx → EReal) (I : S1024x8192.Idx) : EReal :=
  if h : 1024 * j ≤ (I 1).val ∧ (I 1).val < 1024 * j + 1024 then
    prev I + ∑ t : Fin 1024, w (ix2 (I 0) t) * v (ix2 t ⟨(I 1).val - 1024 * j, by omega⟩)
  else prev I

/-- The last store of a point, read. -/
theorem dw_read {sg : RefSig} {κ : Kind} {sp : Space} (v : View sg κ sp S1024x8192 .f32) (f : v.ty.Contents (Elt Ideal)) (L : List (View.Piece (Elt Ideal) S1024x8192 .f32))
    (j : ℕ) (off : Fin 2 → ℕ) (hoff : off = ![0, 1024 * j]) (inb : ∀ i, off i + S1024x1024.size i ≤ S1024x8192.size i)
    (prev : S1024x8192.Idx → EReal) (hp : v.read (Elt Ideal) (v.writes (Elt Ideal) f L) = prev) (old : S1024x1024.Idx → EReal)
    (ho : ∀ x, old x = prev ((Rect.unit (s := S1024x8192) off S1024x1024.size inb).toLoadRect.idx x)) (a b : S1024x1024.Idx → EReal) :
    v.read (Elt Ideal) (v.writes (Elt Ideal) f (⟨Rect.unit (s := S1024x8192) off S1024x1024.size inb, k0_pay416 (F := Ideal) old a b⟩ :: L)) = stepDw j prev a b := by
  subst hoff
  funext y
  unfold stepDw
  split_ifs with h
  · refine (View.read_writes_cons_unit_of_mem v f inb _ L y (ix2 (y 0) ⟨(y 1).val - 1024 * j, by omega⟩ : S1024x1024.Idx) rfl (fun i => ?_)).trans ?_
    · fin_cases i
      · show (y 0).val = 0 + (y 0).val; omega
      · show (y 1).val = 1024 * j + ((y 1).val - 1024 * j); omega
    · unfold k0_pay416
      rw [shapeCast_self]
      show old _ + _ = _
      congr 1
      · rw [ho]; congr 1; funext i; apply Fin.ext; fin_cases i
        · show 0 + 1 * (y 0).val = (y 0).val; omega
        · show 1024 * j + 1 * ((y 1).val - 1024 * j) = (y 1).val; omega
      · refine (Ideal.matmul_plain_apply none _ _ (constant S1024x1024 .f32 0x00000000#32) _ _).trans ?_
        show Ideal.ofBits .f32 0x00000000#32 + _ = _
        rw [c_zero, EReal.coe_zero, zero_add]
  · refine (View.read_writes_cons_unit_of_not_mem v f inb _ L y rfl (1 : Fin 2) ?_).trans (congrFun hp y)
    show (y 1).val < 1024 * j ∨ 1024 * j + 1024 ≤ (y 1).val
    omega

/-- The pieces of the transposed operand hold its entries and cover it. -/
theorem hs_A (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole)  (hc1 : cond0_1 i) (x0 x1 : Vec Ideal S256x256 .bf16) (x2 x3 : Vec Ideal S1024x1024 .bf16) (x4 : Vec Ideal S1024x1024 .i8) (B : BY x0 x1 x3 x4 σ β υ) :
    (∀ p ∈ kernelRun0_A.sl.HS2_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x3 x4, ∀ x : p.1.shape.Idx, p.2 x = gOpT σ β υ (p.1.emb x)) ∧
      (∀ y, ∃ p ∈ kernelRun0_A.sl.HS2_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x3 x4, y ∈ p.1.set) := by
  unfold kernelRun0_A.sl.HS2_4 k0_pay409 k0_pay410 k0_pay411 k0_pay412
  constructor
  · intro p hp
    simp only [List.mem_cons, List.mem_nil_iff, or_false] at hp
    rcases hp with rfl | rfl | rfl | rfl <;> intro x <;> dsimp only
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 768 (gOpY σ β υ) _ _ x
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 512 (gOpY σ β υ) _ _ x
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 256 (gOpY σ β υ) _ _ x
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 0 (gOpY σ β υ) _ _ x
  · intro y
    have h1 : (y 1).val < 1024 := (y 1).isLt
    have h0 : (y 0).val < 1024 := (y 0).isLt
    rcases (by omega : (y 1).val / 256 = 3 ∨ (y 1).val / 256 = 2 ∨ (y 1).val / 256 = 1 ∨ (y 1).val / 256 = 0) with h | h | h | h
    · exact ⟨_, List.mem_cons_self, mem_tile _ inb_S1024x1024_S1024x256_0_768 0 768 rfl y (by omega) (by omega) (by omega) (by omega)⟩
    · exact ⟨_, List.mem_cons_of_mem _ List.mem_cons_self, mem_tile _ inb_S1024x1024_S1024x256_0_512 0 512 rfl y (by omega) (by omega) (by omega) (by omega)⟩
    · exact ⟨_, List.mem_cons_of_mem _ (List.mem_cons_of_mem _ List.mem_cons_self), mem_tile _ inb_S1024x1024_S1024x256_0_256 0 256 rfl y (by omega) (by omega) (by omega) (by omega)⟩
    · exact ⟨_, List.mem_cons_of_mem _ (List.mem_cons_of_mem _ (List.mem_cons_of_mem _ List.mem_cons_self)), mem_tile _ inb_S1024x1024_S1024x256_0_0 0 0 rfl y (by omega) (by omega) (by omega) (by omega)⟩

/-- Case A leaves the transposed operand of `dy` in scratch. -/
theorem sout0_A_2_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} (B : BY x0 x1 x3 x4 σ β υ) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 = gOpT σ β υ := by
  unfold sout0_A_2 kernelRun0_A
  exact reads_of_pieces _ _ _ _ (hs_A c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).1 (hs_A c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2

/-- The pieces of the transposed operand hold its entries and cover it. -/
theorem hs_C (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .i8) (harg6 : arg6.IsWhole) (arg7 : Memref sig .tc .vmem S1024x8192 .f32) (harg7 : arg7.IsWhole) (arg8 : Memref sig .tc .vmem S512x1024 .i8) (harg8 : arg8.IsWhole) (arg9 : Memref sig .tc .vmem S32x1024 .i8) (harg9 : arg9.IsWhole) (arg10 : Memref sig .tc .vmem S512x1024 .i8) (harg10 : arg10.IsWhole) (arg11 : Memref sig .tc .vmem S32x1024 .i8) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S32x1024 .i32) (harg15 : arg15.IsWhole)  (hc1 : cond0_1 i) (x0 x1 : Vec Ideal S256x256 .bf16) (x2 x3 : Vec Ideal S1024x1024 .bf16) (x4 : Vec Ideal S1024x1024 .i8) (B : BY x0 x1 x3 x4 σ β υ) :
    (∀ p ∈ kernelRun0_C.sl.HS2_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x3 x4, ∀ x : p.1.shape.Idx, p.2 x = gOpT σ β υ (p.1.emb x)) ∧
      (∀ y, ∃ p ∈ kernelRun0_C.sl.HS2_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x3 x4, y ∈ p.1.set) := by
  unfold kernelRun0_C.sl.HS2_4 k0_pay409 k0_pay410 k0_pay411 k0_pay412
  constructor
  · intro p hp
    simp only [List.mem_cons, List.mem_nil_iff, or_false] at hp
    rcases hp with rfl | rfl | rfl | rfl <;> intro x <;> dsimp only
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 768 (gOpY σ β υ) _ _ x
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 512 (gOpY σ β υ) _ _ x
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 256 (gOpY σ β υ) _ _ x
    · rw [readCov_pieces' _ _ _ (by' c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2.1 (loopy_cover Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg2.unread x0) (harg3.unread x1) (harg5.unread x3) (harg6.unread x4)).2.1]; exact piece_T 0 (gOpY σ β υ) _ _ x
  · intro y
    have h1 : (y 1).val < 1024 := (y 1).isLt
    have h0 : (y 0).val < 1024 := (y 0).isLt
    rcases (by omega : (y 1).val / 256 = 3 ∨ (y 1).val / 256 = 2 ∨ (y 1).val / 256 = 1 ∨ (y 1).val / 256 = 0) with h | h | h | h
    · exact ⟨_, List.mem_cons_self, mem_tile _ inb_S1024x1024_S1024x256_0_768 0 768 rfl y (by omega) (by omega) (by omega) (by omega)⟩
    · exact ⟨_, List.mem_cons_of_mem _ List.mem_cons_self, mem_tile _ inb_S1024x1024_S1024x256_0_512 0 512 rfl y (by omega) (by omega) (by omega) (by omega)⟩
    · exact ⟨_, List.mem_cons_of_mem _ (List.mem_cons_of_mem _ List.mem_cons_self), mem_tile _ inb_S1024x1024_S1024x256_0_256 0 256 rfl y (by omega) (by omega) (by omega) (by omega)⟩
    · exact ⟨_, List.mem_cons_of_mem _ (List.mem_cons_of_mem _ (List.mem_cons_of_mem _ List.mem_cons_self)), mem_tile _ inb_S1024x1024_S1024x256_0_0 0 0 rfl y (by omega) (by omega) (by omega) (by omega)⟩

/-- Case C leaves the transposed operand of `dy` in scratch. -/
theorem sout0_C_2_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} (B : BY x0 x1 x3 x4 σ β υ) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 = gOpT σ β υ := by
  unfold sout0_C_2 kernelRun0_C
  exact reads_of_pieces _ _ _ _ (hs_C c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).1 (hs_C c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2

/-- Case A starts the weight gradient. -/
theorem out0_A_5_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} (BX0 : BX x0 x2 ρ α) (B : BY x0 x1 x3 x4 σ β υ) :
    out0_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 = stepDw (i 1).val (fun _ => 0) (gOpT σ β υ) (gOpX ρ α) := by
  unfold out0_A_5 kernelRun0_A
  refine (dw_read _ _ _ (i 1).val _ (k0_off11_eq i) _ (fun _ => 0) ?_ _ ?_ _ _).trans (congrArg₂ (stepDw (i 1).val (fun _ => 0)) ?_ ?_)
  · unfold kernelRun0_A.sl.H5_1
    refine (read_whole_cons _ _ _ inb_S1024x8192_S1024x8192_0_0 _).trans ?_
    funext I; exact c_zero
  · intro x
    unfold kernelRun0_A.sl.H5_1
    rw [View.readAt_apply]
    refine (congrFun (read_whole_cons _ _ _ inb_S1024x8192_S1024x8192_0_0 _) _).trans ?_
    exact c_zero
  · unfold kernelRun0_A.sl.v21
    rw [readCov_pieces' _ _ _ (hs_A c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).1 (hs_A c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2]
    funext I; exact congrArg (gOpT σ β υ) (idx_whole inb_S1024x1024_S1024x1024_0_0 I)
  · rw [readCov_pieces' _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 BX0).2.1 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).2.1]
    funext I; exact congrArg (gOpX ρ α) (idx_whole inb_S1024x1024_S1024x1024_0_0 I)

/-- Case C adds to the weight gradient. -/
theorem out0_C_5_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} (BX0 : BX x0 x2 ρ α) (B : BY x0 x1 x3 x4 σ β υ) :
    out0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 = stepDw (i 1).val xo5 (gOpT σ β υ) (gOpX ρ α) := by
  unfold out0_C_5 kernelRun0_C
  refine (dw_read _ _ _ (i 1).val _ (k0_off11_eq i) _ xo5 ?_ _ ?_ _ _).trans (congrArg₂ (stepDw (i 1).val xo5) ?_ ?_)
  · exact harg7.read_unread xo5
  · intro x
    exact congrFun (harg7.read_unread xo5) _
  · unfold kernelRun0_C.sl.v21
    rw [readCov_pieces' _ _ _ (hs_C c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).1 (hs_C c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 B).2]
    funext I; exact congrArg (gOpT σ β υ) (idx_whole inb_S1024x1024_S1024x1024_0_0 I)
  · rw [readCov_pieces' _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 BX0).2.1 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).2.1]
    funext I; exact congrArg (gOpX ρ α) (idx_whole inb_S1024x1024_S1024x1024_0_0 I)

/-- Case B adds to the weight gradient. -/
theorem out0_B_5_eq {c : Dev nD} {i : grid0.Coords} {arg2 : Memref sig .tc .vmem S256x256 .bf16} {harg2 : arg2.IsWhole} {arg3 : Memref sig .tc .vmem S256x256 .bf16} {harg3 : arg3.IsWhole} {arg4 : Memref sig .tc .vmem S1024x1024 .bf16} {harg4 : arg4.IsWhole} {arg5 : Memref sig .tc .vmem S1024x1024 .bf16} {harg5 : arg5.IsWhole} {arg6 : Memref sig .tc .vmem S1024x1024 .i8} {harg6 : arg6.IsWhole} {arg7 : Memref sig .tc .vmem S1024x8192 .f32} {harg7 : arg7.IsWhole} {arg8 : Memref sig .tc .vmem S512x1024 .i8} {harg8 : arg8.IsWhole} {arg9 : Memref sig .tc .vmem S32x1024 .i8} {harg9 : arg9.IsWhole} {arg10 : Memref sig .tc .vmem S512x1024 .i8} {harg10 : arg10.IsWhole} {arg11 : Memref sig .tc .vmem S32x1024 .i8} {harg11 : arg11.IsWhole} {arg12 : Memref sig .tc .vmem S1024x1024 .bf16} {harg12 : arg12.IsWhole} {arg13 : Memref sig .tc .vmem S1024x1024 .bf16} {harg13 : arg13.IsWhole} {arg14 : Memref sig .tc .vmem S1024x1024 .bf16} {harg14 : arg14.IsWhole} {arg15 : Memref sig .tc .vmem S32x1024 .i32} {harg15 : arg15.IsWhole} {hc0 : ¬cond0_0 i} {hc1 : ¬cond0_1 i}
    {x0 : Vec Ideal S256x256 .bf16} {x1 : Vec Ideal S256x256 .bf16} {x2 : Vec Ideal S1024x1024 .bf16} {x3 : Vec Ideal S1024x1024 .bf16} {x4 : Vec Ideal S1024x1024 .i8} {xo5 : Vec Ideal S1024x8192 .f32} {xo8 : Vec Ideal S512x1024 .i8} {xo9 : Vec Ideal S32x1024 .i8} {xs2 : Vec Ideal S1024x1024 .bf16} (BX0 : BX x0 x2 ρ α) :
    out0_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo5 xo8 xo9 xs2 = stepDw (i 1).val xo5 xs2 (gOpX ρ α) := by
  unfold out0_B_5 kernelRun0_B
  refine (dw_read _ _ _ (i 1).val _ (k0_off11_eq i) _ xo5 ?_ _ ?_ _ _).trans (congrArg₂ (stepDw (i 1).val xo5) ?_ ?_)
  · exact harg7.read_unread xo5
  · intro x
    exact congrFun (harg7.read_unread xo5) _
  · exact readAt_whole arg14 harg14 xs2 _
  · rw [readCov_pieces' _ _ _ (bx c i arg2 harg2 arg3 harg3 arg4 harg4 arg5 harg5 arg6 harg6 arg7 harg7 arg8 harg8 arg9 harg9 arg10 harg10 arg11 harg11 arg12 harg12 arg13 harg13 arg14 harg14 arg15 harg15 x0 x2 BX0).2.1 (loopx_cover Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg4.unread x2)).2.1]
    funext I; exact congrArg (gOpX ρ α) (idx_whole inb_S1024x1024_S1024x1024_0_0 I)

end Cert.KernelIdeal.Tile

end
-- ==== Proof.Grid.lean ====
module

public import proofs.«01_k».proof.Proof.BlockDw
public import proofs.«01_k».proof.Proof.Gen.KernelIdeal.Value

/-! # The grid

What the buffers hold after each of the 288 points: point `t` takes token block `t / 8` and column block `t % 8`. From this,
what the five results of the call hold. -/

@[expose] public section

set_option maxRecDepth 8192

noncomputable section

namespace Cert.KernelIdeal.Tile

open Idealize.ShloMosaic hiding ix1 ix2 ix3
open Idealize.ShloMosaic.TcCoe Idealize.SL.Sem Cert.KernelIdeal.Gen Cert.KernelIdeal.Value Cert.Mx
open Idealize.ShloMosaic.ValueIdx

variable (m : (ℓ : Loc nD τ sig) → Buf (Elt Ideal) ℓ) (c : Dev nD)

/-- Every block of the inputs rotates to real numbers with group maxima in range: `ρ t`, `α t` for the block of `x` at point
    `t`, and `σ k`, `β k`, `υ k` for the block of `dy` of token block `k`. -/
structure Blocks (ρ α σ β υ : ℕ → ℕ → ℕ → ℕ → ℝ) : Prop where
  x : ∀ t : Fin cfg0.N, BX (iblk m c 0 t) (iblk m c 2 t) (ρ t.val) (α t.val)
  y : ∀ t : Fin cfg0.N, BY (iblk m c 0 t) (iblk m c 1 t) (iblk m c 3 t) (iblk m c 4 t) (σ (t.val / 8)) (β (t.val / 8)) (υ (t.val / 8))

variable (ρ α σ β υ : ℕ → ℕ → ℕ → ℕ → ℝ)

/-- One token block's part of an entry of the weight gradient. -/
def part (k : ℕ) (I : S1024x8192.Idx) : EReal :=
  ∑ t : Fin 1024, gOpT (σ k) (β k) (υ k) (ix2 (I 0) t)
    * gOpX (ρ (8 * k + (I 1).val / 1024)) (α (8 * k + (I 1).val / 1024)) (ix2 t ⟨(I 1).val % 1024, Nat.mod_lt _ (by decide)⟩)

/-- The weight gradient after point `n`. -/
def dwAt (n : ℕ) (I : S1024x8192.Idx) : EReal :=
  ∑ k ∈ Finset.range ((n + 8 - (I 1).val / 1024) / 8), part ρ α σ β υ k I

/-- The buffers after point `n`. -/
def stateAt (n : ℕ) : Vec Ideal S1024x8192 .f32 × Vec Ideal S512x1024 .i8 × Vec Ideal S32x1024 .i8 × Vec Ideal S512x1024 .i8 × Vec Ideal S32x1024 .i8 × Vec Ideal S1024x1024 .bf16 :=
  (dwAt ρ α σ β υ n, gCodeX (ρ n) (α n), (fun I => (gScX (α n) I).setWidth 8), gCodeY (σ (n / 8)) (β (n / 8)) (υ (n / 8)),
    (fun I => (gScY (β (n / 8)) I).setWidth 8), gOpT (σ (n / 8)) (β (n / 8)) (υ (n / 8)))

/-- Six equal components make equal tuples. -/
theorem tuple_eq {A B C D E F : Type} {a a' : A} {b b' : B} {c c' : C} {d d' : D} {e e' : E} {f f' : F}
    (h1 : a = a') (h2 : b = b') (h3 : c = c') (h4 : d = d') (h5 : e = e') (h6 : f = f') :
    (a, b, c, d, e, f) = (a', b', c', d', e', f') := by
  subst h1 h2 h3 h4 h5 h6; rfl

/-- The column block of a point. -/
theorem coord_col (t : Fin cfg0.N) : (grid0.coords t 1).val = t.val % 8 := by
  have e1 : (grid0.coords t 1).val = t.val / 1 % 8 := Pipeline.Grid.coords_val t 1 (by decide) rfl
  rw [e1, Nat.div_one]

/-- One point's step, in closed form. -/
theorem stepDw_at (n : ℕ) (prev : S1024x8192.Idx → EReal)
    (hp : ∀ I, prev I = ∑ k ∈ Finset.range ((n + 7 - (I 1).val / 1024) / 8), part ρ α σ β υ k I) :
    stepDw (n % 8) prev (gOpT (σ (n / 8)) (β (n / 8)) (υ (n / 8))) (gOpX (ρ n) (α n)) = dwAt ρ α σ β υ n := by
  funext I
  have h1 : (I 1).val < 8192 := (I 1).isLt
  unfold stepDw dwAt
  split_ifs with h
  · have hj : (I 1).val / 1024 = n % 8 := by omega
    have e : (n + 8 - (I 1).val / 1024) / 8 = (n + 7 - (I 1).val / 1024) / 8 + 1 := by omega
    have e' : (n + 7 - (I 1).val / 1024) / 8 = n / 8 := by omega
    have e3 : 8 * (n / 8) + n % 8 = n := by omega
    have e4 : (I 1).val - 1024 * (n % 8) = (I 1).val % 1024 := by omega
    rw [e, Finset.sum_range_succ, hp, e']
    refine congrArg (_ + ·) ?_
    unfold part
    rw [hj, e3]
    refine Finset.sum_congr rfl fun t _ => ?_
    refine congrArg₂ (· * ·) rfl (congrArg (gOpX (ρ n) (α n)) ?_)
    exact congrArg (ix2 t) (Fin.ext e4)
  · have e : (n + 8 - (I 1).val / 1024) / 8 = (n + 7 - (I 1).val / 1024) / 8 := by omega
    rw [e, hp]

variable {ρ α σ β υ}

/-- After every point the buffers hold what `stateAt` says. -/
theorem outs_eq (B : Blocks m c ρ α σ β υ) : ∀ (n : ℕ) (hn : n < cfg0.N), outsAt0 m c n hn = stateAt ρ α σ β υ n := by
  intro n
  induction n with
  | zero =>
    intro hn
    rw [outsAt0_zero, stAt0_A m c ⟨0, hn⟩ _ rfl rfl]
    have bx := B.x ⟨0, hn⟩
    have b_y := B.y ⟨0, hn⟩
    refine tuple_eq ?_ (out0_A_6_eq bx) (out0_A_7_eq bx) (out0_A_8_eq b_y) (out0_A_9_eq b_y) (sout0_A_2_eq b_y)
    refine (out0_A_5_eq bx b_y).trans ?_
    rw [coord_col]
    refine stepDw_at ρ α σ β υ 0 _ (fun I => ?_)
    have : (0 + 7 - (I 1).val / 1024) / 8 = 0 := by omega
    rw [this, Finset.range_zero, Finset.sum_empty]
  | succ n ih =>
    intro hn
    have hN : n + 1 < 288 := lt_of_lt_of_eq hn N_0
    have bx := B.x ⟨n + 1, hn⟩
    have b_y := B.y ⟨n + 1, hn⟩
    have pr : ∀ I : S1024x8192.Idx, dwAt ρ α σ β υ n I = ∑ k ∈ Finset.range ((n + 1 + 7 - (I 1).val / 1024) / 8), part ρ α σ β υ k I := fun I => rfl
    rw [outsAt0_succ, ih]
    by_cases h : (n + 1) % 8 = 0
    · rw [stAt0_C m c ⟨n + 1, hn⟩ _ (by show ¬(n + 1) % 288 = 0; omega) h]
      refine tuple_eq ?_ (out0_C_6_eq bx) (out0_C_7_eq bx) (out0_C_8_eq b_y) (out0_C_9_eq b_y) (sout0_C_2_eq b_y)
      refine (out0_C_5_eq bx b_y).trans ?_
      rw [coord_col]
      exact stepDw_at ρ α σ β υ (n + 1) _ pr
    · have hd : (n + 1) / 8 = n / 8 := by omega
      rw [stAt0_B m c ⟨n + 1, hn⟩ _ (by show ¬(n + 1) % 288 = 0; omega) h]
      refine tuple_eq ?_ (out0_B_6_eq bx) (out0_B_7_eq bx) (out0_B_8_eq.trans ?_) (out0_B_9_eq.trans ?_) ?_
      · refine (out0_B_5_eq bx).trans ?_
        rw [coord_col]
        have := stepDw_at ρ α σ β υ (n + 1) _ pr
        rw [hd] at this
        exact this
      · show gCodeY _ _ _ = gCodeY _ _ _; rw [hd]
      · show (fun I => (gScY _ I).setWidth 8) = fun I => (gScY _ I).setWidth 8; rw [hd]
      · show gOpT _ _ _ = gOpT _ _ _; rw [hd]

/-- The fold the results are read from. -/
theorem acc_eq (B : Blocks m c ρ α σ β υ) (n : ℕ) (hn : n < cfg0.N) (h : 0 + n < cfg0.N) :
    Pipeline.accAt (fun n h => stAt0 m c n h junk0) (stAt0 m c) 0 n h = stateAt ρ α σ β υ n :=
  (outsAt0_sweep m c n hn).symm.trans (outs_eq m c B n hn)

/-- The weight gradient the call returns. -/
theorem G5_eq (B : Blocks m c ρ α σ β υ) (I : S1024x8192.Idx) : G5 m c I = ∑ k ∈ Finset.range 36, part ρ α σ β υ k I := by
  rw [G5_last, acc_eq m c B 287 (lt_of_lt_of_eq (by decide) N_0.symm)]
  have h1 : (I 1).val < 8192 := (I 1).isLt
  have e : (287 + 8 - (I 1).val / 1024) / 8 = 36 := by omega
  show dwAt ρ α σ β υ 287 I = _
  unfold dwAt; rw [e]

/-- The codes of `x` the call returns. -/
theorem G6_eq (B : Blocks m c ρ α σ β υ) (I : S18432x8192.Idx) :
    G6 m c I = gCodeX (ρ (8 * ((I 0).val / 512) + (I 1).val / 1024)) (α (8 * ((I 0).val / 512) + (I 1).val / 1024))
      (ix2 ⟨(I 0).val % 512, Nat.mod_lt _ (by decide)⟩ ⟨(I 1).val % 1024, Nat.mod_lt _ (by decide)⟩) := by
  have h0 : (I 0).val < 18432 := (I 0).isLt
  have h1 : (I 1).val < 8192 := (I 1).isLt
  have e : pt6Of I = 8 * ((I 0).val / 512) + (I 1).val / 1024 := by show 8 * ((I 0).val / 512 - 0) + 1 * ((I 1).val / 1024 - 0) = _; omega
  have hp : pt6Of I < cfg0.N := lt_of_lt_of_eq (by rw [e]; omega) N_0.symm
  unfold G6
  rw [dif_pos hp, acc_eq m c B _ hp]
  show gCodeX (ρ (pt6Of I)) (α (pt6Of I)) (loc6Of I) = _
  rw [e]
  congr 1; funext a; fin_cases a <;> rfl

/-- The scale bytes of `x` the call returns. -/
theorem G7_eq (B : Blocks m c ρ α σ β υ) (I : S1152x8192.Idx) :
    G7 m c I = (gScX (α (8 * ((I 0).val / 32) + (I 1).val / 1024))
      (ix2 ⟨(I 0).val % 32, Nat.mod_lt _ (by decide)⟩ ⟨(I 1).val % 1024, Nat.mod_lt _ (by decide)⟩)).setWidth 8 := by
  have h0 : (I 0).val < 1152 := (I 0).isLt
  have h1 : (I 1).val < 8192 := (I 1).isLt
  have e : pt7Of I = 8 * ((I 0).val / 32) + (I 1).val / 1024 := by show 8 * ((I 0).val / 32 - 0) + 1 * ((I 1).val / 1024 - 0) = _; omega
  have hp : pt7Of I < cfg0.N := lt_of_lt_of_eq (by rw [e]; omega) N_0.symm
  unfold G7
  rw [dif_pos hp, acc_eq m c B _ hp]
  show (gScX (α (pt7Of I)) (loc7Of I)).setWidth 8 = _
  rw [e]
  congr 2; funext a; fin_cases a <;> rfl

/-- The codes of `dy` the call returns. -/
theorem G8_eq (B : Blocks m c ρ α σ β υ) (I : S18432x1024.Idx) :
    G8 m c I = gCodeY (σ ((I 0).val / 512)) (β ((I 0).val / 512)) (υ ((I 0).val / 512))
      (ix2 ⟨(I 0).val % 512, Nat.mod_lt _ (by decide)⟩ ⟨(I 1).val % 1024, Nat.mod_lt _ (by decide)⟩) := by
  have h0 : (I 0).val < 18432 := (I 0).isLt
  have h1 : (I 1).val < 1024 := (I 1).isLt
  have e : pt8Of I = 8 * ((I 0).val / 512) + 7 := by show 8 * (1 * ((I 0).val / 512 - 0) + 1 * ((I 1).val / 1024 - 0)) + 7 = _; omega
  have hp : pt8Of I < cfg0.N := lt_of_lt_of_eq (by rw [e]; omega) N_0.symm
  have e' : pt8Of I / 8 = (I 0).val / 512 := by omega
  unfold G8
  rw [dif_pos hp, acc_eq m c B _ hp]
  show gCodeY (σ (pt8Of I / 8)) (β (pt8Of I / 8)) (υ (pt8Of I / 8)) (loc8Of I) = _
  rw [e']
  congr 1; funext a; fin_cases a <;> rfl

/-- The scale bytes of `dy` the call returns. -/
theorem G9_eq (B : Blocks m c ρ α σ β υ) (I : S1152x1024.Idx) :
    G9 m c I = (gScY (β ((I 0).val / 32))
      (ix2 ⟨(I 0).val % 32, Nat.mod_lt _ (by decide)⟩ ⟨(I 1).val % 1024, Nat.mod_lt _ (by decide)⟩)).setWidth 8 := by
  have h0 : (I 0).val < 1152 := (I 0).isLt
  have h1 : (I 1).val < 1024 := (I 1).isLt
  have e : pt9Of I = 8 * ((I 0).val / 32) + 7 := by show 8 * (1 * ((I 0).val / 32 - 0) + 1 * ((I 1).val / 1024 - 0)) + 7 = _; omega
  have hp : pt9Of I < cfg0.N := lt_of_lt_of_eq (by rw [e]; omega) N_0.symm
  have e' : pt9Of I / 8 = (I 0).val / 32 := by omega
  unfold G9
  rw [dif_pos hp, acc_eq m c B _ hp]
  show (gScY (β (pt9Of I / 8)) (loc9Of I)).setWidth 8 = _
  rw [e']
  congr 2; funext a; fin_cases a <;> rfl

end Cert.KernelIdeal.Tile

end
-- ==== Proof.Host.lean ====
module

public import proofs.«01_k».proof.Proof.Grid
public import Idealize.ShloMosaic.Lib.Routing.Ops
public import Idealize.ShloMosaic.Lib.Pipeline.ValueKit

/-! # What the host hands to the call

The rotation matrix, the permutation and the three inputs as the call finds them. -/

@[expose] public section

set_option maxRecDepth 8192

noncomputable section

namespace Cert.KernelIdeal.Tile

open Idealize.ShloMosaic hiding ix1 ix2 ix3 ix4
open Idealize.ShloMosaic.TcCoe Idealize.SL.Sem Cert.KernelIdeal.Gen Cert.KernelIdeal.Value Cert.Mx
open Idealize.ShloMosaic.ValueIdx

/-- The Hadamard matrix with signs and norm, as the host computes it. -/
def matM (sg : (⟨S64, .f32⟩ : BufTy).Contents (Elt Ideal)) : FVec Ideal S64x64 .f32 :=
  mulf (mulf (select (cmpi .eq (andi (ctpop (andi
      (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0)))))
      (broadcastInDim S64x64 ![] bcast_S_S64x64 (constantI S_ 32 1#32)))
      (broadcastInDim S64x64 ![] bcast_S_S64x64 (constantI S_ 32 0#32)))
      (broadcastInDim S64x64 ![] bcast_S_S64x64 (constant S_ FTy.f32 1065353216#32))
      (broadcastInDim S64x64 ![] bcast_S_S64x64 (constant S_ FTy.f32 3212836864#32)))
    (broadcastInDim S64x64 ![0, 1] bcast_S1x64_S64x64_0_1 (broadcastInDim S1x64 ![1] bcast_S64_S1x64_1 sg)))
    (broadcastInDim S64x64 ![] bcast_S_S64x64 (constant S_ FTy.f32 1040187392#32))

/-- The identity of the four groups of a tile. -/
def eye4 : FVec Ideal S4x4 .f32 :=
  uitofp FTy.f32 (cmpi CmpIPredicate.eq (addi (iotaInDim S4x4 32 0) (broadcastInDim S4x4 ![] bcast_S_S4x4 (constantI S_ 32 0#32))) (iotaInDim S4x4 32 1))

/-- Four copies of the matrix on the diagonal. -/
def fullV (M : FVec Ideal S64x64 .f32) : FVec Ideal S256x256 .f32 :=
  shapeCast S256x256 (mulf (broadcastInDim S4x64x4x64 ![0, 1, 2, 3] bcast_S4x1x4x1_S4x64x4x64_0_1_2_3
      (broadcastInDim S4x1x4x1 ![0, 2] bcast_S4x4_S4x1x4x1_0_2 eye4))
    (broadcastInDim S4x64x4x64 ![0, 1, 2, 3] bcast_S1x64x1x64_S4x64x4x64_0_1_2_3 (broadcastInDim S1x64x1x64 ![1, 3] bcast_S64x64_S1x64x1x64_1_3 M)))
    shapeCasts_S4x64x4x64_S256x256

/-- The order of the tokens of a tile: the even ones, then the odd ones. -/
def orderV : IVec S256 32 :=
  concatenate S256 0
    [⟨S128, addi (broadcastInDim S128 ![] bcast_S_S128 (constantI S_ 32 0#32)) (muli (broadcastInDim S128 ![] bcast_S_S128 (constantI S_ 32 2#32)) (iotaInDim S128 32 0))⟩,
     ⟨S128, addi (broadcastInDim S128 ![] bcast_S_S128 (constantI S_ 32 1#32)) (muli (broadcastInDim S128 ![] bcast_S_S128 (constantI S_ 32 2#32)) (iotaInDim S128 32 0))⟩]
    concatenates_S128_S128_S256_d0

/-- The same as row numbers of a gather. -/
def orderIx : IVec S256x1 32 :=
  broadcastInDim S256x1 ![0] bcast_S256_S256x1_0
    (select (cmpi CmpIPredicate.slt orderV (broadcastInDim S256 ![] bcast_S_S256 (constantI S_ 32 0#32)))
      (addi orderV (broadcastInDim S256 ![] bcast_S_S256 (constantI S_ 32 256#32))) orderV)

/-- The identity of a tile. -/
def eye256 : FVec Ideal S256x256 .bf16 :=
  uitofp FTy.bf16 (cmpi CmpIPredicate.eq (addi (iotaInDim S256x256 32 0) (broadcastInDim S256x256 ![] bcast_S_S256x256 (constantI S_ 32 0#32))) (iotaInDim S256x256 32 1))

variable (m : (ℓ : Loc nD τ sig) → Buf (Elt Ideal) ℓ) (c : Dev nD)

set_option maxHeartbeats 1600000 in
/-- The rotation matrix the call finds. -/
theorem V_rot : V m c main_v48 = truncf FTy.bf16 (Host.gather gather_S256x256_S256x1_S256x256_1_0_n_n_0_1_1256 (fullV (matM (m (c.tc.loc main_arg2)))) orderIx) bitsLt_bf16_f32 := by
  simp only [V, hostOps0, hostOps0_1, hostOps0_2, List.flatten_cons, List.flatten_nil, List.append_nil, List.cons_append, List.nil_append, StableHlo.after_cons, StableHlo.after_nil]
  after_results_simp
  after_results_loop
  rfl

set_option maxHeartbeats 1600000 in
/-- The permutation the call finds. -/
theorem V_perm : V m c main_v61 = Host.gather gather_S256x256_S256x1_S256x256_1_0_n_n_0_1_1256 eye256 orderIx := by
  simp only [V, hostOps0, hostOps0_1, hostOps0_2, List.flatten_cons, List.flatten_nil, List.append_nil, List.cons_append, List.nil_append, StableHlo.after_cons, StableHlo.after_nil]
  after_results_simp
  after_results_loop
  rfl

set_option maxHeartbeats 1600000 in
/-- `x` as rows of tokens. -/
theorem V_x : V m c main_v62 = shapeCast S36864x8192 (m (c.tc.loc main_arg0)) shapeCasts_S6x6144x8192_S36864x8192 := by
  simp only [V, hostOps0, hostOps0_1, hostOps0_2, List.flatten_cons, List.flatten_nil, List.append_nil, List.cons_append, List.nil_append, StableHlo.after_cons, StableHlo.after_nil]
  after_results_simp
  rfl

set_option maxHeartbeats 1600000 in
/-- `dy` as rows of tokens. -/
theorem V_dy : V m c main_v63 = shapeCast S36864x1024 (m (c.tc.loc main_arg1)) shapeCasts_S6x6144x1024_S36864x1024 := by
  simp only [V, hostOps0, hostOps0_1, hostOps0_2, List.flatten_cons, List.flatten_nil, List.append_nil, List.cons_append, List.nil_append, StableHlo.after_cons, StableHlo.after_nil]
  after_results_simp
  rfl

set_option maxHeartbeats 1600000 in
/-- The random bytes as rows of tokens. -/
theorem V_rand : V m c main_v64 = shapeCast S36864x1024 (m (c.tc.loc main_arg3)) shapeCasts_S6x6144x1024_S36864x1024 := by
  simp only [V, hostOps0, hostOps0_1, hostOps0_2, List.flatten_cons, List.flatten_nil, List.append_nil, List.cons_append, List.nil_append, StableHlo.after_cons, StableHlo.after_nil]
  after_results_simp
  rfl

/-- The token of a tile that its row `p` holds. -/
def tok (p : ℕ) : ℕ := if p < 128 then 2 * p else 2 * (p - 128) + 1

theorem tok_lt (p : Fin 256) : tok p.val < 256 := by unfold tok; split_ifs <;> omega

/-- The order, read. -/
theorem orderIx_apply : ∀ p : Fin 256, orderIx (ix2 p (0 : Fin 1)) = BitVec.ofNat 32 (tok p.val) := by decide +kernel

theorem one_real : FloatOps.uitofp (F := Ideal) FTy.f32 (1#1) = (1 : EReal) := by
  show ((((1#1 : BitVec 1).toNat : ℤ) : ℝ) : EReal) = 1
  simp

theorem eye4_apply (a b : Fin 4) : eye4 (ix2 a b) = if a = b then (1 : EReal) else 0 := by
  have h : ∀ a b : Fin 4, (cmpi CmpIPredicate.eq (addi (iotaInDim S4x4 32 0) (broadcastInDim S4x4 ![] bcast_S_S4x4 (constantI S_ 32 0#32))) (iotaInDim S4x4 32 1) : IVec S4x4 1) (ix2 a b) = if a = b then 1#1 else 0#1 := by decide +kernel
  show FloatOps.uitofp FTy.f32 ((cmpi CmpIPredicate.eq (addi (iotaInDim S4x4 32 0) (broadcastInDim S4x4 ![] bcast_S_S4x4 (constantI S_ 32 0#32))) (iotaInDim S4x4 32 1) : IVec S4x4 1) (ix2 a b)) = _
  rw [h]
  split_ifs
  · exact one_real
  · show ((((0#1 : BitVec 1).toNat : ℤ) : ℝ) : EReal) = 0
    simp

/-- The grid coordinates of a point, as block numbers. -/
theorem pt_coords (t : Fin cfg0.N) : (BitVec.ofNat 32 (grid0.coords t 0).val).toNat = t.val / 8 ∧ (BitVec.ofNat 32 (grid0.coords t 1).val).toNat = t.val % 8 := by
  have h : t.val < 288 := lt_of_lt_of_eq t.isLt N_0
  have e0 : (grid0.coords t 0).val = t.val / 8 % 36 := Pipeline.Grid.coords_val t 0 (by decide) rfl
  rw [coord_col, e0, BitVec.toNat_ofNat, BitVec.toNat_ofNat]
  omega

theorem row_lt (t : Fin cfg0.N) (a : Fin 1024) : 1024 * (t.val / 8) + a.val < 36864 := by
  have h : t.val < 288 := lt_of_lt_of_eq t.isLt N_0
  omega

theorem iblk_x (t : Fin cfg0.N) (a b : Fin 1024) :
    iblk m c 2 t (ix2 a b) = V m c main_v62 (ix2 (⟨1024 * (t.val / 8) + a.val, row_lt t a⟩ : Fin 36864) (⟨1024 * (t.val % 8) + b.val, by omega⟩ : Fin 8192)) := by
  show V m c main_v62 ((win0_2.blk t).view.emb (ix2 a b)) = _
  refine congrArg (V m c main_v62) (funext fun z => Fin.ext ?_)
  match z with
  | ⟨0, _⟩ => show (BitVec.ofNat 32 (grid0.coords t 0).val).toNat * 1024 + 1 * a.val = 1024 * (t.val / 8) + a.val; rw [(pt_coords t).1]; omega
  | ⟨1, _⟩ => show (BitVec.ofNat 32 (grid0.coords t 1).val).toNat * 1024 + 1 * b.val = 1024 * (t.val % 8) + b.val; rw [(pt_coords t).2]; omega

theorem iblk_dy (t : Fin cfg0.N) (a b : Fin 1024) :
    iblk m c 3 t (ix2 a b) = V m c main_v63 (ix2 (⟨1024 * (t.val / 8) + a.val, row_lt t a⟩ : Fin 36864) b) := by
  show V m c main_v63 ((win0_3.blk t).view.emb (ix2 a b)) = _
  refine congrArg (V m c main_v63) (funext fun z => Fin.ext ?_)
  match z with
  | ⟨0, _⟩ => show (BitVec.ofNat 32 (grid0.coords t 0).val).toNat * 1024 + 1 * a.val = 1024 * (t.val / 8) + a.val; rw [(pt_coords t).1]; omega
  | ⟨1, _⟩ => show 0 * 1024 + 1 * b.val = b.val; omega

theorem iblk_rand (t : Fin cfg0.N) (a b : Fin 1024) :
    iblk m c 4 t (ix2 a b) = V m c main_v64 (ix2 (⟨1024 * (t.val / 8) + a.val, row_lt t a⟩ : Fin 36864) b) := by
  show V m c main_v64 ((win0_4.blk t).view.emb (ix2 a b)) = _
  refine congrArg (V m c main_v64) (funext fun z => Fin.ext ?_)
  match z with
  | ⟨0, _⟩ => show (BitVec.ofNat 32 (grid0.coords t 0).val).toNat * 1024 + 1 * a.val = 1024 * (t.val / 8) + a.val; rw [(pt_coords t).1]; omega
  | ⟨1, _⟩ => show 0 * 1024 + 1 * b.val = b.val; omega

theorem iblk_rot (t : Fin cfg0.N) (a b : Fin 256) : iblk m c 0 t (ix2 a b) = V m c main_v48 (ix2 a b) := by
  show V m c main_v48 ((win0_0.blk t).view.emb (ix2 a b)) = _
  refine congrArg (V m c main_v48) (funext fun z => Fin.ext ?_)
  match z with
  | ⟨0, _⟩ => show 0 * 256 + 1 * a.val = a.val; omega
  | ⟨1, _⟩ => show 0 * 256 + 1 * b.val = b.val; omega

theorem iblk_perm (t : Fin cfg0.N) (a b : Fin 256) : iblk m c 1 t (ix2 a b) = V m c main_v61 (ix2 a b) := by
  show V m c main_v61 ((win0_1.blk t).view.emb (ix2 a b)) = _
  refine congrArg (V m c main_v61) (funext fun z => Fin.ext ?_)
  match z with
  | ⟨0, _⟩ => show 0 * 256 + 1 * a.val = a.val; omega
  | ⟨1, _⟩ => show 0 * 256 + 1 * b.val = b.val; omega

/-- The diagonal copies, read. -/
theorem fullV_apply (M : FVec Ideal S64x64 .f32) (t u : Fin 256) :
    fullV M (ix2 t u) = (if t.val / 64 = u.val / 64 then (1 : EReal) else 0) * M (ix2 (⟨t.val % 64, by omega⟩ : Fin 64) (⟨u.val % 64, by omega⟩ : Fin 64)) := by
  unfold fullV
  refine (shapeCast_apply _ _ _ (ix4 (⟨t.val / 64, by omega⟩ : Fin 4) (⟨t.val % 64, by omega⟩ : Fin 64) (⟨u.val / 64, by omega⟩ : Fin 4) (⟨u.val % 64, by omega⟩ : Fin 64)) ?_).trans ?_
  · rw [Shape.rowMajor_val_four, Shape.rowMajor_val_two]
    show ((t.val / 64 * 64 + t.val % 64) * 4 + u.val / 64) * 64 + u.val % 64 = t.val * 256 + u.val
    omega
  show (_ : EReal) * _ = _
  refine congrArg₂ (· * ·) ?_ ?_
  · refine (broadcastInDim_apply _ _ _ _ (ix4 (⟨t.val / 64, by omega⟩ : Fin 4) (0 : Fin 1) (⟨u.val / 64, by omega⟩ : Fin 4) (0 : Fin 1)) (fun a => match a with | ⟨0, _⟩ => rfl | ⟨1, _⟩ => rfl | ⟨2, _⟩ => rfl | ⟨3, _⟩ => rfl)).trans ?_
    refine (broadcastInDim_apply _ _ _ _ (ix2 (⟨t.val / 64, by omega⟩ : Fin 4) (⟨u.val / 64, by omega⟩ : Fin 4)) (fun a => match a with | ⟨0, _⟩ => rfl | ⟨1, _⟩ => rfl)).trans ?_
    rw [eye4_apply]
    simp only [Fin.mk.injEq]
  · refine (broadcastInDim_apply _ _ _ _ (ix4 (0 : Fin 1) (⟨t.val % 64, by omega⟩ : Fin 64) (0 : Fin 1) (⟨u.val % 64, by omega⟩ : Fin 64)) (fun a => match a with | ⟨0, _⟩ => rfl | ⟨1, _⟩ => rfl | ⟨2, _⟩ => rfl | ⟨3, _⟩ => rfl)).trans ?_
    exact broadcastInDim_apply _ _ _ _ (ix2 (⟨t.val % 64, by omega⟩ : Fin 64) (⟨u.val % 64, by omega⟩ : Fin 64)) (fun a => match a with | ⟨0, _⟩ => rfl | ⟨1, _⟩ => rfl)

/-- The rotation matrix of a tile, read. -/
theorem rot_apply (t : Fin cfg0.N) (p u : Fin 256) :
    iblk m c 0 t (ix2 p u) = (if tok p.val / 64 = u.val / 64 then (1 : EReal) else 0)
      * matM (m (c.tc.loc main_arg2)) (ix2 (⟨tok p.val % 64, by omega⟩ : Fin 64) (⟨u.val % 64, by omega⟩ : Fin 64)) := by
  rw [iblk_rot, V_rot]
  show Host.gather gather_S256x256_S256x1_S256x256_1_0_n_n_0_1_1256 (fullV (matM (m (c.tc.loc main_arg2)))) orderIx (ix2 p u) = _
  refine (Idealize.ShloMosaic.Routing.gather_row gather_S256x256_S256x1_S256x256_1_0_n_n_0_1_1256 rfl rfl rfl rfl rfl _ _ p u ⟨tok p.val, tok_lt p⟩ (orderIx_apply p) (by decide)).trans ?_
  exact fullV_apply _ _ _

/-- The permutation of a tile, read. -/
theorem perm_apply (t : Fin cfg0.N) (p u : Fin 256) : iblk m c 1 t (ix2 p u) = if tok p.val = u.val then (1 : EReal) else 0 := by
  have h : ∀ a b : Fin 256, (cmpi CmpIPredicate.eq (addi (iotaInDim S256x256 32 0) (broadcastInDim S256x256 ![] bcast_S_S256x256 (constantI S_ 32 0#32))) (iotaInDim S256x256 32 1) : IVec S256x256 1) (ix2 a b) = if a = b then 1#1 else 0#1 := by
    intro a b
    have e : (BitVec.ofNat 32 a.val + 0#32 = BitVec.ofNat 32 b.val) ↔ a = b := by
      rw [BitVec.add_zero, Fin.ext_iff]
      constructor
      · intro h
        have := congrArg BitVec.toNat h
        rw [BitVec.toNat_ofNat, BitVec.toNat_ofNat] at this
        omega
      · intro h; rw [h]
    show BitVec.ofBool (decide (BitVec.ofNat 32 a.val + 0#32 = BitVec.ofNat 32 b.val)) = _
    by_cases hab : a = b
    · rw [if_pos hab, decide_eq_true (e.2 hab)]; rfl
    · rw [if_neg hab, decide_eq_false (fun h => hab (e.1 h))]; rfl
  rw [iblk_perm, V_perm]
  refine (Idealize.ShloMosaic.Routing.gather_row gather_S256x256_S256x1_S256x256_1_0_n_n_0_1_1256 rfl rfl rfl rfl rfl _ _ p u ⟨tok p.val, tok_lt p⟩ (orderIx_apply p) (by decide)).trans ?_
  show FloatOps.uitofp FTy.bf16 ((cmpi CmpIPredicate.eq (addi (iotaInDim S256x256 32 0) (broadcastInDim S256x256 ![] bcast_S_S256x256 (constantI S_ 32 0#32))) (iotaInDim S256x256 32 1) : IVec S256x256 1) (ix2 _ u)) = _
  rw [h]
  simp only [Fin.ext_iff]
  split_ifs
  · exact one_real
  · show ((((0#1 : BitVec 1).toNat : ℤ) : ℝ) : EReal) = 0
    simp

/-- A sum over the tokens of a tile against one diagonal copy is a sum over the group of 64. -/
theorem sum_group (T : ℕ) (hT : T < 256) (M : Fin 64 → EReal) (f : Fin 256 → EReal) :
    ∑ j : Fin 256, ((if T / 64 = j.val / 64 then (1 : EReal) else 0) * M ⟨j.val % 64, by omega⟩) * f j
      = ∑ u : Fin 64, M u * f ⟨64 * (T / 64) + u.val, by omega⟩ := by
  rw [← (finProdFinEquiv : Fin 4 × Fin 64 ≃ Fin 256).sum_comp, Fintype.sum_prod_type]
  have hv : ∀ (a : Fin 4) (u : Fin 64), (finProdFinEquiv (a, u) : Fin 256).val = u.val + 64 * a.val := fun a u => rfl
  rw [Finset.sum_eq_single (⟨T / 64, by omega⟩ : Fin 4)]
  · refine Finset.sum_congr rfl fun u _ => ?_
    have h1 : T / 64 = (finProdFinEquiv ((⟨T / 64, by omega⟩ : Fin 4), u) : Fin 256).val / 64 := by rw [hv]; dsimp only; omega
    rw [if_pos h1, one_mul]
    refine congrArg₂ (· * ·) (congrArg M (Fin.ext ?_)) (congrArg f (Fin.ext ?_))
    · show (finProdFinEquiv ((⟨T / 64, by omega⟩ : Fin 4), u) : Fin 256).val % 64 = u.val
      rw [hv]; dsimp only; omega
    · rw [hv]; dsimp only; omega
  · intro a _ ha
    refine Finset.sum_eq_zero fun u _ => ?_
    have h1 : ¬T / 64 = (finProdFinEquiv (a, u) : Fin 256).val / 64 := by
      rw [hv]; intro h; exact ha (Fin.ext (by dsimp only; omega))
    rw [if_neg h1, zero_mul, zero_mul]
  · intro h; exact absurd (Finset.mem_univ _) h

/-- A sum over the tokens of a tile against the permutation is one entry. -/
theorem sum_perm (T : ℕ) (hT : T < 256) (f : Fin 256 → EReal) :
    ∑ j : Fin 256, (if T = j.val then (1 : EReal) else 0) * f j = f ⟨T, hT⟩ := by
  rw [Finset.sum_eq_single (⟨T, hT⟩ : Fin 256)]
  · rw [if_pos rfl, one_mul]
  · intro j _ hj
    rw [if_neg (fun h => hj (Fin.ext h.symm)), zero_mul]
  · intro h; exact absurd (Finset.mem_univ _) h

end Cert.KernelIdeal.Tile

end
-- ==== Proof.Spec.lean ====
module

public import proofs.«01_k».proof.Proof.Host

/-! # The rotated inputs, by token

What the blocks of the call hold, in terms of tokens and columns of the whole arrays. -/

@[expose] public section

set_option maxRecDepth 8192

noncomputable section

namespace Cert.KernelIdeal.Tile

open Idealize.ShloMosaic hiding ix1 ix2 ix3 ix4
open Idealize.ShloMosaic.TcCoe Idealize.SL.Sem Cert.KernelIdeal.Gen Cert.KernelIdeal.Value Cert.Mx
open Idealize.ShloMosaic.ValueIdx

/-- Token `n`, column `k` of the rotated array. -/
def rotTok {C : ℕ} (M : FVec Ideal S64x64 .f32) (X : (⟨3, ![6, 6144, C]⟩ : Shape).Idx → EReal) (n k : ℕ) : EReal :=
  if h : n < 36864 ∧ k < C then
    ∑ u : Fin 64, M (ix2 (⟨n % 64, Nat.mod_lt _ (by decide)⟩ : Fin 64) u)
      * X (ix3 (⟨n / 6144, by omega⟩ : Fin 6) (⟨64 * (n % 6144 / 64) + u.val, by omega⟩ : Fin 6144) (⟨k, h.2⟩ : Fin C))
  else 0

/-- The largest magnitude of a group of 32 tokens. -/
def supTok {C : ℕ} (M : FVec Ideal S64x64 .f32) (X : (⟨3, ![6, 6144, C]⟩ : Shape).Idx → EReal) (G k : ℕ) : EReal :=
  ⨆ i : Fin 32, max (rotTok M X (32 * G + i.val) k) (-(rotTok M X (32 * G + i.val) k))

/-- Every group of the rotated array has a real largest magnitude that satisfies `Ok`. -/
def Good {C : ℕ} (M : FVec Ideal S64x64 .f32) (X : (⟨3, ![6, 6144, C]⟩ : Shape).Idx → EReal) (Ok : ℝ → Prop) : Prop :=
  ∀ G k, G < 1152 → k < C → ∃ a : ℝ, supTok M X G k = (a : EReal) ∧ Ok a

section
variable {C : ℕ} (M : FVec Ideal S64x64 .f32) (X : (⟨3, ![6, 6144, C]⟩ : Shape).Idx → EReal)

/-- The rotated array as real numbers. -/
def R (n k : ℕ) : ℝ := (rotTok M X n k).toReal
/-- The group maxima as real numbers. -/
def A (G k : ℕ) : ℝ := (supTok M X G k).toReal

variable {M X} {Ok : ℝ → Prop}

theorem Good.sup (h : Good M X Ok) {G k : ℕ} (hG : G < 1152) (hk : k < C) : supTok M X G k = (A M X G k : EReal) := by
  obtain ⟨a, ha, _⟩ := h G k hG hk
  unfold A; rw [ha]; rfl

theorem Good.ok (h : Good M X Ok) {G k : ℕ} (hG : G < 1152) (hk : k < C) : Ok (A M X G k) := by
  obtain ⟨a, ha, hok⟩ := h G k hG hk
  unfold A; rw [ha]; exact hok

theorem Good.val (h : Good M X Ok) {n k : ℕ} (hn : n < 36864) (hk : k < C) : rotTok M X n k = (R M X n k : EReal) := by
  have hs := h.sup (G := n / 32) (by omega) hk
  have hle : max (rotTok M X n k) (-(rotTok M X n k)) ≤ (A M X (n / 32) k : EReal) := by
    rw [← hs]
    unfold supTok
    have := le_iSup (fun i : Fin 32 => max (rotTok M X (32 * (n / 32) + i.val) k) (-(rotTok M X (32 * (n / 32) + i.val) k))) (⟨n % 32, Nat.mod_lt _ (by decide)⟩ : Fin 32)
    have e : 32 * (n / 32) + n % 32 = n := Nat.div_add_mod _ _
    simp only [e] at this
    exact this
  unfold R
  refine (EReal.coe_toReal ?_ ?_).symm
  · intro ht; rw [ht] at hle; exact absurd (le_trans (le_max_left _ _) hle) (not_le.2 (EReal.coe_lt_top _))
  · intro ht; rw [ht] at hle; exact absurd (le_trans (le_max_right _ _) hle) (not_le.2 (EReal.coe_lt_top _))

/-- No entry is larger than its group's maximum. -/
theorem Good.abs_le (h : Good M X Ok) {n k : ℕ} (hn : n < 36864) (hk : k < C) : |R M X n k| ≤ A M X (n / 32) k := by
  have hs := h.sup (G := n / 32) (by omega) hk
  have := le_iSup (fun i : Fin 32 => max (rotTok M X (32 * (n / 32) + i.val) k) (-(rotTok M X (32 * (n / 32) + i.val) k))) (⟨n % 32, Nat.mod_lt _ (by decide)⟩ : Fin 32)
  have e : 32 * (n / 32) + n % 32 = n := Nat.div_add_mod _ _
  simp only [e] at this
  rw [h.val hn hk, abs_coe] at this
  have h2 := this.trans (le_of_eq hs)
  exact EReal.coe_le_coe_iff.1 h2

end

/-- A supremum over sixteen pairs is one over 32. -/
theorem iSup_pairs (f : ℕ → EReal) : (⨆ p : Fin 16, max (f (2 * p.val)) (f (2 * p.val + 1))) = ⨆ i : Fin 32, f i.val := by
  apply le_antisymm
  · refine iSup_le fun p => max_le ?_ ?_
    · exact le_iSup (fun i : Fin 32 => f i.val) ⟨2 * p.val, by omega⟩
    · exact le_iSup (fun i : Fin 32 => f i.val) ⟨2 * p.val + 1, by omega⟩
  · refine iSup_le fun i => ?_
    refine le_trans ?_ (le_iSup (fun p : Fin 16 => max (f (2 * p.val)) (f (2 * p.val + 1))) ⟨i.val / 2, by omega⟩)
    by_cases hi : i.val % 2 = 0
    · have e : i.val = 2 * (i.val / 2) := by omega
      exact (congrArg f e).le.trans (le_max_left _ _)
    · have e : i.val = 2 * (i.val / 2) + 1 := by omega
      exact (congrArg f e).le.trans (le_max_right _ _)

/-- The token row `p` of tile `q` of block `k` holds. -/
def tokAt (k q p : ℕ) : ℕ := 1024 * k + 256 * (q / 4) + tok p

variable (m : (ℓ : Loc nD τ sig) → Buf (Elt Ideal) ℓ) (c : Dev nD)

/-- The matrix of the device's signs. -/
def mM : FVec Ideal S64x64 .f32 := matM (m (c.tc.loc main_arg2))
/-- The device's `x`. -/
def mX : (⟨3, ![6, 6144, 8192]⟩ : Shape).Idx → EReal := m (c.tc.loc main_arg0)
/-- The device's `dy`. -/
def mY : (⟨3, ![6, 6144, 1024]⟩ : Shape).Idx → EReal := m (c.tc.loc main_arg1)
/-- The device's random bytes. -/
def mU : (⟨3, ![6, 6144, 1024]⟩ : Shape).Idx → BitVec 8 := m (c.tc.loc main_arg3)

/-- A random byte as a number. -/
def U (r : (⟨3, ![6, 6144, 1024]⟩ : Shape).Idx → BitVec 8) (n k : ℕ) : ℝ :=
  if h : n < 36864 ∧ k < 1024 then
    (((r (ix3 (⟨n / 6144, by omega⟩ : Fin 6) (⟨n % 6144, Nat.mod_lt _ (by decide)⟩ : Fin 6144) (⟨k, h.2⟩ : Fin 1024))).setWidth 32).toInt : ℝ)
  else 0

/-- The block of `x` at a point, read. -/
theorem x_read (t : Fin cfg0.N) (a b : Fin 1024) (n k : ℕ) (hn : n = 1024 * (t.val / 8) + a.val) (hk : k = 1024 * (t.val % 8) + b.val) (h1 : n < 36864) (h2 : k < 8192) :
    iblk m c 2 t (ix2 a b) = mX m c (ix3 (⟨n / 6144, by omega⟩ : Fin 6) (⟨n % 6144, Nat.mod_lt _ (by decide)⟩ : Fin 6144) (⟨k, h2⟩ : Fin 8192)) := by
  subst hn hk
  rw [iblk_x, V_x]
  refine shapeCast_apply _ _ _ _ ?_
  show ((⟨3, ![6, 6144, 8192]⟩ : Shape).rowMajor _).val = ((⟨2, ![36864, 8192]⟩ : Shape).rowMajor _).val
  rw [Shape.rowMajor_val_three, Shape.rowMajor_val_two]
  show ((1024 * (t.val / 8) + a.val) / 6144 * 6144 + (1024 * (t.val / 8) + a.val) % 6144) * 8192 + (1024 * (t.val % 8) + b.val) = (1024 * (t.val / 8) + a.val) * 8192 + (1024 * (t.val % 8) + b.val)
  omega

/-- The block of `dy` at a point, read. -/
theorem dy_read (t : Fin cfg0.N) (a b : Fin 1024) (n : ℕ) (hn : n = 1024 * (t.val / 8) + a.val) (h1 : n < 36864) :
    iblk m c 3 t (ix2 a b) = mY m c (ix3 (⟨n / 6144, by omega⟩ : Fin 6) (⟨n % 6144, Nat.mod_lt _ (by decide)⟩ : Fin 6144) b) := by
  subst hn
  rw [iblk_dy, V_dy]
  refine shapeCast_apply _ _ _ _ ?_
  show ((⟨3, ![6, 6144, 1024]⟩ : Shape).rowMajor _).val = ((⟨2, ![36864, 1024]⟩ : Shape).rowMajor _).val
  rw [Shape.rowMajor_val_three, Shape.rowMajor_val_two]
  show ((1024 * (t.val / 8) + a.val) / 6144 * 6144 + (1024 * (t.val / 8) + a.val) % 6144) * 1024 + b.val = (1024 * (t.val / 8) + a.val) * 1024 + b.val
  omega

/-- The block of random bytes at a point, read. -/
theorem rnd_read (t : Fin cfg0.N) (a b : Fin 1024) (n : ℕ) (hn : n = 1024 * (t.val / 8) + a.val) (h1 : n < 36864) :
    iblk m c 4 t (ix2 a b) = mU m c (ix3 (⟨n / 6144, by omega⟩ : Fin 6) (⟨n % 6144, Nat.mod_lt _ (by decide)⟩ : Fin 6144) b) := by
  subst hn
  rw [iblk_rand, V_rand]
  refine shapeCast_apply _ _ _ _ ?_
  show ((⟨3, ![6, 6144, 1024]⟩ : Shape).rowMajor _).val = ((⟨2, ![36864, 1024]⟩ : Shape).rowMajor _).val
  rw [Shape.rowMajor_val_three, Shape.rowMajor_val_two]
  show ((1024 * (t.val / 8) + a.val) / 6144 * 6144 + (1024 * (t.val / 8) + a.val) % 6144) * 1024 + b.val = (1024 * (t.val / 8) + a.val) * 1024 + b.val
  omega

/-- A rotated tile of `x`, by token. -/
theorem rotX (t : Fin cfg0.N) (q : Fin 16) (p b : Fin 256) :
    rotV (F := Ideal) (iblk m c 0 t) (tileOf (iblk m c 2 t) q) (ix2 p b)
      = rotTok (mM m c) (mX m c) (tokAt (t.val / 8) q.val p.val) (1024 * (t.val % 8) + 256 * (q.val % 4) + b.val) := by
  have ht : t.val < 288 := lt_of_lt_of_eq t.isLt N_0
  have hp := tok_lt p
  rw [rotV_apply]
  refine (Finset.sum_congr rfl fun j _ => congrArg (fun z : EReal => z * _) (rot_apply m c t p j)).trans ?_
  refine (sum_group (tok p.val) hp (fun u => mM m c (ix2 (⟨tok p.val % 64, Nat.mod_lt _ (by decide)⟩ : Fin 64) u)) (fun j => tileOf (iblk m c 2 t) q (ix2 j b))).trans ?_
  unfold rotTok tokAt
  rw [dif_pos ⟨by omega, by omega⟩]
  refine Finset.sum_congr rfl fun u _ => ?_
  refine congrArg₂ (· * ·) (congrArg (fun z => mM m c (ix2 z u)) (Fin.ext (by show tok p.val % 64 = _ % 64; omega))) ?_
  refine (x_read m c t _ _ (1024 * (t.val / 8) + 256 * (q.val / 4) + 64 * (tok p.val / 64) + u.val) (1024 * (t.val % 8) + 256 * (q.val % 4) + b.val)
    (by show _ = _ + (256 * (q.val / 4) + (64 * (tok p.val / 64) + u.val)); omega) (by show _ = _ + (256 * (q.val % 4) + b.val); omega) (by omega) (by omega)).trans ?_
  refine congrArg (mX m c) (congrArg₂ (fun y z => ix3 y z _) (Fin.ext ?_) (Fin.ext ?_)) <;> dsimp only <;> omega

/-- A rotated tile of `dy`, by token. -/
theorem rotY (t : Fin cfg0.N) (q : Fin 16) (p b : Fin 256) :
    rotV (F := Ideal) (iblk m c 0 t) (tileOf (iblk m c 3 t) q) (ix2 p b)
      = rotTok (mM m c) (mY m c) (tokAt (t.val / 8) q.val p.val) (256 * (q.val % 4) + b.val) := by
  have ht : t.val < 288 := lt_of_lt_of_eq t.isLt N_0
  have hp := tok_lt p
  rw [rotV_apply]
  refine (Finset.sum_congr rfl fun j _ => congrArg (fun z : EReal => z * _) (rot_apply m c t p j)).trans ?_
  refine (sum_group (tok p.val) hp (fun u => mM m c (ix2 (⟨tok p.val % 64, Nat.mod_lt _ (by decide)⟩ : Fin 64) u)) (fun j => tileOf (iblk m c 3 t) q (ix2 j b))).trans ?_
  unfold rotTok tokAt
  rw [dif_pos ⟨by omega, by omega⟩]
  refine Finset.sum_congr rfl fun u _ => ?_
  refine congrArg₂ (· * ·) (congrArg (fun z => mM m c (ix2 z u)) (Fin.ext (by show tok p.val % 64 = _ % 64; omega))) ?_
  refine (dy_read m c t _ _ (1024 * (t.val / 8) + 256 * (q.val / 4) + 64 * (tok p.val / 64) + u.val)
    (by show _ = _ + (256 * (q.val / 4) + (64 * (tok p.val / 64) + u.val)); omega) (by omega)).trans ?_
  refine congrArg (mY m c) (congrArg₂ (fun y z => ix3 y z _) (Fin.ext ?_) (Fin.ext ?_)) <;> dsimp only <;> omega

/-- The permuted random bytes of a tile, by token. -/
theorem randU (t : Fin cfg0.N) (q : Fin 16) (p b : Fin 256) :
    randV (F := Ideal) (iblk m c 1 t) (tileOf (iblk m c 4 t) q) (ix2 p b)
      = ((U (mU m c) (tokAt (t.val / 8) q.val p.val) (256 * (q.val % 4) + b.val) : ℝ) : EReal) := by
  have ht : t.val < 288 := lt_of_lt_of_eq t.isLt N_0
  have hp := tok_lt p
  rw [randV_apply]
  refine (Finset.sum_congr rfl fun j _ => congrArg (fun z : EReal => z * _) (perm_apply m c t p j)).trans ?_
  refine (sum_perm (tok p.val) hp (fun j => ((((tileOf (iblk m c 4 t) q (ix2 j b) : BitVec 8).setWidth 32).toInt : ℝ) : EReal))).trans ?_
  unfold U tokAt
  rw [dif_pos ⟨by omega, by omega⟩]
  refine congrArg (fun z : BitVec 8 => (((z.setWidth 32).toInt : ℝ) : EReal)) ?_
  exact rnd_read m c t _ _ (1024 * (t.val / 8) + 256 * (q.val / 4) + tok p.val) (by show _ = _ + (256 * (q.val / 4) + tok p.val); omega) (by omega)

/-- The rows of a group of a tile are the 32 tokens of a group of the array. -/
theorem group_sup (f : ℕ → EReal) (k q g : ℕ) (hg : g < 8) :
    (⨆ p : Fin 16, max (f (tokAt k q (16 * g + p.val))) (f (tokAt k q (128 + 16 * g + p.val))))
      = ⨆ i : Fin 32, f (32 * (32 * k + 8 * (q / 4) + g) + i.val) := by
  rw [← iSup_pairs (fun i => f (32 * (32 * k + 8 * (q / 4) + g) + i))]
  refine iSup_congr fun p => ?_
  have e1 : tokAt k q (16 * g + p.val) = 32 * (32 * k + 8 * (q / 4) + g) + 2 * p.val := by
    unfold tokAt tok; rw [if_pos (by omega)]; omega
  have e2 : tokAt k q (128 + 16 * g + p.val) = 32 * (32 * k + 8 * (q / 4) + g) + (2 * p.val + 1) := by
    unfold tokAt tok; rw [if_neg (by omega)]; omega
  rw [e1, e2]

/-- The entries of `x`'s blocks. -/
def rX (t q p b : ℕ) : ℝ := R (mM m c) (mX m c) (tokAt (t / 8) q p) (1024 * (t % 8) + 256 * (q % 4) + b)
def aX (t q g b : ℕ) : ℝ := A (mM m c) (mX m c) (32 * (t / 8) + 8 * (q / 4) + g) (1024 * (t % 8) + 256 * (q % 4) + b)
/-- The entries of `dy`'s blocks. -/
def rY (k q p b : ℕ) : ℝ := R (mM m c) (mY m c) (tokAt k q p) (256 * (q % 4) + b)
def aY (k q g b : ℕ) : ℝ := A (mM m c) (mY m c) (32 * k + 8 * (q / 4) + g) (256 * (q % 4) + b)
def uY (k q p b : ℕ) : ℝ := U (mU m c) (tokAt k q p) (256 * (q % 4) + b)

/-- Where every group is in range, every block of the call is. -/
theorem blocks (hx : Good (mM m c) (mX m c) OkX) (hy : Good (mM m c) (mY m c) OkY) :
    Blocks m c (rX m c) (aX m c) (rY m c) (aY m c) (uY m c) where
  x t := by
    have ht : t.val < 288 := lt_of_lt_of_eq t.isLt N_0
    refine ⟨fun q => ⟨fun p b => ?_, fun g b => ?_⟩, fun q g b hq hg hb => hx.ok (by omega) (by omega)⟩
    · have := tok_lt p
      exact (rotX m c t q p b).trans (hx.val (by unfold tokAt; omega) (by omega))
    · have e : ∀ p, p < 256 → ((rX m c t.val q.val p b.val : ℝ) : EReal) = rotTok (mM m c) (mX m c) (tokAt (t.val / 8) q.val p) (1024 * (t.val % 8) + 256 * (q.val % 4) + b.val) := fun p hp => by
        have := tok_lt ⟨p, hp⟩
        exact (hx.val (by unfold tokAt; dsimp only at this; omega) (by omega)).symm
      refine Eq.trans ?_ ((group_sup (fun n => max (rotTok (mM m c) (mX m c) n (1024 * (t.val % 8) + 256 * (q.val % 4) + b.val)) (-(rotTok (mM m c) (mX m c) n (1024 * (t.val % 8) + 256 * (q.val % 4) + b.val)))) (t.val / 8) q.val g.val g.isLt).trans (hx.sup (by omega) (by omega)))
      refine iSup_congr fun p => ?_
      rw [e _ (by omega), e _ (by omega)]
  y t := by
    have ht : t.val < 288 := lt_of_lt_of_eq t.isLt N_0
    refine ⟨fun q => ⟨fun p b => ?_, fun g b => ?_⟩, fun q p b => randU m c t q p b, fun q g b hq hg hb => hy.ok (by omega) (by omega)⟩
    · have := tok_lt p
      exact (rotY m c t q p b).trans (hy.val (by unfold tokAt; omega) (by omega))
    · have e : ∀ p, p < 256 → ((rY m c (t.val / 8) q.val p b.val : ℝ) : EReal) = rotTok (mM m c) (mY m c) (tokAt (t.val / 8) q.val p) (256 * (q.val % 4) + b.val) := fun p hp => by
        have := tok_lt ⟨p, hp⟩
        exact (hy.val (by unfold tokAt; dsimp only at this; omega) (by omega)).symm
      refine Eq.trans ?_ ((group_sup (fun n => max (rotTok (mM m c) (mY m c) n (256 * (q.val % 4) + b.val)) (-(rotTok (mM m c) (mY m c) n (256 * (q.val % 4) + b.val)))) (t.val / 8) q.val g.val g.isLt).trans (hy.sup (by omega) (by omega)))
      refine iSup_congr fun p => ?_
      rw [e _ (by omega), e _ (by omega)]

end Cert.KernelIdeal.Tile

end
-- ==== Proof.RefX.lean ====
module

public import proofs.«01_k».proof.Proof.RefScalar
public import proofs.«01_k».proof.Proof.Spec
public import proofs.«01_k».proof.Proof.Gen.ReferenceIdeal.Read

/-! # The reference's quantisation of `x`

What the reference computes of `x`: the rotated tokens, the exponent of each group, the codes and the scales. -/

@[expose] public section

set_option maxRecDepth 8192

noncomputable section

namespace Cert.ReferenceIdeal.Tile

open Idealize.ShloMosaic hiding ix1 ix2 ix3 ix4
open Idealize.ShloMosaic.TcCoe Idealize.SL.Sem Cert.ReferenceIdeal Cert.ReferenceIdeal.Gen Cert.ReferenceIdeal.Read Cert.Mx
open Idealize.ShloMosaic.ValueIdx
open Cert.KernelIdeal.Tile (matM rotTok supTok Good R A Good.sup Good.ok Good.val Good.abs_le)

variable (x0 : (⟨S6x6144x8192, .bf16⟩ : BufTy).Contents (Elt Ideal)) (x2 : (⟨S64, .f32⟩ : BufTy).Contents (Elt Ideal))

/-- Both programs compute the same matrix of the signs. -/
theorem v17_eq : val_main_v17 (F := Ideal) x2 = matM x2 := rfl

/-- The rotated tokens. -/
theorem v22_eq (J : S6x6144x8192.Idx) :
    val_main_v22 (F := Ideal) x0 x2 J = rotTok (matM x2) x0 (6144 * (J 0).val + (J 1).val) (J 2).val := by
  have h0 : (J 0).val < 6 := (J 0).isLt
  have h1 : (J 1).val < 6144 := (J 1).isLt
  have h2 : (J 2).val < 8192 := (J 2).isLt
  have e : idx_main_v22 J = ix4 (⟨(J 0).val, h0⟩ : Fin 6) (⟨(J 1).val / 64, by omega⟩ : Fin 96) (⟨(J 1).val % 64, by omega⟩ : Fin 64) (⟨(J 2).val, h2⟩ : Fin 8192) := by
    funext a
    match a with
    | ⟨0, _⟩ => refine Fin.ext ?_; show (((J 0).val * 6144 + (J 1).val) * 8192 + (J 2).val) / 50331648 = (J 0).val; omega
    | ⟨1, _⟩ => refine Fin.ext ?_; show (((J 0).val * 6144 + (J 1).val) * 8192 + (J 2).val) / 524288 % 96 = (J 1).val / 64; omega
    | ⟨2, _⟩ => refine Fin.ext ?_; show (((J 0).val * 6144 + (J 1).val) * 8192 + (J 2).val) / 8192 % 64 = (J 1).val % 64; omega
    | ⟨3, _⟩ => refine Fin.ext ?_; show (((J 0).val * 6144 + (J 1).val) * 8192 + (J 2).val) % 8192 = (J 2).val; omega
  rw [val_main_v22_apply, e, val_main_v21_apply, val_main_v20_apply, v17_eq]
  unfold rotTok
  rw [dif_pos ⟨by omega, h2⟩]
  refine Finset.sum_congr rfl fun u _ => ?_
  have hu : u.val < 64 := u.isLt
  rw [mul_comm]
  refine congrArg₂ (fun a b : EReal => a * b) (congrArg (matM x2) ?_) ?_
  · funext a
    match a with
    | ⟨0, _⟩ => refine Fin.ext ?_; show (J 1).val % 64 = (6144 * (J 0).val + (J 1).val) % 64; omega
    | ⟨1, _⟩ => rfl
  · rw [val_main_v19_apply]
    refine congrArg x0 ?_
    funext a
    match a with
    | ⟨0, _⟩ => refine Fin.ext ?_; show ((((J 0).val * 96 + (J 1).val / 64) * 64 + u.val) * 8192 + (J 2).val) / 50331648 = (6144 * (J 0).val + (J 1).val) / 6144; omega
    | ⟨1, _⟩ => refine Fin.ext ?_; show ((((J 0).val * 96 + (J 1).val / 64) * 64 + u.val) * 8192 + (J 2).val) / 8192 % 6144 = 64 * ((6144 * (J 0).val + (J 1).val) % 6144 / 64) + u.val; omega
    | ⟨2, _⟩ => refine Fin.ext ?_; show ((((J 0).val * 96 + (J 1).val / 64) * 64 + u.val) * 8192 + (J 2).val) % 8192 = (J 2).val; omega

/-- The same in groups. -/
theorem v23_eq (I : S6x192x32x8192.Idx) :
    val_main_v23 (F := Ideal) x0 x2 I = rotTok (matM x2) x0 (32 * (192 * (I 0).val + (I 1).val) + (I 2).val) (I 3).val := by
  have h0 : (I 0).val < 6 := (I 0).isLt
  have h1 : (I 1).val < 192 := (I 1).isLt
  have h2 : (I 2).val < 32 := (I 2).isLt
  have h3 : (I 3).val < 8192 := (I 3).isLt
  rw [val_main_v23_apply, v22_eq]
  congr 1
  · show 6144 * (((((I 0).val * 192 + (I 1).val) * 32 + (I 2).val) * 8192 + (I 3).val) / 50331648)
      + ((((I 0).val * 192 + (I 1).val) * 32 + (I 2).val) * 8192 + (I 3).val) / 8192 % 6144 = _
    omega
  · show ((((I 0).val * 192 + (I 1).val) * 32 + (I 2).val) * 8192 + (I 3).val) % 8192 = _
    omega

/-- The largest magnitude of a group. -/
theorem v25_eq (J : S6x192x8192.Idx) :
    val_main_v25 (F := Ideal) x0 x2 J = supTok (matM x2) x0 (192 * (J 0).val + (J 1).val) (J 2).val := by
  have hr : S6x192x32x8192.Reduces [2] S6x192x8192 := by decide
  unfold val_main_v25
  refine (Host.reduce_eq_fold_single FloatOps.maximumf _ _ reducesTo_S6x192x32x8192_S6x192x8192_d2 hr h_S_ J).trans ?_
  apply eq_of_forall_ge_iff
  intro b
  unfold supTok
  refine Iff.trans (Finset.fold_max_le (β := EReal) b) ?_
  rw [iSup_le_iff]
  have e : ∀ p : Fin 32, val_main_v24 (F := Ideal) x0 x2 (hr.lift J p)
      = max (rotTok (matM x2) x0 (32 * (192 * (J 0).val + (J 1).val) + p.val) (J 2).val) (-(rotTok (matM x2) x0 (32 * (192 * (J 0).val + (J 1).val) + p.val) (J 2).val)) := fun p => by
    rw [val_main_v24_apply, v23_eq]; rfl
  constructor
  · rintro ⟨_, h⟩ p
    exact (e p).symm.trans_le (h p (Finset.mem_univ _))
  · intro h
    refine ⟨by show Ideal.ofBits .f32 0xFF800000#32 ≤ b; rw [c_ninf]; exact bot_le, fun p _ => ?_⟩
    exact (e p).trans_le (h p)

/-- A group's largest magnitude is not negative. -/
theorem A_nonneg {C : ℕ} {M : FVec Ideal Cert.KernelIdeal.S64x64 .f32} {X : (⟨3, ![6, 6144, C]⟩ : Shape).Idx → EReal} {Ok : ℝ → Prop} (h : Good M X Ok)
    {G k : ℕ} (hG : G < 1152) (hk : k < C) : 0 ≤ A M X G k := by
  have := h.abs_le (n := 32 * G) (by omega) hk
  rw [show 32 * G / 32 = G by omega] at this
  exact (abs_nonneg _).trans this

/-- A token of `x`, scaled by its group. -/
def xv (M : FVec Ideal Cert.KernelIdeal.S64x64 .f32) (X : (⟨3, ![6, 6144, 8192]⟩ : Shape).Idx → EReal) (n k : ℕ) : ℝ :=
  R M X n k * (2 : ℝ) ^ (-(eX (A M X (n / 32) k)))

/-- The four-bit code of a token of `x`. -/
def xn (M : FVec Ideal Cert.KernelIdeal.S64x64 .f32) (X : (⟨3, ![6, 6144, 8192]⟩ : Shape).Idx → EReal) (n k : ℕ) : ℕ :=
  nib (xv M X n k) (qNear (xv M X n k))

theorem xn_lt (M : FVec Ideal Cert.KernelIdeal.S64x64 .f32) (X : (⟨3, ![6, 6144, 8192]⟩ : Shape).Idx → EReal) (n k : ℕ) : xn M X n k < 16 :=
  nib_lt _ _ (qNear_grid _)

variable {x0 x2}

theorem v37_read (I : S6x192x1x8192.Idx) : val_main_v37 (F := Ideal) x0 x2 I = rExpX (val_main_v26 (F := Ideal) x0 x2 I) := by
  rw [val_main_v37_apply, val_main_v36_apply, val_main_v35_apply, val_main_v34_apply, val_main_v33_apply, val_main_v32_apply, val_main_v31_apply,
    val_main_v30_apply, val_main_v29_apply, val_main_v28_apply, val_main_v27_apply, val_main_call1_v1_apply,
    val_main_call1_v0_apply, val_main_cst_4_apply, val_main_cst_5_apply, val_main_c_6_apply, val_main_c_7_apply]
  generalize val_main_v26 (F := Ideal) x0 x2 I = a
  unfold rExpX
  rfl

/-- The exponent of a group. -/
theorem v37_eq (h : Good (matM x2) x0 OkX) (I : S6x192x1x8192.Idx) :
    val_main_v37 (F := Ideal) x0 x2 I = BitVec.ofInt 32 (eX (A (matM x2) x0 (192 * (I 0).val + (I 1).val) (I 3).val)) := by
  have h0 : (I 0).val < 6 := (I 0).isLt
  have h1 : (I 1).val < 192 := (I 1).isLt
  have h3 : (I 3).val < 8192 := (I 3).isLt
  have e : val_main_v26 (F := Ideal) x0 x2 I = (A (matM x2) x0 (192 * (I 0).val + (I 1).val) (I 3).val : EReal) := by
    rw [val_main_v26_apply, v25_eq]
    show supTok (matM x2) x0 (192 * (I 0).val + (I 1).val) (I 3).val = _
    exact h.sup (by omega) h3
  rw [v37_read, e, rExpX_coe _ (h.ok (by omega) h3) (A_nonneg h (by omega) h3)]

/-- A scaled token. -/
theorem v43_eq (h : Good (matM x2) x0 OkX) (I : S6x192x32x8192.Idx) :
    val_main_v43 (F := Ideal) x0 x2 I = (xv (matM x2) x0 (32 * (192 * (I 0).val + (I 1).val) + (I 2).val) (I 3).val : EReal) := by
  have h0 : (I 0).val < 6 := (I 0).isLt
  have h1 : (I 1).val < 192 := (I 1).isLt
  have h2 : (I 2).val < 32 := (I 2).isLt
  have h3 : (I 3).val < 8192 := (I 3).isLt
  have hb := eX_bounds _ (h.ok (G := 192 * (I 0).val + (I 1).val) (by omega) h3)
  rw [val_main_v43_apply, v23_eq, h.val (by omega) h3, val_main_v42_apply]
  have e : val_main_v41 (F := Ideal) x0 x2 (idx_main_v42 I) = rPow (-(val_main_v37 (F := Ideal) x0 x2 (idx_main_v42 I))) := rfl
  rw [e, v37_eq h]
  show (_ : EReal) * rPow (-(BitVec.ofInt 32 (eX (A (matM x2) x0 (192 * (I 0).val + (I 1).val) (I 3).val)))) = _
  rw [rPow_neg _ (by omega), ← EReal.coe_mul]
  unfold xv
  rw [show (32 * (192 * (I 0).val + (I 1).val) + (I 2).val) / 32 = 192 * (I 0).val + (I 1).val by omega]

/-- The code of a token. -/
theorem v80_eq (h : Good (matM x2) x0 OkX) (I : S6x192x32x8192.Idx) :
    val_main_v80 (F := Ideal) x0 x2 I = BitVec.ofNat 32 (xn (matM x2) x0 (32 * (192 * (I 0).val + (I 1).val) + (I 2).val) (I 3).val) := by
  have e1 : val_main_v57 (F := Ideal) x0 x2 I = rNear (val_main_v43 (F := Ideal) x0 x2 I) := rfl
  have e2 : val_main_v80 (F := Ideal) x0 x2 I = rCode (val_main_v43 (F := Ideal) x0 x2 I) (val_main_v57 (F := Ideal) x0 x2 I) := rfl
  rw [e2, e1, v43_eq h, rNear_coe, rCode_coe _ _ (qNear_grid _)]
  rfl

/-- A code by token. -/
theorem v81_eq (h : Good (matM x2) x0 OkX) (I : S6x3072x2x8192.Idx) :
    val_main_v81 (F := Ideal) x0 x2 I = BitVec.ofNat 32 (xn (matM x2) x0 (2 * (3072 * (I 0).val + (I 1).val) + (I 2).val) (I 3).val) := by
  have h0 : (I 0).val < 6 := (I 0).isLt
  have h1 : (I 1).val < 3072 := (I 1).isLt
  have h2 : (I 2).val < 2 := (I 2).isLt
  have h3 : (I 3).val < 8192 := (I 3).isLt
  rw [val_main_v81_apply, v80_eq h]
  have e : ∀ n n' k k' : ℕ, n = n' → k = k' → BitVec.ofNat 32 (xn (matM x2) x0 n k) = BitVec.ofNat 32 (xn (matM x2) x0 n' k') := by rintro _ _ _ _ rfl rfl; rfl
  apply e
  · show 32 * (192 * (((((I 0).val * 3072 + (I 1).val) * 2 + (I 2).val) * 8192 + (I 3).val) / 50331648)
      + ((((I 0).val * 3072 + (I 1).val) * 2 + (I 2).val) * 8192 + (I 3).val) / 262144 % 192)
      + ((((I 0).val * 3072 + (I 1).val) * 2 + (I 2).val) * 8192 + (I 3).val) / 8192 % 32 = _
    omega
  · show ((((I 0).val * 3072 + (I 1).val) * 2 + (I 2).val) * 8192 + (I 3).val) % 8192 = _
    omega

/-- The byte of two tokens. -/
theorem v89_eq (h : Good (matM x2) x0 OkX) (J : S6x3072x8192.Idx) :
    val_main_v89 (F := Ideal) x0 x2 J = BitVec.ofNat 8 (xn (matM x2) x0 (2 * (3072 * (J 0).val + (J 1).val)) (J 2).val
      + 16 * xn (matM x2) x0 (2 * (3072 * (J 0).val + (J 1).val) + 1) (J 2).val) := by
  have h0 : (J 0).val < 6 := (J 0).isLt
  have h1 : (J 1).val < 3072 := (J 1).isLt
  have h2 : (J 2).val < 8192 := (J 2).isLt
  have ei : idx_main_v83 J = ix4 (⟨(J 0).val, h0⟩ : Fin 6) (⟨(J 1).val, h1⟩ : Fin 3072) (0 : Fin 1) (⟨(J 2).val, h2⟩ : Fin 8192) := by
    funext a
    match a with
    | ⟨0, _⟩ => refine Fin.ext ?_; show (((J 0).val * 3072 + (J 1).val) * 8192 + (J 2).val) / 25165824 = (J 0).val; omega
    | ⟨1, _⟩ => refine Fin.ext ?_; show (((J 0).val * 3072 + (J 1).val) * 8192 + (J 2).val) / 8192 % 3072 = (J 1).val; omega
    | ⟨2, _⟩ => rfl
    | ⟨3, _⟩ => refine Fin.ext ?_; show (((J 0).val * 3072 + (J 1).val) * 8192 + (J 2).val) % 8192 = (J 2).val; omega
  have ej : idx_main_v85 J = ix4 (⟨(J 0).val, h0⟩ : Fin 6) (⟨(J 1).val, h1⟩ : Fin 3072) (0 : Fin 1) (⟨(J 2).val, h2⟩ : Fin 8192) := ei
  have elo : val_main_v83 (F := Ideal) x0 x2 J = BitVec.ofNat 32 (xn (matM x2) x0 (2 * (3072 * (J 0).val + (J 1).val)) (J 2).val) := by
    rw [val_main_v83_apply, ei, val_main_v82_apply, v81_eq h]; rfl
  have ehi : val_main_v85 (F := Ideal) x0 x2 J = BitVec.ofNat 32 (xn (matM x2) x0 (2 * (3072 * (J 0).val + (J 1).val) + 1) (J 2).val) := by
    rw [val_main_v85_apply, ej, val_main_v84_apply, v81_eq h]; rfl
  have e : val_main_v89 (F := Ideal) x0 x2 J = (IntOp.ori (val_main_v83 (F := Ideal) x0 x2 J) (IntOp.shli .host (val_main_v85 (F := Ideal) x0 x2 J) 4#32)).setWidth 8 := rfl
  rw [e, elo, ehi]
  exact (nibbles _ _ (xn_lt _ _ _ _) (xn_lt _ _ _ _)).1

/-- The scale of a group. -/
theorem v93_eq (h : Good (matM x2) x0 OkX) (J : S6x192x8192.Idx) :
    val_main_v93 (F := Ideal) x0 x2 J = (eByte (eX (A (matM x2) x0 (192 * (J 0).val + (J 1).val) (J 2).val))).setWidth 8 := by
  have h0 : (J 0).val < 6 := (J 0).isLt
  have h1 : (J 1).val < 192 := (J 1).isLt
  have h2 : (J 2).val < 8192 := (J 2).isLt
  have ei : idx_main_v90 J = ix4 (⟨(J 0).val, h0⟩ : Fin 6) (⟨(J 1).val, h1⟩ : Fin 192) (0 : Fin 1) (⟨(J 2).val, h2⟩ : Fin 8192) := by
    funext a
    match a with
    | ⟨0, _⟩ => refine Fin.ext ?_; show (((J 0).val * 192 + (J 1).val) * 8192 + (J 2).val) / 1572864 = (J 0).val; omega
    | ⟨1, _⟩ => refine Fin.ext ?_; show (((J 0).val * 192 + (J 1).val) * 8192 + (J 2).val) / 8192 % 192 = (J 1).val; omega
    | ⟨2, _⟩ => rfl
    | ⟨3, _⟩ => refine Fin.ext ?_; show (((J 0).val * 192 + (J 1).val) * 8192 + (J 2).val) % 8192 = (J 2).val; omega
  have e : val_main_v93 (F := Ideal) x0 x2 J = (IntOp.addi (val_main_v90 (F := Ideal) x0 x2 J) 127#32).setWidth 8 := rfl
  rw [e, val_main_v90_apply, ei, v37_eq h]
  unfold eByte
  rw [BitVec.ofInt_add]; rfl

/-- The decoded scale of a group. -/
theorem v193_eq (h : Good (matM x2) x0 OkX) (I : S6x192x1x8192.Idx) :
    val_main_v193 (F := Ideal) x0 x2 I = (((2 : ℝ) ^ (eX (A (matM x2) x0 (192 * (I 0).val + (I 1).val) (I 3).val)) : ℝ) : EReal) := by
  have h0 : (I 0).val < 6 := (I 0).isLt
  have h1 : (I 1).val < 192 := (I 1).isLt
  have h3 : (I 3).val < 8192 := (I 3).isLt
  have hb := eX_bounds _ (h.ok (G := 192 * (I 0).val + (I 1).val) (by omega) h3)
  have e : val_main_v192 (F := Ideal) x0 x2 (idx_main_v193 I) = rPow (IntOp.subi ((val_main_v93 (F := Ideal) x0 x2 (idx_main_v193 I)).setWidth 32) 127#32) := rfl
  rw [val_main_v193_apply, e, v93_eq h]
  exact rPow_byte (eX (A (matM x2) x0 (192 * (I 0).val + (I 1).val) (I 3).val)) (by omega)

/-- The decoded low code. -/
theorem v222_eq (h : Good (matM x2) x0 OkX) (J : S6x3072x8192.Idx) :
    val_main_v222 (F := Ideal) x0 x2 J = (signed (xv (matM x2) x0 (2 * (3072 * (J 0).val + (J 1).val)) (J 2).val)
      (qNear (xv (matM x2) x0 (2 * (3072 * (J 0).val + (J 1).val)) (J 2).val)) : EReal) := by
  have e : val_main_v222 (F := Ideal) x0 x2 J = rDec (IntOp.andi ((val_main_v89 (F := Ideal) x0 x2 J).setWidth 32) 15#32) := rfl
  rw [e, v89_eq h, (nibbles _ _ (xn_lt _ _ _ _) (xn_lt _ _ _ _)).2.1]
  exact rDec_nib _ _ (qNear_grid _)

/-- The decoded high code. -/
theorem v255_eq (h : Good (matM x2) x0 OkX) (J : S6x3072x8192.Idx) :
    val_main_v255 (F := Ideal) x0 x2 J = (signed (xv (matM x2) x0 (2 * (3072 * (J 0).val + (J 1).val) + 1) (J 2).val)
      (qNear (xv (matM x2) x0 (2 * (3072 * (J 0).val + (J 1).val) + 1) (J 2).val)) : EReal) := by
  have e : val_main_v255 (F := Ideal) x0 x2 J = rDec (IntOp.shrsi .host ((val_main_v89 (F := Ideal) x0 x2 J).setWidth 32) 4#32) := rfl
  rw [e, v89_eq h, (nibbles _ _ (xn_lt _ _ _ _) (xn_lt _ _ _ _)).2.2]
  exact rDec_nib _ _ (qNear_grid _)

/-- The decoded value of a token of `x`. -/
def xo (M : FVec Ideal Cert.KernelIdeal.S64x64 .f32) (X : (⟨3, ![6, 6144, 8192]⟩ : Shape).Idx → EReal) (n k : ℕ) : EReal :=
  ((signed (xv M X n k) (qNear (xv M X n k)) * (2 : ℝ) ^ (eX (A M X (n / 32) k)) : ℝ) : EReal)

theorem group_idx (J : S6x3072x8192.Idx) :
    idx_main_v226 J = ix4 (⟨(J 0).val, (J 0).isLt⟩ : Fin 6) (⟨(J 1).val / 16, by have : (J 1).val < 3072 := (J 1).isLt; omega⟩ : Fin 192)
        (⟨(J 1).val % 16, by omega⟩ : Fin 16) (⟨(J 2).val, (J 2).isLt⟩ : Fin 8192)
      ∧ idx_main_v223 (idx_main_v226 J) = J := by
  have h0 : (J 0).val < 6 := (J 0).isLt
  have h1 : (J 1).val < 3072 := (J 1).isLt
  have h2 : (J 2).val < 8192 := (J 2).isLt
  have e : idx_main_v226 J = ix4 (⟨(J 0).val, (J 0).isLt⟩ : Fin 6) (⟨(J 1).val / 16, by omega⟩ : Fin 192)
        (⟨(J 1).val % 16, by omega⟩ : Fin 16) (⟨(J 2).val, (J 2).isLt⟩ : Fin 8192) := by
    funext a
    match a with
    | ⟨0, _⟩ => refine Fin.ext ?_; show (((J 0).val * 3072 + (J 1).val) * 8192 + (J 2).val) / 25165824 = (J 0).val; omega
    | ⟨1, _⟩ => refine Fin.ext ?_; show (((J 0).val * 3072 + (J 1).val) * 8192 + (J 2).val) / 131072 % 192 = (J 1).val / 16; omega
    | ⟨2, _⟩ => refine Fin.ext ?_; show (((J 0).val * 3072 + (J 1).val) * 8192 + (J 2).val) / 8192 % 16 = (J 1).val % 16; omega
    | ⟨3, _⟩ => refine Fin.ext ?_; show (((J 0).val * 3072 + (J 1).val) * 8192 + (J 2).val) % 8192 = (J 2).val; omega
  refine ⟨e, ?_⟩
  rw [e]
  funext a
  match a with
  | ⟨0, _⟩ => refine Fin.ext ?_; show ((((J 0).val * 192 + (J 1).val / 16) * 16 + (J 1).val % 16) * 8192 + (J 2).val) / 25165824 = (J 0).val; omega
  | ⟨1, _⟩ => refine Fin.ext ?_; show ((((J 0).val * 192 + (J 1).val / 16) * 16 + (J 1).val % 16) * 8192 + (J 2).val) / 8192 % 3072 = (J 1).val; omega
  | ⟨2, _⟩ => refine Fin.ext ?_; show ((((J 0).val * 192 + (J 1).val / 16) * 16 + (J 1).val % 16) * 8192 + (J 2).val) % 8192 = (J 2).val; omega

/-- The decoded even tokens. -/
theorem v226_eq (h : Good (matM x2) x0 OkX) (J : S6x3072x8192.Idx) :
    val_main_v226 (F := Ideal) x0 x2 J = xo (matM x2) x0 (2 * (3072 * (J 0).val + (J 1).val)) (J 2).val := by
  have h1 : (J 1).val < 3072 := (J 1).isLt
  rw [val_main_v226_apply, val_main_v225_apply, val_main_v223_apply, (group_idx J).2, val_main_v224_apply, v222_eq h, v193_eq h, (group_idx J).1]
  show (_ : EReal) * ((((2 : ℝ) ^ (eX (A (matM x2) x0 (192 * (J 0).val + (J 1).val / 16) (J 2).val)) : ℝ)) : EReal) = _
  unfold xo
  rw [← EReal.coe_mul, show 2 * (3072 * (J 0).val + (J 1).val) / 32 = 192 * (J 0).val + (J 1).val / 16 by omega]

/-- The decoded odd tokens. -/
theorem v259_eq (h : Good (matM x2) x0 OkX) (J : S6x3072x8192.Idx) :
    val_main_v259 (F := Ideal) x0 x2 J = xo (matM x2) x0 (2 * (3072 * (J 0).val + (J 1).val) + 1) (J 2).val := by
  have h1 : (J 1).val < 3072 := (J 1).isLt
  have ei : idx_main_v259 J = idx_main_v226 J := rfl
  have ej : idx_main_v256 (idx_main_v226 J) = idx_main_v223 (idx_main_v226 J) := rfl
  rw [val_main_v259_apply, ei, val_main_v258_apply, val_main_v256_apply, ej, (group_idx J).2, val_main_v257_apply, v255_eq h, v193_eq h, (group_idx J).1]
  show (_ : EReal) * ((((2 : ℝ) ^ (eX (A (matM x2) x0 (192 * (J 0).val + (J 1).val / 16) (J 2).val)) : ℝ)) : EReal) = _
  unfold xo
  rw [← EReal.coe_mul, show (2 * (3072 * (J 0).val + (J 1).val) + 1) / 32 = 192 * (J 0).val + (J 1).val / 16 by omega]

end Cert.ReferenceIdeal.Tile

end
-- ==== Proof.RefY.lean ====
module

public import proofs.«01_k».proof.Proof.RefX

/-! # The reference's quantisation of `dy`

What the reference computes of `dy`: the rotated tokens, the exponent of each group, the codes and the scales. -/

@[expose] public section

set_option maxRecDepth 8192

noncomputable section

namespace Cert.ReferenceIdeal.Tile

open Idealize.ShloMosaic hiding ix1 ix2 ix3 ix4
open Idealize.ShloMosaic.TcCoe Idealize.SL.Sem Cert.ReferenceIdeal Cert.ReferenceIdeal.Gen Cert.ReferenceIdeal.Read Cert.Mx
open Idealize.ShloMosaic.ValueIdx
open Cert.KernelIdeal.Tile (matM rotTok supTok Good R A U Good.sup Good.ok Good.val Good.abs_le)

variable (x1 : (⟨S6x6144x1024, .bf16⟩ : BufTy).Contents (Elt Ideal)) (x2 : (⟨S64, .f32⟩ : BufTy).Contents (Elt Ideal))
variable (x3 : (⟨S6x6144x1024, .i8⟩ : BufTy).Contents (Elt Ideal))

/-- The rotated tokens. -/
theorem v98_eq (J : S6x6144x1024.Idx) :
    val_main_v98 (F := Ideal) x1 x2 J = rotTok (matM x2) x1 (6144 * (J 0).val + (J 1).val) (J 2).val := by
  have h0 : (J 0).val < 6 := (J 0).isLt
  have h1 : (J 1).val < 6144 := (J 1).isLt
  have h2 : (J 2).val < 1024 := (J 2).isLt
  have e : idx_main_v98 J = ix4 (⟨(J 0).val, h0⟩ : Fin 6) (⟨(J 1).val / 64, by omega⟩ : Fin 96) (⟨(J 1).val % 64, by omega⟩ : Fin 64) (⟨(J 2).val, h2⟩ : Fin 1024) := by
    funext a
    match a with
    | ⟨0, _⟩ => refine Fin.ext ?_; show (((J 0).val * 6144 + (J 1).val) * 1024 + (J 2).val) / 6291456 = (J 0).val; omega
    | ⟨1, _⟩ => refine Fin.ext ?_; show (((J 0).val * 6144 + (J 1).val) * 1024 + (J 2).val) / 65536 % 96 = (J 1).val / 64; omega
    | ⟨2, _⟩ => refine Fin.ext ?_; show (((J 0).val * 6144 + (J 1).val) * 1024 + (J 2).val) / 1024 % 64 = (J 1).val % 64; omega
    | ⟨3, _⟩ => refine Fin.ext ?_; show (((J 0).val * 6144 + (J 1).val) * 1024 + (J 2).val) % 1024 = (J 2).val; omega
  rw [val_main_v98_apply, e, val_main_v97_apply, val_main_v96_apply, v17_eq]
  unfold rotTok
  rw [dif_pos ⟨by omega, h2⟩]
  refine Finset.sum_congr rfl fun u _ => ?_
  have hu : u.val < 64 := u.isLt
  rw [mul_comm]
  refine congrArg₂ (fun a b : EReal => a * b) (congrArg (matM x2) ?_) ?_
  · funext a
    match a with
    | ⟨0, _⟩ => refine Fin.ext ?_; show (J 1).val % 64 = (6144 * (J 0).val + (J 1).val) % 64; omega
    | ⟨1, _⟩ => rfl
  · rw [val_main_v95_apply]
    refine congrArg x1 ?_
    funext a
    match a with
    | ⟨0, _⟩ => refine Fin.ext ?_; show ((((J 0).val * 96 + (J 1).val / 64) * 64 + u.val) * 1024 + (J 2).val) / 6291456 = (6144 * (J 0).val + (J 1).val) / 6144; omega
    | ⟨1, _⟩ => refine Fin.ext ?_; show ((((J 0).val * 96 + (J 1).val / 64) * 64 + u.val) * 1024 + (J 2).val) / 1024 % 6144 = 64 * ((6144 * (J 0).val + (J 1).val) % 6144 / 64) + u.val; omega
    | ⟨2, _⟩ => refine Fin.ext ?_; show ((((J 0).val * 96 + (J 1).val / 64) * 64 + u.val) * 1024 + (J 2).val) % 1024 = (J 2).val; omega

/-- The same in groups. -/
theorem v99_eq (I : S6x192x32x1024.Idx) :
    val_main_v99 (F := Ideal) x1 x2 I = rotTok (matM x2) x1 (32 * (192 * (I 0).val + (I 1).val) + (I 2).val) (I 3).val := by
  have h0 : (I 0).val < 6 := (I 0).isLt
  have h1 : (I 1).val < 192 := (I 1).isLt
  have h2 : (I 2).val < 32 := (I 2).isLt
  have h3 : (I 3).val < 1024 := (I 3).isLt
  rw [val_main_v99_apply, v98_eq]
  congr 1
  · show 6144 * (((((I 0).val * 192 + (I 1).val) * 32 + (I 2).val) * 1024 + (I 3).val) / 6291456)
      + ((((I 0).val * 192 + (I 1).val) * 32 + (I 2).val) * 1024 + (I 3).val) / 1024 % 6144 = _
    omega
  · show ((((I 0).val * 192 + (I 1).val) * 32 + (I 2).val) * 1024 + (I 3).val) % 1024 = _
    omega

/-- The largest magnitude of a group. -/
theorem v102_eq (J : S6x192x1024.Idx) :
    val_main_v102 (F := Ideal) x1 x2 J = supTok (matM x2) x1 (192 * (J 0).val + (J 1).val) (J 2).val := by
  have hr : S6x192x32x1024.Reduces [2] S6x192x1024 := by decide
  unfold val_main_v102
  refine (Host.reduce_eq_fold_single FloatOps.maximumf _ _ reducesTo_S6x192x32x1024_S6x192x1024_d2 hr h_S_ J).trans ?_
  apply eq_of_forall_ge_iff
  intro b
  unfold supTok
  refine Iff.trans (Finset.fold_max_le (β := EReal) b) ?_
  rw [iSup_le_iff]
  have e : ∀ p : Fin 32, val_main_v101 (F := Ideal) x1 x2 (hr.lift J p)
      = max (rotTok (matM x2) x1 (32 * (192 * (J 0).val + (J 1).val) + p.val) (J 2).val) (-(rotTok (matM x2) x1 (32 * (192 * (J 0).val + (J 1).val) + p.val) (J 2).val)) := fun p => by
    rw [val_main_v101_apply, v99_eq]; rfl
  constructor
  · rintro ⟨_, h⟩ p
    exact (e p).symm.trans_le (h p (Finset.mem_univ _))
  · intro h
    refine ⟨by show Ideal.ofBits .f32 0xFF800000#32 ≤ b; rw [c_ninf]; exact bot_le, fun p _ => ?_⟩
    exact (e p).trans_le (h p)

/-- A token of `dy`, scaled by its group. -/
def yv (M : FVec Ideal Cert.KernelIdeal.S64x64 .f32) (X : (⟨3, ![6, 6144, 1024]⟩ : Shape).Idx → EReal) (n k : ℕ) : ℝ :=
  R M X n k * (2 : ℝ) ^ (-(eY (A M X (n / 32) k)))

theorem yv_lt {M : FVec Ideal Cert.KernelIdeal.S64x64 .f32} {X : (⟨3, ![6, 6144, 1024]⟩ : Shape).Idx → EReal} (h : Good M X OkY) {n k : ℕ} (hn : n < 36864) (hk : k < 1024) :
    |yv M X n k| < 6 := scaled_lt _ _ (h.ok (by omega) hk) (h.abs_le hn hk)

/-- The rounded magnitude of a token of `dy`. -/
def yq (M : FVec Ideal Cert.KernelIdeal.S64x64 .f32) (X : (⟨3, ![6, 6144, 1024]⟩ : Shape).Idx → EReal) (r : (⟨3, ![6, 6144, 1024]⟩ : Shape).Idx → BitVec 8) (n k : ℕ) : ℝ :=
  qStoch (yv M X n k) (U r n k)

theorem yq_grid {M : FVec Ideal Cert.KernelIdeal.S64x64 .f32} {X : (⟨3, ![6, 6144, 1024]⟩ : Shape).Idx → EReal} (h : Good M X OkY) (r : (⟨3, ![6, 6144, 1024]⟩ : Shape).Idx → BitVec 8)
    {n k : ℕ} (hn : n < 36864) (hk : k < 1024) : OnGrid (yq M X r n k) := qStoch_grid _ _ (yv_lt h hn hk)

/-- The four-bit code of a token of `dy`. -/
def yn (M : FVec Ideal Cert.KernelIdeal.S64x64 .f32) (X : (⟨3, ![6, 6144, 1024]⟩ : Shape).Idx → EReal) (r : (⟨3, ![6, 6144, 1024]⟩ : Shape).Idx → BitVec 8) (n k : ℕ) : ℕ :=
  nib (yv M X n k) (yq M X r n k)

theorem yn_lt {M : FVec Ideal Cert.KernelIdeal.S64x64 .f32} {X : (⟨3, ![6, 6144, 1024]⟩ : Shape).Idx → EReal} (h : Good M X OkY) (r : (⟨3, ![6, 6144, 1024]⟩ : Shape).Idx → BitVec 8)
    {n k : ℕ} (hn : n < 36864) (hk : k < 1024) : yn M X r n k < 16 := nib_lt _ _ (yq_grid h r hn hk)

/-- A random byte by token. -/
theorem v100_eq (x3 : (⟨S6x6144x1024, .i8⟩ : BufTy).Contents (Elt Ideal)) (I : S6x192x32x1024.Idx) :
    ((((val_main_v100 (F := Ideal) x3 I).setWidth 32).toInt : ℝ)) = U x3 (32 * (192 * (I 0).val + (I 1).val) + (I 2).val) (I 3).val := by
  have h0 : (I 0).val < 6 := (I 0).isLt
  have h1 : (I 1).val < 192 := (I 1).isLt
  have h2 : (I 2).val < 32 := (I 2).isLt
  have h3 : (I 3).val < 1024 := (I 3).isLt
  unfold U
  rw [dif_pos ⟨by omega, h3⟩, val_main_v100_apply]
  refine congrArg (fun J => (((x3 J).setWidth 32).toInt : ℝ)) ?_
  funext a
  match a with
  | ⟨0, _⟩ => refine Fin.ext ?_; show ((((I 0).val * 192 + (I 1).val) * 32 + (I 2).val) * 1024 + (I 3).val) / 6291456 = (32 * (192 * (I 0).val + (I 1).val) + (I 2).val) / 6144; omega
  | ⟨1, _⟩ => refine Fin.ext ?_; show ((((I 0).val * 192 + (I 1).val) * 32 + (I 2).val) * 1024 + (I 3).val) / 1024 % 6144 = (32 * (192 * (I 0).val + (I 1).val) + (I 2).val) % 6144; omega
  | ⟨2, _⟩ => refine Fin.ext ?_; show ((((I 0).val * 192 + (I 1).val) * 32 + (I 2).val) * 1024 + (I 3).val) % 1024 = (I 3).val; omega

variable {x1 x2 x3}

theorem v116_read (I : S6x192x1x1024.Idx) : val_main_v116 (F := Ideal) x1 x2 I = rExpY (val_main_v103 (F := Ideal) x1 x2 I) := by
  rw [val_main_v116_apply, val_main_v115_apply, val_main_v114_apply, val_main_v113_apply, val_main_v112_apply, val_main_v111_apply, val_main_v110_apply,
    val_main_v109_apply, val_main_v108_apply, val_main_v107_apply, val_main_v106_apply, val_main_v105_apply, val_main_v104_apply, val_main_call8_v1_apply,
    val_main_call8_v0_apply, val_main_cst_28_apply, val_main_cst_29_apply, val_main_cst_30_apply, val_main_c_31_apply, val_main_c_32_apply]
  generalize val_main_v103 (F := Ideal) x1 x2 I = a
  unfold rExpY
  rfl

/-- The exponent of a group. -/
theorem v116_eq (h : Good (matM x2) x1 OkY) (I : S6x192x1x1024.Idx) :
    val_main_v116 (F := Ideal) x1 x2 I = BitVec.ofInt 32 (eY (A (matM x2) x1 (192 * (I 0).val + (I 1).val) (I 3).val)) := by
  have h0 : (I 0).val < 6 := (I 0).isLt
  have h1 : (I 1).val < 192 := (I 1).isLt
  have h3 : (I 3).val < 1024 := (I 3).isLt
  have e : val_main_v103 (F := Ideal) x1 x2 I = (A (matM x2) x1 (192 * (I 0).val + (I 1).val) (I 3).val : EReal) := by
    rw [val_main_v103_apply, v102_eq]
    show supTok (matM x2) x1 (192 * (I 0).val + (I 1).val) (I 3).val = _
    exact h.sup (by omega) h3
  rw [v116_read, e, rExpY_coe _ (h.ok (by omega) h3) (A_nonneg h (by omega) h3)]

/-- A scaled token. -/
theorem v122_eq (h : Good (matM x2) x1 OkY) (I : S6x192x32x1024.Idx) :
    val_main_v122 (F := Ideal) x1 x2 I = (yv (matM x2) x1 (32 * (192 * (I 0).val + (I 1).val) + (I 2).val) (I 3).val : EReal) := by
  have h0 : (I 0).val < 6 := (I 0).isLt
  have h1 : (I 1).val < 192 := (I 1).isLt
  have h2 : (I 2).val < 32 := (I 2).isLt
  have h3 : (I 3).val < 1024 := (I 3).isLt
  have hb := eY_bounds _ (h.ok (G := 192 * (I 0).val + (I 1).val) (by omega) h3)
  rw [val_main_v122_apply, v99_eq, h.val (by omega) h3, val_main_v121_apply]
  have e : val_main_v120 (F := Ideal) x1 x2 (idx_main_v121 I) = rPow (-(val_main_v116 (F := Ideal) x1 x2 (idx_main_v121 I))) := rfl
  rw [e, v116_eq h]
  show (_ : EReal) * rPow (-(BitVec.ofInt 32 (eY (A (matM x2) x1 (192 * (I 0).val + (I 1).val) (I 3).val)))) = _
  rw [rPow_neg _ (by omega), ← EReal.coe_mul]
  unfold yv
  rw [show (32 * (192 * (I 0).val + (I 1).val) + (I 2).val) / 32 = 192 * (I 0).val + (I 1).val by omega]

/-- The code of a token. -/
theorem v171_eq (h : Good (matM x2) x1 OkY) (I : S6x192x32x1024.Idx) :
    val_main_v171 (F := Ideal) x1 x2 x3 I = BitVec.ofNat 32 (yn (matM x2) x1 x3 (32 * (192 * (I 0).val + (I 1).val) + (I 2).val) (I 3).val) := by
  have h0 : (I 0).val < 6 := (I 0).isLt
  have h1 : (I 1).val < 192 := (I 1).isLt
  have h2 : (I 2).val < 32 := (I 2).isLt
  have h3 : (I 3).val < 1024 := (I 3).isLt
  have e1 : val_main_v148 (F := Ideal) x1 x2 x3 I = rStoch (val_main_v122 (F := Ideal) x1 x2 I) ((val_main_v100 (F := Ideal) x3 I).setWidth 32) := rfl
  have e2 : val_main_v171 (F := Ideal) x1 x2 x3 I = rCode (val_main_v122 (F := Ideal) x1 x2 I) (val_main_v148 (F := Ideal) x1 x2 x3 I) := rfl
  rw [e2, e1, v122_eq h, rStoch_coe, v100_eq]
  exact rCode_coe _ _ (yq_grid h x3 (by omega) h3)

/-- A code by token. -/
theorem v172_eq (h : Good (matM x2) x1 OkY) (I : S6x3072x2x1024.Idx) :
    val_main_v172 (F := Ideal) x1 x2 x3 I = BitVec.ofNat 32 (yn (matM x2) x1 x3 (2 * (3072 * (I 0).val + (I 1).val) + (I 2).val) (I 3).val) := by
  have h0 : (I 0).val < 6 := (I 0).isLt
  have h1 : (I 1).val < 3072 := (I 1).isLt
  have h2 : (I 2).val < 2 := (I 2).isLt
  have h3 : (I 3).val < 1024 := (I 3).isLt
  rw [val_main_v172_apply, v171_eq h]
  have e : ∀ n n' k k' : ℕ, n = n' → k = k' → BitVec.ofNat 32 (yn (matM x2) x1 x3 n k) = BitVec.ofNat 32 (yn (matM x2) x1 x3 n' k') := by rintro _ _ _ _ rfl rfl; rfl
  apply e
  · show 32 * (192 * (((((I 0).val * 3072 + (I 1).val) * 2 + (I 2).val) * 1024 + (I 3).val) / 6291456)
      + ((((I 0).val * 3072 + (I 1).val) * 2 + (I 2).val) * 1024 + (I 3).val) / 32768 % 192)
      + ((((I 0).val * 3072 + (I 1).val) * 2 + (I 2).val) * 1024 + (I 3).val) / 1024 % 32 = _
    omega
  · show ((((I 0).val * 3072 + (I 1).val) * 2 + (I 2).val) * 1024 + (I 3).val) % 1024 = _
    omega

/-- The byte of two tokens. -/
theorem v180_eq (h : Good (matM x2) x1 OkY) (J : S6x3072x1024.Idx) :
    val_main_v180 (F := Ideal) x1 x2 x3 J = BitVec.ofNat 8 (yn (matM x2) x1 x3 (2 * (3072 * (J 0).val + (J 1).val)) (J 2).val
      + 16 * yn (matM x2) x1 x3 (2 * (3072 * (J 0).val + (J 1).val) + 1) (J 2).val) := by
  have h0 : (J 0).val < 6 := (J 0).isLt
  have h1 : (J 1).val < 3072 := (J 1).isLt
  have h2 : (J 2).val < 1024 := (J 2).isLt
  have ei : idx_main_v174 J = ix4 (⟨(J 0).val, h0⟩ : Fin 6) (⟨(J 1).val, h1⟩ : Fin 3072) (0 : Fin 1) (⟨(J 2).val, h2⟩ : Fin 1024) := by
    funext a
    match a with
    | ⟨0, _⟩ => refine Fin.ext ?_; show (((J 0).val * 3072 + (J 1).val) * 1024 + (J 2).val) / 3145728 = (J 0).val; omega
    | ⟨1, _⟩ => refine Fin.ext ?_; show (((J 0).val * 3072 + (J 1).val) * 1024 + (J 2).val) / 1024 % 3072 = (J 1).val; omega
    | ⟨2, _⟩ => rfl
    | ⟨3, _⟩ => refine Fin.ext ?_; show (((J 0).val * 3072 + (J 1).val) * 1024 + (J 2).val) % 1024 = (J 2).val; omega
  have ej : idx_main_v176 J = ix4 (⟨(J 0).val, h0⟩ : Fin 6) (⟨(J 1).val, h1⟩ : Fin 3072) (0 : Fin 1) (⟨(J 2).val, h2⟩ : Fin 1024) := ei
  have elo : val_main_v174 (F := Ideal) x1 x2 x3 J = BitVec.ofNat 32 (yn (matM x2) x1 x3 (2 * (3072 * (J 0).val + (J 1).val)) (J 2).val) := by
    rw [val_main_v174_apply, ei, val_main_v173_apply, v172_eq h]; rfl
  have ehi : val_main_v176 (F := Ideal) x1 x2 x3 J = BitVec.ofNat 32 (yn (matM x2) x1 x3 (2 * (3072 * (J 0).val + (J 1).val) + 1) (J 2).val) := by
    rw [val_main_v176_apply, ej, val_main_v175_apply, v172_eq h]; rfl
  have e : val_main_v180 (F := Ideal) x1 x2 x3 J = (IntOp.ori (val_main_v174 (F := Ideal) x1 x2 x3 J) (IntOp.shli .host (val_main_v176 (F := Ideal) x1 x2 x3 J) 4#32)).setWidth 8 := rfl
  rw [e, elo, ehi]
  exact (nibbles _ _ (yn_lt h x3 (by omega) h2) (yn_lt h x3 (by omega) h2)).1

/-- The scale of a group. -/
theorem v184_eq (h : Good (matM x2) x1 OkY) (J : S6x192x1024.Idx) :
    val_main_v184 (F := Ideal) x1 x2 J = (eByte (eY (A (matM x2) x1 (192 * (J 0).val + (J 1).val) (J 2).val))).setWidth 8 := by
  have h0 : (J 0).val < 6 := (J 0).isLt
  have h1 : (J 1).val < 192 := (J 1).isLt
  have h2 : (J 2).val < 1024 := (J 2).isLt
  have ei : idx_main_v181 J = ix4 (⟨(J 0).val, h0⟩ : Fin 6) (⟨(J 1).val, h1⟩ : Fin 192) (0 : Fin 1) (⟨(J 2).val, h2⟩ : Fin 1024) := by
    funext a
    match a with
    | ⟨0, _⟩ => refine Fin.ext ?_; show (((J 0).val * 192 + (J 1).val) * 1024 + (J 2).val) / 196608 = (J 0).val; omega
    | ⟨1, _⟩ => refine Fin.ext ?_; show (((J 0).val * 192 + (J 1).val) * 1024 + (J 2).val) / 1024 % 192 = (J 1).val; omega
    | ⟨2, _⟩ => rfl
    | ⟨3, _⟩ => refine Fin.ext ?_; show (((J 0).val * 192 + (J 1).val) * 1024 + (J 2).val) % 1024 = (J 2).val; omega
  have e : val_main_v184 (F := Ideal) x1 x2 J = (IntOp.addi (val_main_v181 (F := Ideal) x1 x2 J) 127#32).setWidth 8 := rfl
  rw [e, val_main_v181_apply, ei, v116_eq h]
  unfold eByte
  rw [BitVec.ofInt_add]; rfl

/-- The decoded scale of a group. -/
theorem v268_eq (h : Good (matM x2) x1 OkY) (I : S6x192x1x1024.Idx) :
    val_main_v268 (F := Ideal) x1 x2 I = (((2 : ℝ) ^ (eY (A (matM x2) x1 (192 * (I 0).val + (I 1).val) (I 3).val)) : ℝ) : EReal) := by
  have h0 : (I 0).val < 6 := (I 0).isLt
  have h1 : (I 1).val < 192 := (I 1).isLt
  have h3 : (I 3).val < 1024 := (I 3).isLt
  have hb := eY_bounds _ (h.ok (G := 192 * (I 0).val + (I 1).val) (by omega) h3)
  have e : val_main_v267 (F := Ideal) x1 x2 (idx_main_v268 I) = rPow (IntOp.subi ((val_main_v184 (F := Ideal) x1 x2 (idx_main_v268 I)).setWidth 32) 127#32) := rfl
  rw [val_main_v268_apply, e, v184_eq h]
  exact rPow_byte (eY (A (matM x2) x1 (192 * (I 0).val + (I 1).val) (I 3).val)) (by omega)

/-- The decoded low code. -/
theorem v297_eq (h : Good (matM x2) x1 OkY) (J : S6x3072x1024.Idx) :
    val_main_v297 (F := Ideal) x1 x2 x3 J = (signed (yv (matM x2) x1 (2 * (3072 * (J 0).val + (J 1).val)) (J 2).val)
      (yq (matM x2) x1 x3 (2 * (3072 * (J 0).val + (J 1).val)) (J 2).val) : EReal) := by
  have h0 : (J 0).val < 6 := (J 0).isLt
  have h1 : (J 1).val < 3072 := (J 1).isLt
  have h2 : (J 2).val < 1024 := (J 2).isLt
  have e : val_main_v297 (F := Ideal) x1 x2 x3 J = rDec (IntOp.andi ((val_main_v180 (F := Ideal) x1 x2 x3 J).setWidth 32) 15#32) := rfl
  rw [e, v180_eq h, (nibbles _ _ (yn_lt h x3 (by omega) h2) (yn_lt h x3 (by omega) h2)).2.1]
  exact rDec_nib _ _ (yq_grid h x3 (by omega) h2)

/-- The decoded high code. -/
theorem v330_eq (h : Good (matM x2) x1 OkY) (J : S6x3072x1024.Idx) :
    val_main_v330 (F := Ideal) x1 x2 x3 J = (signed (yv (matM x2) x1 (2 * (3072 * (J 0).val + (J 1).val) + 1) (J 2).val)
      (yq (matM x2) x1 x3 (2 * (3072 * (J 0).val + (J 1).val) + 1) (J 2).val) : EReal) := by
  have h0 : (J 0).val < 6 := (J 0).isLt
  have h1 : (J 1).val < 3072 := (J 1).isLt
  have h2 : (J 2).val < 1024 := (J 2).isLt
  have e : val_main_v330 (F := Ideal) x1 x2 x3 J = rDec (IntOp.shrsi .host ((val_main_v180 (F := Ideal) x1 x2 x3 J).setWidth 32) 4#32) := rfl
  rw [e, v180_eq h, (nibbles _ _ (yn_lt h x3 (by omega) h2) (yn_lt h x3 (by omega) h2)).2.2]
  exact rDec_nib _ _ (yq_grid h x3 (by omega) h2)

/-- The decoded value of a token of `dy`. -/
def yo (M : FVec Ideal Cert.KernelIdeal.S64x64 .f32) (X : (⟨3, ![6, 6144, 1024]⟩ : Shape).Idx → EReal) (r : (⟨3, ![6, 6144, 1024]⟩ : Shape).Idx → BitVec 8) (n k : ℕ) : EReal :=
  ((signed (yv M X n k) (yq M X r n k) * (2 : ℝ) ^ (eY (A M X (n / 32) k)) : ℝ) : EReal)

theorem group_idxY (J : S6x3072x1024.Idx) :
    idx_main_v301 J = ix4 (⟨(J 0).val, (J 0).isLt⟩ : Fin 6) (⟨(J 1).val / 16, by have : (J 1).val < 3072 := (J 1).isLt; omega⟩ : Fin 192)
        (⟨(J 1).val % 16, by omega⟩ : Fin 16) (⟨(J 2).val, (J 2).isLt⟩ : Fin 1024)
      ∧ idx_main_v298 (idx_main_v301 J) = J := by
  have h0 : (J 0).val < 6 := (J 0).isLt
  have h1 : (J 1).val < 3072 := (J 1).isLt
  have h2 : (J 2).val < 1024 := (J 2).isLt
  have e : idx_main_v301 J = ix4 (⟨(J 0).val, (J 0).isLt⟩ : Fin 6) (⟨(J 1).val / 16, by omega⟩ : Fin 192)
        (⟨(J 1).val % 16, by omega⟩ : Fin 16) (⟨(J 2).val, (J 2).isLt⟩ : Fin 1024) := by
    funext a
    match a with
    | ⟨0, _⟩ => refine Fin.ext ?_; show (((J 0).val * 3072 + (J 1).val) * 1024 + (J 2).val) / 3145728 = (J 0).val; omega
    | ⟨1, _⟩ => refine Fin.ext ?_; show (((J 0).val * 3072 + (J 1).val) * 1024 + (J 2).val) / 16384 % 192 = (J 1).val / 16; omega
    | ⟨2, _⟩ => refine Fin.ext ?_; show (((J 0).val * 3072 + (J 1).val) * 1024 + (J 2).val) / 1024 % 16 = (J 1).val % 16; omega
    | ⟨3, _⟩ => refine Fin.ext ?_; show (((J 0).val * 3072 + (J 1).val) * 1024 + (J 2).val) % 1024 = (J 2).val; omega
  refine ⟨e, ?_⟩
  rw [e]
  funext a
  match a with
  | ⟨0, _⟩ => refine Fin.ext ?_; show ((((J 0).val * 192 + (J 1).val / 16) * 16 + (J 1).val % 16) * 1024 + (J 2).val) / 3145728 = (J 0).val; omega
  | ⟨1, _⟩ => refine Fin.ext ?_; show ((((J 0).val * 192 + (J 1).val / 16) * 16 + (J 1).val % 16) * 1024 + (J 2).val) / 1024 % 3072 = (J 1).val; omega
  | ⟨2, _⟩ => refine Fin.ext ?_; show ((((J 0).val * 192 + (J 1).val / 16) * 16 + (J 1).val % 16) * 1024 + (J 2).val) % 1024 = (J 2).val; omega

/-- The decoded even tokens. -/
theorem v301_eq (h : Good (matM x2) x1 OkY) (J : S6x3072x1024.Idx) :
    val_main_v301 (F := Ideal) x1 x2 x3 J = yo (matM x2) x1 x3 (2 * (3072 * (J 0).val + (J 1).val)) (J 2).val := by
  have h1 : (J 1).val < 3072 := (J 1).isLt
  rw [val_main_v301_apply, val_main_v300_apply, val_main_v298_apply, (group_idxY J).2, val_main_v299_apply, v297_eq h, v268_eq h, (group_idxY J).1]
  show (_ : EReal) * ((((2 : ℝ) ^ (eY (A (matM x2) x1 (192 * (J 0).val + (J 1).val / 16) (J 2).val)) : ℝ)) : EReal) = _
  unfold yo
  rw [← EReal.coe_mul, show 2 * (3072 * (J 0).val + (J 1).val) / 32 = 192 * (J 0).val + (J 1).val / 16 by omega]

/-- The decoded odd tokens. -/
theorem v334_eq (h : Good (matM x2) x1 OkY) (J : S6x3072x1024.Idx) :
    val_main_v334 (F := Ideal) x1 x2 x3 J = yo (matM x2) x1 x3 (2 * (3072 * (J 0).val + (J 1).val) + 1) (J 2).val := by
  have h1 : (J 1).val < 3072 := (J 1).isLt
  have ei : idx_main_v334 J = idx_main_v301 J := rfl
  have ej : idx_main_v331 (idx_main_v301 J) = idx_main_v298 (idx_main_v301 J) := rfl
  rw [val_main_v334_apply, ei, val_main_v333_apply, val_main_v331_apply, ej, (group_idxY J).2, val_main_v332_apply, v330_eq h, v268_eq h, (group_idxY J).1]
  show (_ : EReal) * ((((2 : ℝ) ^ (eY (A (matM x2) x1 (192 * (J 0).val + (J 1).val / 16) (J 2).val)) : ℝ)) : EReal) = _
  unfold yo
  rw [← EReal.coe_mul, show (2 * (3072 * (J 0).val + (J 1).val) + 1) / 32 = 192 * (J 0).val + (J 1).val / 16 by omega]

end Cert.ReferenceIdeal.Tile

end
-- ==== Proof.Results.lean ====
module

public import proofs.«01_k».proof.Proof.RefY

/-! # The call's results by token

The blocks the call returns, as the codes, scales and decoded values of the tokens they hold. -/

@[expose] public section

set_option maxRecDepth 8192

noncomputable section

namespace Cert.KernelIdeal.Tile

open Idealize.ShloMosaic hiding ix1 ix2 ix3 ix4
open Idealize.ShloMosaic.TcCoe Idealize.SL.Sem Cert.KernelIdeal.Gen Cert.KernelIdeal.Value Cert.Mx
open Idealize.ShloMosaic.ValueIdx
open Cert.ReferenceIdeal.Tile (xv xn xo yv yq yn yo)

variable (m : (ℓ : Loc nD τ sig) → Buf (Elt Ideal) ℓ) (c : Dev nD)

/-- The group of a row's token. -/
theorem tokAt_group (k q p : ℕ) (hp : p < 256) : tokAt k q p / 32 = 32 * k + 8 * (q / 4) + p % 128 / 16 := by
  unfold tokAt tok
  split_ifs <;> omega

/-- A scaled row of `x`'s block. -/
theorem yX_tok (t q p b n k : ℕ) (hp : p < 256) (hn : n = tokAt (t / 8) q p) (hk : k = 1024 * (t % 8) + 256 * (q % 4) + b) :
    yX (rX m c t q) (aX m c t q) p b = xv (mM m c) (mX m c) n k := by
  subst hn hk
  unfold yX xv rX aX
  rw [tokAt_group _ _ _ hp]

/-- A decoded row of `x`'s block. -/
theorem oX_tok (t q p b n k : ℕ) (hp : p < 256) (hn : n = tokAt (t / 8) q p) (hk : k = 1024 * (t % 8) + 256 * (q % 4) + b) :
    oX (rX m c t q) (aX m c t q) p b = xo (mM m c) (mX m c) n k := by
  have e := yX_tok m c t q p b n k hp hn hk
  subst hn hk
  unfold oX xo vX
  rw [e, tokAt_group _ _ _ hp]
  rfl

/-- A scaled row of `dy`'s block. -/
theorem yY_tok (k q p b n l : ℕ) (hp : p < 256) (hn : n = tokAt k q p) (hl : l = 256 * (q % 4) + b) :
    yY (rY m c k q) (aY m c k q) p b = yv (mM m c) (mY m c) n l := by
  subst hn hl
  unfold yY yv rY aY
  rw [tokAt_group _ _ _ hp]

/-- A rounded row of `dy`'s block. -/
theorem qY_tok (k q p b n l : ℕ) (hp : p < 256) (hn : n = tokAt k q p) (hl : l = 256 * (q % 4) + b) :
    qStoch (yY (rY m c k q) (aY m c k q) p b) (uY m c k q p b) = yq (mM m c) (mY m c) (mU m c) n l := by
  rw [yY_tok m c k q p b n l hp hn hl]
  subst hn hl
  rfl

/-- A decoded row of `dy`'s block. -/
theorem oY_tok (k q p b n l : ℕ) (hp : p < 256) (hn : n = tokAt k q p) (hl : l = 256 * (q % 4) + b) :
    oY (rY m c k q) (aY m c k q) (uY m c k q) p b = yo (mM m c) (mY m c) (mU m c) n l := by
  have e := yY_tok m c k q p b n l hp hn hl
  have e' := qY_tok m c k q p b n l hp hn hl
  unfold oY yo vY
  rw [e', e]
  subst hn hl
  rw [tokAt_group _ _ _ hp]
  rfl

/-- The packed codes of two rows of `x`'s block. -/
theorem codeX_tok (t q p b J k : ℕ) (hp : p < 128) (hJ : J = 512 * (t / 8) + 128 * (q / 4) + p) (hk : k = 1024 * (t % 8) + 256 * (q % 4) + b) :
    codeX (rX m c t q) (aX m c t q) p b = BitVec.ofNat 8 (xn (mM m c) (mX m c) (2 * J) k + 16 * xn (mM m c) (mX m c) (2 * J + 1) k) := by
  unfold codeX xn
  rw [yX_tok m c t q p b (2 * J) k (by omega) (by unfold tokAt tok; rw [if_pos hp]; omega) hk,
    yX_tok m c t q (128 + p) b (2 * J + 1) k (by omega) (by unfold tokAt tok; rw [if_neg (by omega)]; omega) hk]

/-- The packed codes of two rows of `dy`'s block. -/
theorem codeY_tok (k q p b J l : ℕ) (hp : p < 128) (hJ : J = 512 * k + 128 * (q / 4) + p) (hl : l = 256 * (q % 4) + b) :
    codeY (rY m c k q) (aY m c k q) (uY m c k q) p b
      = BitVec.ofNat 8 (yn (mM m c) (mY m c) (mU m c) (2 * J) l + 16 * yn (mM m c) (mY m c) (mU m c) (2 * J + 1) l) := by
  have e1 : 2 * J = tokAt k q p := by unfold tokAt tok; rw [if_pos hp]; omega
  have e2 : 2 * J + 1 = tokAt k q (128 + p) := by unfold tokAt tok; rw [if_neg (by omega)]; omega
  unfold codeY yn
  rw [qY_tok m c k q p b (2 * J) l (by omega) e1 hl, qY_tok m c k q (128 + p) b (2 * J + 1) l (by omega) e2 hl,
    yY_tok m c k q p b (2 * J) l (by omega) e1 hl, yY_tok m c k q (128 + p) b (2 * J + 1) l (by omega) e2 hl]

/-- The weight gradient of the decoded tokens. -/
def dwOf (M : FVec Ideal S64x64 .f32) (X : (⟨3, ![6, 6144, 8192]⟩ : Shape).Idx → EReal) (Y : (⟨3, ![6, 6144, 1024]⟩ : Shape).Idx → EReal)
    (r : (⟨3, ![6, 6144, 1024]⟩ : Shape).Idx → BitVec 8) (o i : ℕ) : EReal :=
  ∑ n ∈ Finset.range 36864, yo M Y r n o * xo M X n i

variable (hx : Good (mM m c) (mX m c) OkX) (hy : Good (mM m c) (mY m c) OkY)
include hx hy

/-- The codes of `x`. -/
theorem G6_tok (I : S18432x8192.Idx) :
    G6 m c I = BitVec.ofNat 8 (xn (mM m c) (mX m c) (2 * (I 0).val) (I 1).val + 16 * xn (mM m c) (mX m c) (2 * (I 0).val + 1) (I 1).val) := by
  have h0 : (I 0).val < 18432 := (I 0).isLt
  have h1 : (I 1).val < 8192 := (I 1).isLt
  rw [G6_eq m c (blocks m c hx hy) I]
  exact codeX_tok m c (8 * ((I 0).val / 512) + (I 1).val / 1024) (4 * ((I 0).val % 512 / 128) + (I 1).val % 1024 / 256) ((I 0).val % 512 % 128) ((I 1).val % 1024 % 256)
    (I 0).val (I 1).val (by omega) (by omega) (by omega)

/-- The scales of `x`. -/
theorem G7_tok (I : S1152x8192.Idx) : G7 m c I = (eByte (eX (A (mM m c) (mX m c) (I 0).val (I 1).val))).setWidth 8 := by
  have h0 : (I 0).val < 1152 := (I 0).isLt
  have h1 : (I 1).val < 8192 := (I 1).isLt
  rw [G7_eq m c (blocks m c hx hy) I]
  unfold gScX aX
  have e : ∀ g g' k k' : ℕ, g = g' → k = k' → (eByte (eX (A (mM m c) (mX m c) g k))).setWidth 8 = (eByte (eX (A (mM m c) (mX m c) g' k'))).setWidth 8 := by
    rintro _ _ _ _ rfl rfl; rfl
  apply e
  · show 32 * ((8 * ((I 0).val / 32) + (I 1).val / 1024) / 8) + 8 * ((4 * ((I 0).val % 32 / 8) + (I 1).val % 1024 / 256) / 4) + (I 0).val % 32 % 8 = _
    omega
  · show 1024 * ((8 * ((I 0).val / 32) + (I 1).val / 1024) % 8) + 256 * ((4 * ((I 0).val % 32 / 8) + (I 1).val % 1024 / 256) % 4) + (I 1).val % 1024 % 256 = _
    omega

/-- The codes of `dy`. -/
theorem G8_tok (I : S18432x1024.Idx) :
    G8 m c I = BitVec.ofNat 8 (yn (mM m c) (mY m c) (mU m c) (2 * (I 0).val) (I 1).val + 16 * yn (mM m c) (mY m c) (mU m c) (2 * (I 0).val + 1) (I 1).val) := by
  have h0 : (I 0).val < 18432 := (I 0).isLt
  have h1 : (I 1).val < 1024 := (I 1).isLt
  rw [G8_eq m c (blocks m c hx hy) I]
  exact codeY_tok m c ((I 0).val / 512) (4 * ((I 0).val % 512 / 128) + (I 1).val % 1024 / 256) ((I 0).val % 512 % 128) ((I 1).val % 1024 % 256)
    (I 0).val (I 1).val (by omega) (by omega) (by omega)

/-- The scales of `dy`. -/
theorem G9_tok (I : S1152x1024.Idx) : G9 m c I = (eByte (eY (A (mM m c) (mY m c) (I 0).val (I 1).val))).setWidth 8 := by
  have h0 : (I 0).val < 1152 := (I 0).isLt
  have h1 : (I 1).val < 1024 := (I 1).isLt
  rw [G9_eq m c (blocks m c hx hy) I]
  unfold gScY aY
  have e : ∀ g g' k k' : ℕ, g = g' → k = k' → (eByte (eY (A (mM m c) (mY m c) g k))).setWidth 8 = (eByte (eY (A (mM m c) (mY m c) g' k'))).setWidth 8 := by
    rintro _ _ _ _ rfl rfl; rfl
  apply e
  · show 32 * ((I 0).val / 32) + 8 * ((4 * ((I 0).val % 32 / 8) + (I 1).val % 1024 / 256) / 4) + (I 0).val % 32 % 8 = _
    omega
  · show 256 * ((4 * ((I 0).val % 32 / 8) + (I 1).val % 1024 / 256) % 4) + (I 1).val % 1024 % 256 = _
    omega

omit hx hy in
/-- A sum over blocks is a sum over all. -/
theorem sum_blocks (f : ℕ → EReal) (a b : ℕ) : ∑ i ∈ Finset.range a, ∑ j ∈ Finset.range b, f (b * i + j) = ∑ n ∈ Finset.range (b * a), f n := by
  induction a with
  | zero => simp
  | succ a ih => rw [Finset.sum_range_succ, ih, Nat.mul_succ, Finset.sum_range_add]

omit hx hy in
/-- The rows of a block are its tokens, in another order. -/
theorem sum_rows (f : ℕ → EReal) : ∑ t : Fin 1024, f (256 * (t.val / 256) + tok (t.val % 256)) = ∑ n ∈ Finset.range 1024, f n := by
  rw [← Finset.sum_range (fun t => f (256 * (t / 256) + tok (t % 256)))]
  refine Finset.sum_nbij' (fun t => 256 * (t / 256) + tok (t % 256)) (fun n => 256 * (n / 256) + (if n % 2 = 0 then n % 256 / 2 else 128 + n % 256 / 2)) ?_ ?_ ?_ ?_ ?_
  · intro t ht; rw [Finset.mem_range] at ht ⊢; unfold tok; split_ifs <;> omega
  · intro t ht; rw [Finset.mem_range] at ht ⊢; split_ifs <;> omega
  · intro t ht; rw [Finset.mem_range] at ht; unfold tok; split_ifs <;> omega
  · intro t ht; rw [Finset.mem_range] at ht; unfold tok; split_ifs <;> omega
  · intro t _; rfl

omit hx hy in
/-- The points' products are the tokens' products. -/
theorem part_sum (I : S1024x8192.Idx) :
    ∑ k ∈ Finset.range 36, part (rX m c) (aX m c) (rY m c) (aY m c) (uY m c) k I = dwOf (mM m c) (mX m c) (mY m c) (mU m c) (I 0).val (I 1).val := by
  have h0 : (I 0).val < 1024 := (I 0).isLt
  have h1 : (I 1).val < 8192 := (I 1).isLt
  unfold dwOf
  rw [← sum_blocks (fun n => yo (mM m c) (mY m c) (mU m c) n (I 0).val * xo (mM m c) (mX m c) n (I 1).val) 36 1024]
  refine Finset.sum_congr rfl fun k _ => ?_
  rw [← sum_rows (fun n => yo (mM m c) (mY m c) (mU m c) (1024 * k + n) (I 0).val * xo (mM m c) (mX m c) (1024 * k + n) (I 1).val)]
  unfold part
  refine Finset.sum_congr rfl fun t _ => ?_
  have ht := t.isLt
  unfold gOpT gOpY gOpX
  show oY (rY m c k (4 * (t.val / 256) + (I 0).val / 256)) (aY m c k (4 * (t.val / 256) + (I 0).val / 256)) (uY m c k (4 * (t.val / 256) + (I 0).val / 256)) (t.val % 256) ((I 0).val % 256)
    * oX (rX m c (8 * k + (I 1).val / 1024) (4 * (t.val / 256) + (I 1).val % 1024 / 256)) (aX m c (8 * k + (I 1).val / 1024) (4 * (t.val / 256) + (I 1).val % 1024 / 256))
      (t.val % 256) ((I 1).val % 1024 % 256) = _
  rw [oY_tok m c _ _ _ _ (1024 * k + (256 * (t.val / 256) + tok (t.val % 256))) (I 0).val (by omega) (by unfold tokAt; omega) (by omega),
    oX_tok m c _ _ _ _ (1024 * k + (256 * (t.val / 256) + tok (t.val % 256))) (I 1).val (by omega) (by unfold tokAt; omega) (by omega)]

/-- The weight gradient. -/
theorem G5_tok (I : S1024x8192.Idx) : G5 m c I = dwOf (mM m c) (mX m c) (mY m c) (mU m c) (I 0).val (I 1).val :=
  (G5_eq m c (blocks m c hx hy) I).trans (part_sum m c I)

end Cert.KernelIdeal.Tile

end
-- ==== Proof.RefOut.lean ====
module

public import proofs.«01_k».proof.Proof.Results
public import Idealize.ShloMosaic.Lib.TwoAxisContraction

/-! # The reference's results

The five results of the reference, by token. -/

@[expose] public section

set_option maxRecDepth 8192

noncomputable section

namespace Cert.ReferenceIdeal.Tile

open Idealize.ShloMosaic hiding ix1 ix2 ix3 ix4
open Idealize.ShloMosaic.TcCoe Idealize.SL.Sem Cert.ReferenceIdeal Cert.ReferenceIdeal.Gen Cert.ReferenceIdeal.Read Cert.Mx
open Idealize.ShloMosaic.ValueIdx
open Cert.KernelIdeal.Tile (matM rotTok supTok Good R A U dwOf sum_blocks)

variable {x0 : (⟨S6x6144x8192, .bf16⟩ : BufTy).Contents (Elt Ideal)} {x1 : (⟨S6x6144x1024, .bf16⟩ : BufTy).Contents (Elt Ideal)}
  {x2 : (⟨S64, .f32⟩ : BufTy).Contents (Elt Ideal)} {x3 : (⟨S6x6144x1024, .i8⟩ : BufTy).Contents (Elt Ideal)}

/-- A product of packed tokens. -/
theorem dot_apply (P : FVec Ideal S6x3072x1024 .bf16) (Q : FVec Ideal S6x3072x8192 .bf16) (I : S1024x8192.Idx) :
    Host.dotGeneral (F := Ideal) dot_S6x3072x1024_S6x3072x8192_S1024x8192_01_01_2_2_n_n none P Q I
      = ∑ a : Fin 6, ∑ b : Fin 3072, P (ix3 a b (I 0 : Fin 1024)) * Q (ix3 a b (I 1 : Fin 8192)) := by
  simp only [Host.dotGeneral]
  rw [Ideal.dotGeneral_apply]
  refine (sum_contr2 dot_S6x3072x1024_S6x3072x8192_S1024x8192_01_01_2_2_n_n 6 3072 rfl rfl rfl _).trans ?_
  refine Finset.sum_congr rfl fun a _ => Finset.sum_congr rfl fun b _ => ?_
  have k0 := contrEquiv2_symm_val0 dot_S6x3072x1024_S6x3072x8192_S1024x8192_01_01_2_2_n_n 6 3072 rfl rfl rfl (a, b)
  have k1 := contrEquiv2_symm_val1 dot_S6x3072x1024_S6x3072x8192_S1024x8192_01_01_2_2_n_n 6 3072 rfl rfl rfl (a, b)
  refine congrArg₂ (fun x y : EReal => x * y) (congrArg P ?_) (congrArg Q ?_)
  · funext i
    match i with
    | ⟨0, _⟩ => exact Fin.ext k0
    | ⟨1, _⟩ => exact Fin.ext k1
    | ⟨2, _⟩ => rfl
  · funext i
    match i with
    | ⟨0, _⟩ => exact Fin.ext k0
    | ⟨1, _⟩ => exact Fin.ext k1
    | ⟨2, _⟩ => rfl

/-- A double sum over batches and pairs is a sum over pairs. -/
theorem sum_pairs (f : ℕ → EReal) : ∑ a : Fin 6, ∑ b : Fin 3072, f (3072 * a.val + b.val) = ∑ n ∈ Finset.range 18432, f n := by
  rw [← sum_blocks f 6 3072, Finset.sum_range]
  refine Finset.sum_congr rfl fun a _ => ?_
  rw [Finset.sum_range]

/-- Even and odd tokens together are all tokens. -/
theorem sum_even_odd (f : ℕ → EReal) :
    (∑ n ∈ Finset.range 18432, f (2 * n)) + ∑ n ∈ Finset.range 18432, f (2 * n + 1) = ∑ n ∈ Finset.range 36864, f n := by
  rw [← Finset.sum_add_distrib, ← sum_blocks f 18432 2]
  refine Finset.sum_congr rfl fun n _ => ?_
  rw [Finset.sum_range_succ, Finset.sum_range_one]; rfl

/-- The weight gradient. -/
theorem v337_eq (hx : Good (matM x2) x0 OkX) (hy : Good (matM x2) x1 OkY) (I : S1024x8192.Idx) :
    val_main_v337 (F := Ideal) x0 x1 x2 x3 I = dwOf (matM x2) x0 x1 x3 (I 0).val (I 1).val := by
  have e1 : val_main_v335 (F := Ideal) x0 x1 x2 x3 I
      = ∑ n ∈ Finset.range 18432, yo (matM x2) x1 x3 (2 * n) (I 0).val * xo (matM x2) x0 (2 * n) (I 1).val := by
    unfold val_main_v335
    rw [dot_apply, ← sum_pairs (fun n => yo (matM x2) x1 x3 (2 * n) (I 0).val * xo (matM x2) x0 (2 * n) (I 1).val)]
    refine Finset.sum_congr rfl fun a _ => Finset.sum_congr rfl fun b _ => ?_
    rw [v301_eq hy, v226_eq hx]
  have e2 : val_main_v336 (F := Ideal) x0 x1 x2 x3 I
      = ∑ n ∈ Finset.range 18432, yo (matM x2) x1 x3 (2 * n + 1) (I 0).val * xo (matM x2) x0 (2 * n + 1) (I 1).val := by
    unfold val_main_v336
    rw [dot_apply, ← sum_pairs (fun n => yo (matM x2) x1 x3 (2 * n + 1) (I 0).val * xo (matM x2) x0 (2 * n + 1) (I 1).val)]
    refine Finset.sum_congr rfl fun a _ => Finset.sum_congr rfl fun b _ => ?_
    rw [v334_eq hy, v259_eq hx]
  rw [val_main_v337_apply, e1, e2]
  exact sum_even_odd (fun n => yo (matM x2) x1 x3 n (I 0).val * xo (matM x2) x0 n (I 1).val)

/-- The codes of `x`. -/
theorem v338_eq (hx : Good (matM x2) x0 OkX) (I : S18432x8192.Idx) :
    val_main_v338 (F := Ideal) x0 x2 I = BitVec.ofNat 8 (xn (matM x2) x0 (2 * (I 0).val) (I 1).val + 16 * xn (matM x2) x0 (2 * (I 0).val + 1) (I 1).val) := by
  have h0 : (I 0).val < 18432 := (I 0).isLt
  have h1 : (I 1).val < 8192 := (I 1).isLt
  have e : idx_main_v338 I = ix3 (⟨(I 0).val / 3072, by omega⟩ : Fin 6) (⟨(I 0).val % 3072, by omega⟩ : Fin 3072) (⟨(I 1).val, h1⟩ : Fin 8192) := by
    funext a
    match a with
    | ⟨0, _⟩ => refine Fin.ext ?_; show ((I 0).val * 8192 + (I 1).val) / 25165824 = (I 0).val / 3072; omega
    | ⟨1, _⟩ => refine Fin.ext ?_; show ((I 0).val * 8192 + (I 1).val) / 8192 % 3072 = (I 0).val % 3072; omega
    | ⟨2, _⟩ => refine Fin.ext ?_; show ((I 0).val * 8192 + (I 1).val) % 8192 = (I 1).val; omega
  rw [val_main_v338_apply, e, v89_eq hx]
  show BitVec.ofNat 8 (xn (matM x2) x0 (2 * (3072 * ((I 0).val / 3072) + (I 0).val % 3072)) (I 1).val
    + 16 * xn (matM x2) x0 (2 * (3072 * ((I 0).val / 3072) + (I 0).val % 3072) + 1) (I 1).val) = _
  rw [Nat.div_add_mod]

/-- The scales of `x`. -/
theorem v339_eq (hx : Good (matM x2) x0 OkX) (I : S1152x8192.Idx) :
    val_main_v339 (F := Ideal) x0 x2 I = (eByte (eX (A (matM x2) x0 (I 0).val (I 1).val))).setWidth 8 := by
  have h0 : (I 0).val < 1152 := (I 0).isLt
  have h1 : (I 1).val < 8192 := (I 1).isLt
  have e : idx_main_v339 I = ix3 (⟨(I 0).val / 192, by omega⟩ : Fin 6) (⟨(I 0).val % 192, by omega⟩ : Fin 192) (⟨(I 1).val, h1⟩ : Fin 8192) := by
    funext a
    match a with
    | ⟨0, _⟩ => refine Fin.ext ?_; show ((I 0).val * 8192 + (I 1).val) / 1572864 = (I 0).val / 192; omega
    | ⟨1, _⟩ => refine Fin.ext ?_; show ((I 0).val * 8192 + (I 1).val) / 8192 % 192 = (I 0).val % 192; omega
    | ⟨2, _⟩ => refine Fin.ext ?_; show ((I 0).val * 8192 + (I 1).val) % 8192 = (I 1).val; omega
  rw [val_main_v339_apply, e, v93_eq hx]
  show (eByte (eX (A (matM x2) x0 (192 * ((I 0).val / 192) + (I 0).val % 192) (I 1).val))).setWidth 8 = _
  rw [Nat.div_add_mod]

/-- The codes of `dy`. -/
theorem v340_eq (hy : Good (matM x2) x1 OkY) (I : S18432x1024.Idx) :
    val_main_v340 (F := Ideal) x1 x2 x3 I = BitVec.ofNat 8 (yn (matM x2) x1 x3 (2 * (I 0).val) (I 1).val + 16 * yn (matM x2) x1 x3 (2 * (I 0).val + 1) (I 1).val) := by
  have h0 : (I 0).val < 18432 := (I 0).isLt
  have h1 : (I 1).val < 1024 := (I 1).isLt
  have e : idx_main_v340 I = ix3 (⟨(I 0).val / 3072, by omega⟩ : Fin 6) (⟨(I 0).val % 3072, by omega⟩ : Fin 3072) (⟨(I 1).val, h1⟩ : Fin 1024) := by
    funext a
    match a with
    | ⟨0, _⟩ => refine Fin.ext ?_; show ((I 0).val * 1024 + (I 1).val) / 3145728 = (I 0).val / 3072; omega
    | ⟨1, _⟩ => refine Fin.ext ?_; show ((I 0).val * 1024 + (I 1).val) / 1024 % 3072 = (I 0).val % 3072; omega
    | ⟨2, _⟩ => refine Fin.ext ?_; show ((I 0).val * 1024 + (I 1).val) % 1024 = (I 1).val; omega
  rw [val_main_v340_apply, e, v180_eq hy]
  show BitVec.ofNat 8 (yn (matM x2) x1 x3 (2 * (3072 * ((I 0).val / 3072) + (I 0).val % 3072)) (I 1).val
    + 16 * yn (matM x2) x1 x3 (2 * (3072 * ((I 0).val / 3072) + (I 0).val % 3072) + 1) (I 1).val) = _
  rw [Nat.div_add_mod]

/-- The scales of `dy`. -/
theorem v341_eq (hy : Good (matM x2) x1 OkY) (I : S1152x1024.Idx) :
    val_main_v341 (F := Ideal) x1 x2 I = (eByte (eY (A (matM x2) x1 (I 0).val (I 1).val))).setWidth 8 := by
  have h0 : (I 0).val < 1152 := (I 0).isLt
  have h1 : (I 1).val < 1024 := (I 1).isLt
  have e : idx_main_v341 I = ix3 (⟨(I 0).val / 192, by omega⟩ : Fin 6) (⟨(I 0).val % 192, by omega⟩ : Fin 192) (⟨(I 1).val, h1⟩ : Fin 1024) := by
    funext a
    match a with
    | ⟨0, _⟩ => refine Fin.ext ?_; show ((I 0).val * 1024 + (I 1).val) / 196608 = (I 0).val / 192; omega
    | ⟨1, _⟩ => refine Fin.ext ?_; show ((I 0).val * 1024 + (I 1).val) / 1024 % 192 = (I 0).val % 192; omega
    | ⟨2, _⟩ => refine Fin.ext ?_; show ((I 0).val * 1024 + (I 1).val) % 1024 = (I 1).val; omega
  rw [val_main_v341_apply, e, v184_eq hy]
  show (eByte (eY (A (matM x2) x1 (192 * ((I 0).val / 192) + (I 0).val % 192) (I 1).val))).setWidth 8 = _
  rw [Nat.div_add_mod]

end Cert.ReferenceIdeal.Tile

end
-- ==== Proof.Pre.lean ====
module

public import proofs.«01_k».proof.Proof.RefOut
public import proofs.«01_k».proof.Pre_in_range
public import proofs.«01_k».proof.Proof.Gen.Pre_in_range

/-! # What the precondition says

Where the precondition holds, every group's largest magnitude is a real number in range. -/

@[expose] public section

set_option maxRecDepth 8192

noncomputable section

namespace Cert.ReferenceIdeal.Tile

open Idealize.ShloMosaic hiding ix1 ix2 ix3 ix4
open Idealize.ShloMosaic.TcCoe Idealize.SL.Sem Cert.ReferenceIdeal Cert.ReferenceIdeal.Gen Cert.ReferenceIdeal.Read Cert.Mx
open Idealize.ShloMosaic.ValueIdx
open Cert.KernelIdeal.Tile (matM rotTok supTok Good R A U)

/-- The precondition on a group of `x`. -/
def okX (a : EReal) : BitVec 1 :=
  IntOp.ori (Ideal.cmp .oeq a (Ideal.ofBits .f32 0x00000000#32))
    (IntOp.andi (Ideal.cmp .oge a (Ideal.ofBits .f32 0x01800000#32)) (Ideal.cmp .ole a (Ideal.ofBits .f32 0x7F7FFFFF#32)))

/-- The precondition on a group of `dy`. -/
def okY (a : EReal) : BitVec 1 :=
  IntOp.ori (Ideal.cmp .oeq a (Ideal.ofBits .f32 0x00000000#32))
    (IntOp.andi (Ideal.cmp .oge (a * Ideal.ofBits .f32 0x3E2AAAAB#32) (Ideal.ofBits .f32 0x00800000#32)) (Ideal.cmp .ole a (Ideal.ofBits .f32 0x7F7FFFFF#32)))

theorem c_low : Ideal.ofBits .f32 0x01800000#32 = (((2 : ℝ) ^ (-124 : ℤ) : ℝ) : EReal) := by
  simp [Ideal.ofBits, Ideal.ieee, -EReal.coe_mul]; norm_num
theorem c_min : Ideal.ofBits .f32 0x00800000#32 = (((2 : ℝ) ^ (-126 : ℤ) : ℝ) : EReal) := by
  simp [Ideal.ofBits, Ideal.ieee, -EReal.coe_mul]; norm_num
theorem c_top : ∃ t : ℝ, Ideal.ofBits .f32 0x7F7FFFFF#32 = (t : EReal) ∧ t < (2 : ℝ) ^ (128 : ℤ) := by
  refine ⟨(2 - (2 : ℝ) ^ (-23 : ℤ)) * (2 : ℝ) ^ (127 : ℤ), ?_, ?_⟩
  · simp [Ideal.ofBits, Ideal.ieee, -EReal.coe_mul]; norm_num
  · norm_num

theorem or_one (p q : BitVec 1) (h : IntOp.ori p q = 1#1) : p = 1#1 ∨ q = 1#1 := by
  revert p q; decide
theorem and_one (p q : BitVec 1) (h : IntOp.andi p q = 1#1) : p = 1#1 ∧ q = 1#1 := by
  revert p q; decide

theorem ofBool_one (p : Prop) [Decidable p] (h : BitVec.ofBool (decide p) = 1#1) : p := by
  by_contra hp
  rw [decide_eq_false hp] at h
  exact absurd h (by decide)

theorem okX_real (a : EReal) (h : okX a = 1#1) : ∃ r : ℝ, a = (r : EReal) ∧ OkX r := by
  obtain ⟨t, ht, ht'⟩ := c_top
  unfold okX at h
  rw [c_zero, c_low, ht] at h
  rcases or_one _ _ h with h | h
  · have := ofBool_one (a = ((0 : ℝ) : EReal)) h
    exact ⟨0, this, Or.inl rfl⟩
  · obtain ⟨h1, h2⟩ := and_one _ _ h
    have h1 := ofBool_one ((((2 : ℝ) ^ (-124 : ℤ) : ℝ) : EReal) ≤ a) h1
    have h2 := ofBool_one (a ≤ (t : EReal)) h2
    lift a to ℝ using ⟨(lt_of_le_of_lt h2 (EReal.coe_lt_top _)).ne, (lt_of_lt_of_le (EReal.bot_lt_coe _) h1).ne'⟩
    exact ⟨a, rfl, Or.inr ⟨EReal.coe_le_coe_iff.1 h1, lt_of_le_of_lt (EReal.coe_le_coe_iff.1 h2) ht'⟩⟩

theorem okY_real (a : EReal) (h : okY a = 1#1) : ∃ r : ℝ, a = (r : EReal) ∧ OkY r := by
  obtain ⟨t, ht, ht'⟩ := c_top
  unfold okY at h
  rw [c_zero, c_min, ht, c_sixth] at h
  rcases or_one _ _ h with h | h
  · have := ofBool_one (a = ((0 : ℝ) : EReal)) h
    exact ⟨0, this, Or.inl rfl⟩
  · obtain ⟨h1, h2⟩ := and_one _ _ h
    have h1 := ofBool_one ((((2 : ℝ) ^ (-126 : ℤ) : ℝ) : EReal) ≤ a * (sixth : EReal)) h1
    have h2 := ofBool_one (a ≤ (t : EReal)) h2
    have hb : a ≠ ⊥ := by
      rintro rfl
      rw [EReal.bot_mul_coe_of_pos (by unfold sixth; norm_num)] at h1
      exact absurd h1 (not_le.2 (EReal.bot_lt_coe _))
    lift a to ℝ using ⟨(lt_of_le_of_lt h2 (EReal.coe_lt_top _)).ne, hb⟩
    rw [← EReal.coe_mul] at h1
    exact ⟨a, rfl, Or.inr ⟨EReal.coe_le_coe_iff.1 h1, lt_of_le_of_lt (EReal.coe_le_coe_iff.1 h2) ht'⟩⟩

variable [Cert.Pre_in_range.Facts] (x0 : (⟨S6x6144x8192, .bf16⟩ : BufTy).Contents (Elt Ideal)) (x1 : (⟨S6x6144x1024, .bf16⟩ : BufTy).Contents (Elt Ideal))
  (x2 : (⟨S64, .f32⟩ : BufTy).Contents (Elt Ideal)) (x3 : (⟨S6x6144x1024, .i8⟩ : BufTy).Contents (Elt Ideal))

/-- The rotation matrix from the signs and the table of ones. -/
def preMat (w : FVec Ideal S64x64 .f32) (s : FVec Ideal S64 .f32) : FVec Ideal S64x64 .f32 :=
  mulf (mulf w (broadcastInDim S64x64 ![0, 1] Cert.Pre_in_range.Facts.bcast_S1x64_S64x64_0_1 (broadcastInDim S1x64 ![1] Cert.Pre_in_range.Facts.bcast_S64_S1x64_1 s)))
    (broadcastInDim S64x64 ![] Cert.Pre_in_range.Facts.bcast_S_S64x64 (constant S_ .f32 0x3E000000#32))

/-- The group maxima of `x` as the precondition computes them. -/
def preMaxX (M : FVec Ideal S64x64 .f32) (x : FVec Ideal S6x6144x8192 .f32) : FVec Ideal S6x192x8192 .f32 :=
  Host.reduce FloatOps.maximumf (Host.absf (shapeCast S6x192x32x8192 (shapeCast S6x6144x8192 (transpose S6x96x64x8192 [0, 1, 3, 2]
    (Host.dotGeneral Cert.Pre_in_range.dot_S6x96x64x8192_S64x64_S6x96x8192x64_2_1_013_0_n_n (some .fp32)
      (shapeCast S6x96x64x8192 x Cert.Pre_in_range.Facts.shapeCasts_S6x6144x8192_S6x96x64x8192) M)
    Cert.Pre_in_range.Facts.transposes_S6x96x8192x64_S6x96x64x8192_0_1_3_2) Cert.Pre_in_range.Facts.shapeCasts_S6x96x64x8192_S6x6144x8192)
    Cert.Pre_in_range.Facts.shapeCasts_S6x6144x8192_S6x192x32x8192)) (constant S_ .f32 0xFF800000#32)
    Cert.Pre_in_range.Facts.reducesTo_S6x192x32x8192_S6x192x8192_d2 Cert.Pre_in_range.Facts.h_S_

/-- The group maxima of `dy` as the precondition computes them. -/
def preMaxY (M : FVec Ideal S64x64 .f32) (x : FVec Ideal S6x6144x1024 .f32) : FVec Ideal S6x192x1024 .f32 :=
  Host.reduce FloatOps.maximumf (Host.absf (shapeCast S6x192x32x1024 (shapeCast S6x6144x1024 (transpose S6x96x64x1024 [0, 1, 3, 2]
    (Host.dotGeneral Cert.Pre_in_range.dot_S6x96x64x1024_S64x64_S6x96x1024x64_2_1_013_0_n_n (some .fp32)
      (shapeCast S6x96x64x1024 x Cert.Pre_in_range.Facts.shapeCasts_S6x6144x1024_S6x96x64x1024) M)
    Cert.Pre_in_range.Facts.transposes_S6x96x1024x64_S6x96x64x1024_0_1_3_2) Cert.Pre_in_range.Facts.shapeCasts_S6x96x64x1024_S6x6144x1024)
    Cert.Pre_in_range.Facts.shapeCasts_S6x6144x1024_S6x192x32x1024)) (constant S_ .f32 0xFF800000#32)
    Cert.Pre_in_range.Facts.reducesTo_S6x192x32x1024_S6x192x1024_d2 Cert.Pre_in_range.Facts.h_S_

/-- The last operations of the precondition. -/
theorem pre_part3 (a : FVec Ideal S6x192x8192 .f32) (b : FVec Ideal S6x192x1024 .f32) (p q : IVec S6x192x8192 1) (r : FVec Ideal S6x192x8192 .f32) :
    Cert.Pre_in_range.fn_part3 (F := Ideal) a b p q r
      = (fun J => IntOp.ori (p J) (IntOp.andi (q J) (Ideal.cmp .ole (a J) (r J))), fun J => okY (b J)) := by
  refine Prod.ext ?_ ?_ <;> rfl

/-- The middle operations of the precondition. -/
theorem pre_part2 (a : FVec Ideal S6x192x8192 .f32) (w : FVec Ideal S64x64 .f32) :
    Cert.Pre_in_range.fn_part2 (F := Ideal) x1 x2 a w
      = (fun J => okX (a J), fun J => okY (preMaxY (preMat w x2) (extf .f32 x1 Cert.Pre_in_range.Facts.bitsLt_bf16_f32) J)) := by
  unfold Cert.Pre_in_range.fn_part2
  simp only [pre_part3]
  rfl

/-- The table of ones and minus ones. -/
def preOnes : FVec Ideal S64x64 .f32 := val_main_v11 (F := Ideal)

/-- The first operations of the precondition. -/
theorem pre_part1 (M : FVec Ideal S64x64 .f32) (x : FVec Ideal S6x6144x8192 .f32) :
    Cert.Pre_in_range.fn_part1 (F := Ideal) x1 x2 M x
      = (fun J => okX (preMaxX M x J), fun J => okY (preMaxY (preMat preOnes x2) (extf .f32 x1 Cert.Pre_in_range.Facts.bitsLt_bf16_f32) J)) := by
  unfold Cert.Pre_in_range.fn_part1
  simp only [pre_part2]
  rfl

/-- The whole precondition. -/
theorem pre_fn : Cert.Pre_in_range.fn (F := Ideal) x0 x1 x2 x3
      = (fun J => okX (preMaxX (preMat preOnes x2) (extf .f32 x0 Cert.Pre_in_range.Facts.bitsLt_bf16_f32) J),
          fun J => okY (preMaxY (preMat preOnes x2) (extf .f32 x1 Cert.Pre_in_range.Facts.bitsLt_bf16_f32) J)) := by
  unfold Cert.Pre_in_range.fn
  simp only [pre_part1]
  rfl

theorem preMat_eq : preMat preOnes x2 = val_main_v17 (F := Ideal) x2 := rfl

theorem preMaxX_eq : preMaxX (preMat preOnes x2) (extf .f32 x0 Cert.Pre_in_range.Facts.bitsLt_bf16_f32) = val_main_v25 (F := Ideal) x0 x2 := by
  rw [preMat_eq]
  unfold val_main_v25 val_main_v24 val_main_v23 val_main_v22 val_main_v21 val_main_v20 val_main_v19 val_main_v18 val_main_cst_3 preMaxX
  generalize val_main_v17 (F := Ideal) x2 = M
  rfl

theorem preMaxY_eq : preMaxY (preMat preOnes x2) (extf .f32 x1 Cert.Pre_in_range.Facts.bitsLt_bf16_f32) = val_main_v102 (F := Ideal) x1 x2 := by
  rw [preMat_eq]
  unfold val_main_v102 val_main_v101 val_main_v99 val_main_v98 val_main_v97 val_main_v96 val_main_v95 val_main_v94 val_main_cst_27 preMaxY
  generalize val_main_v17 (F := Ideal) x2 = M
  rfl

/-- The precondition reads the group maxima of `x`. -/
theorem pre_x (J : S6x192x8192.Idx) : (Cert.Pre_in_range.fn (F := Ideal) x0 x1 x2 x3).1 J = okX (val_main_v25 (F := Ideal) x0 x2 J) := by
  rw [pre_fn, preMaxX_eq]

/-- The precondition reads the group maxima of `dy`. -/
theorem pre_y (J : S6x192x1024.Idx) : (Cert.Pre_in_range.fn (F := Ideal) x0 x1 x2 x3).2 J = okY (val_main_v102 (F := Ideal) x1 x2 J) := by
  rw [pre_fn, preMaxY_eq]

/-- The precondition makes every group of `x` good. -/
theorem good_x (h : ∀ J, (Cert.Pre_in_range.fn (F := Ideal) x0 x1 x2 x3).1 J = 1#1) : Good (matM x2) x0 OkX := by
  intro G k hG hk
  have := okX_real _ ((pre_x x0 x1 x2 x3 (ix3 (⟨G / 192, by omega⟩ : Fin 6) (⟨G % 192, by omega⟩ : Fin 192) (⟨k, hk⟩ : Fin 8192))).symm.trans (h _))
  rw [v25_eq] at this
  have e : 192 * (G / 192) + G % 192 = G := Nat.div_add_mod _ _
  exact e ▸ this

/-- The precondition makes every group of `dy` good. -/
theorem good_y (h : ∀ J, (Cert.Pre_in_range.fn (F := Ideal) x0 x1 x2 x3).2 J = 1#1) : Good (matM x2) x1 OkY := by
  intro G k hG hk
  have := okY_real _ ((pre_y x0 x1 x2 x3 (ix3 (⟨G / 192, by omega⟩ : Fin 6) (⟨G % 192, by omega⟩ : Fin 192) (⟨k, hk⟩ : Fin 1024))).symm.trans (h _))
  rw [v102_eq] at this
  have e : 192 * (G / 192) + G % 192 = G := Nat.div_add_mod _ _
  exact e ▸ this

end Cert.ReferenceIdeal.Tile

end
-- ==== Proof.Equation.lean ====
module

public import proofs.«01_k».proof.Proof.Pre
public import proofs.«01_k».proof.Defs
public import proofs.«01_k».proof.Proof.Gen.ReferenceIdeal.Run

/-! # The kernel computes what the reference computes

Over the reals, where the precondition holds, all five results agree. -/

@[expose] public section

set_option maxRecDepth 8192

noncomputable section

namespace Cert.Equation

open Idealize.ShloMosaic hiding ix1 ix2 ix3 ix4
open Idealize.ShloMosaic.TcCoe Idealize.SL.Sem Cert.Mx
open Idealize.ShloMosaic.ValueIdx
open Cert.KernelIdeal.Tile (matM Good mM mX mY mU G5_tok G6_tok G7_tok G8_tok G9_tok)
open Cert.KernelIdeal.Value (G5 G6 G7 G8 G9)
open Cert.ReferenceIdeal.Read Cert.ReferenceIdeal.Tile

variable (m : (ℓ : Loc Cert.KernelIdeal.nD Cert.KernelIdeal.τ Cert.KernelIdeal.sig) → Buf (Elt Ideal) ℓ)
variable (c : Dev Cert.KernelIdeal.nD)

/-- The precondition holds of every group of both inputs. -/
theorem good (h : Pre_KernelIdeal_in_range m) : Good (mM m c) (mX m c) OkX ∧ Good (mM m c) (mY m c) OkY :=
  ⟨good_x (mX m c) (mY m c) _ (mU m c) (fun J => congrFun (h c).1 J), good_y (mX m c) (mY m c) _ (mU m c) (fun J => congrFun (h c).2 J)⟩

/-- The weight gradient. -/
theorem dw_eq (h : Pre_KernelIdeal_in_range m) :
    val_main_v337 (F := Ideal) (mX m c) (mY m c) (m ((c.tc : Thread Cert.KernelIdeal.nD Cert.KernelIdeal.τ).loc Cert.KernelIdeal.main_arg2)) (mU m c) = G5 m c :=
  funext fun I => (v337_eq (good m c h).1 (good m c h).2 I).trans (G5_tok m c (good m c h).1 (good m c h).2 I).symm

/-- The codes of `x`. -/
theorem xc_eq (h : Pre_KernelIdeal_in_range m) :
    val_main_v338 (F := Ideal) (mX m c) (m ((c.tc : Thread Cert.KernelIdeal.nD Cert.KernelIdeal.τ).loc Cert.KernelIdeal.main_arg2)) = G6 m c :=
  funext fun I => (v338_eq (good m c h).1 I).trans (G6_tok m c (good m c h).1 (good m c h).2 I).symm

/-- The scales of `x`. -/
theorem xs_eq (h : Pre_KernelIdeal_in_range m) :
    val_main_v339 (F := Ideal) (mX m c) (m ((c.tc : Thread Cert.KernelIdeal.nD Cert.KernelIdeal.τ).loc Cert.KernelIdeal.main_arg2)) = G7 m c :=
  funext fun I => (v339_eq (good m c h).1 I).trans (G7_tok m c (good m c h).1 (good m c h).2 I).symm

/-- The codes of `dy`. -/
theorem yc_eq (h : Pre_KernelIdeal_in_range m) :
    val_main_v340 (F := Ideal) (mY m c) (m ((c.tc : Thread Cert.KernelIdeal.nD Cert.KernelIdeal.τ).loc Cert.KernelIdeal.main_arg2)) (mU m c) = G8 m c :=
  funext fun I => (v340_eq (good m c h).2 I).trans (G8_tok m c (good m c h).1 (good m c h).2 I).symm

/-- The scales of `dy`. -/
theorem ys_eq (h : Pre_KernelIdeal_in_range m) :
    val_main_v341 (F := Ideal) (mY m c) (m ((c.tc : Thread Cert.KernelIdeal.nD Cert.KernelIdeal.τ).loc Cert.KernelIdeal.main_arg2)) = G9 m c :=
  funext fun I => (v341_eq (good m c h).2 I).trans (G9_tok m c (good m c h).1 (good m c h).2 I).symm

/-- The kernel's five results are the reference's. -/
theorem algebraic : algebraic_KernelIdeal_ReferenceIdeal_pre_in_range := by
  intro m g m' g' hp ha
  refine ⟨fun c => G5 m c, fun c => G6 m c, fun c => G7 m c, fun c => G8 m c, fun c => G9 m c, Cert.KernelIdeal.Value.run m g, ?_⟩
  refine (θ_run Cert.ReferenceIdeal.defs _ _).mono (fun r h c => ?_) (Cert.ReferenceIdeal.Value.run m' g')
  obtain ⟨h0, h1, h2, h3, h4, hargs⟩ := h c
  obtain ⟨a0, a1, a2, a3⟩ := ha c
  refine ⟨?_, ?_, ?_, ?_, ?_, hargs⟩
  · refine (h0.trans (val_main_v337_eq (StableHlo.launchContents m' c))).trans (Eq.trans ?_ (dw_eq m c hp))
    exact congr (congr (congr (congrArg (val_main_v337 (F := Ideal)) a0) a1) a2) a3
  · refine (h1.trans (val_main_v338_eq (StableHlo.launchContents m' c))).trans (Eq.trans ?_ (xc_eq m c hp))
    exact congrArg₂ (val_main_v338 (F := Ideal)) a0 a2
  · refine (h2.trans (val_main_v339_eq (StableHlo.launchContents m' c))).trans (Eq.trans ?_ (xs_eq m c hp))
    exact congrArg₂ (val_main_v339 (F := Ideal)) a0 a2
  · refine (h3.trans (val_main_v340_eq (StableHlo.launchContents m' c))).trans (Eq.trans ?_ (yc_eq m c hp))
    exact congr (congr (congrArg (val_main_v340 (F := Ideal)) a1) a2) a3
  · refine (h4.trans (val_main_v341_eq (StableHlo.launchContents m' c))).trans (Eq.trans ?_ (ys_eq m c hp))
    exact congrArg₂ (val_main_v341 (F := Ideal)) a1 a2

end Cert.Equation

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- The claim: every program stops and leaves its arguments alone, and the kernel's five results are the reference's. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2.2.2.2.2, sem_eq_zero_of_no_sems (by decide) r.2⟩) (Cert.ReferenceIdeal.Value.run m ρ),
    fun m ρ _ => (θ_run Cert.ReferenceIdeal.defs _ _).mono (fun r h => ⟨fun c => (h c).2.2.2.2.2, sem_eq_zero_of_no_sems (by decide) r.2⟩) (Cert.ReferenceIdeal.Value.run m ρ),
    trivial,
    Cert.Equation.algebraic⟩

end Cert.Proof

end
